-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S16x24564x4 : Shape := ⟨3, ![16, 24564, 4]⟩
abbrev S16x24564x81 : Shape := ⟨3, ![16, 24564, 81]⟩
abbrev S16x16x4 : Shape := ⟨3, ![16, 16, 4]⟩
abbrev S16x16 : Shape := ⟨2, ![16, 16]⟩
abbrev S24564x4 : Shape := ⟨2, ![24564, 4]⟩
abbrev S16 : Shape := ⟨1, ![16]⟩
abbrev S16x1 : Shape := ⟨2, ![16, 1]⟩
abbrev S24564x2 : Shape := ⟨2, ![24564, 2]⟩
abbrev S_ : Shape := ⟨0, ![]⟩
abbrev S16x16x2 : Shape := ⟨3, ![16, 16, 2]⟩
abbrev S16x16x1x2 : Shape := ⟨4, ![16, 16, 1, 2]⟩
abbrev S1x24564x2 : Shape := ⟨3, ![1, 24564, 2]⟩
abbrev S1x1x24564x2 : Shape := ⟨4, ![1, 1, 24564, 2]⟩
abbrev S16x16x24564x2 : Shape := ⟨4, ![16, 16, 24564, 2]⟩
abbrev S16x16x24564x1 : Shape := ⟨4, ![16, 16, 24564, 1]⟩
abbrev S16x16x24564 : Shape := ⟨3, ![16, 16, 24564]⟩
abbrev S16x16x1 : Shape := ⟨3, ![16, 16, 1]⟩
abbrev S24564x1 : Shape := ⟨2, ![24564, 1]⟩
abbrev S24564 : Shape := ⟨1, ![24564]⟩
abbrev S1x24564 : Shape := ⟨2, ![1, 24564]⟩
abbrev S1x1x24564 : Shape := ⟨3, ![1, 1, 24564]⟩
abbrev S16x24564 : Shape := ⟨2, ![16, 24564]⟩
abbrev S1x16 : Shape := ⟨2, ![1, 16]⟩
abbrev S16x24564x1 : Shape := ⟨3, ![16, 24564, 1]⟩
abbrev S16x24564x2 : Shape := ⟨3, ![16, 24564, 2]⟩
abbrev S16x24564x1x1 : Shape := ⟨4, ![16, 24564, 1, 1]⟩
abbrev S16x24563 : Shape := ⟨2, ![16, 24563]⟩

class Facts : Prop where
  bcast_S16_S16x1_0 : S16.BroadcastsInDim S16x1 (![0] : Fin 1 → Fin S16x1.rank)
  slices_S24564x4_S24564x2_0_0 : S24564x4.Slices ![0, 0] S24564x2
  slices_S24564x4_S24564x2_0_2 : S24564x4.Slices ![0, 2] S24564x2
  bcast_S_S24564x2 : S_.BroadcastsInDim S24564x2 (![] : Fin 0 → Fin S24564x2.rank)
  concatenates_S24564x2_S24564x2_S24564x4_d1 : Shape.Concatenates [S24564x2, S24564x2] S24564x4 1
  slices_S16x16x4_S16x16x2_0_0_0 : S16x16x4.Slices ![0, 0, 0] S16x16x2
  bcast_S16x16x2_S16x16x1x2_0_1_3 : S16x16x2.BroadcastsInDim S16x16x1x2 (![0, 1, 3] : Fin 3 → Fin S16x16x1x2.rank)
  bcast_S24564x2_S1x24564x2_1_2 : S24564x2.BroadcastsInDim S1x24564x2 (![1, 2] : Fin 2 → Fin S1x24564x2.rank)
  bcast_S1x24564x2_S1x1x24564x2_1_2_3 : S1x24564x2.BroadcastsInDim S1x1x24564x2 (![1, 2, 3] : Fin 3 → Fin S1x1x24564x2.rank)
  bcast_S16x16x1x2_S16x16x24564x2_0_1_2_3 : S16x16x1x2.BroadcastsInDim S16x16x24564x2 (![0, 1, 2, 3] : Fin 4 → Fin S16x16x24564x2.rank)
  bcast_S1x1x24564x2_S16x16x24564x2_0_1_2_3 : S1x1x24564x2.BroadcastsInDim S16x16x24564x2 (![0, 1, 2, 3] : Fin 4 → Fin S16x16x24564x2.rank)
  slices_S16x16x4_S16x16x2_0_0_2 : S16x16x4.Slices ![0, 0, 2] S16x16x2
  bcast_S_S16x16x24564x2 : S_.BroadcastsInDim S16x16x24564x2 (![] : Fin 0 → Fin S16x16x24564x2.rank)
  slices_S16x16x24564x2_S16x16x24564x1_0_0_0_0 : S16x16x24564x2.Slices ![0, 0, 0, 0] S16x16x24564x1
  shapeCasts_S16x16x24564x1_S16x16x24564 : S16x16x24564x1.ShapeCasts S16x16x24564
  slices_S16x16x24564x2_S16x16x24564x1_0_0_0_1 : S16x16x24564x2.Slices ![0, 0, 0, 1] S16x16x24564x1
  slices_S16x16x4_S16x16x1_0_0_2 : S16x16x4.Slices ![0, 0, 2] S16x16x1
  shapeCasts_S16x16x1_S16x16 : S16x16x1.ShapeCasts S16x16
  slices_S16x16x4_S16x16x1_0_0_0 : S16x16x4.Slices ![0, 0, 0] S16x16x1
  slices_S16x16x4_S16x16x1_0_0_3 : S16x16x4.Slices ![0, 0, 3] S16x16x1
  slices_S16x16x4_S16x16x1_0_0_1 : S16x16x4.Slices ![0, 0, 1] S16x16x1
  slices_S24564x4_S24564x1_0_2 : S24564x4.Slices ![0, 2] S24564x1
  shapeCasts_S24564x1_S24564 : S24564x1.ShapeCasts S24564
  slices_S24564x4_S24564x1_0_0 : S24564x4.Slices ![0, 0] S24564x1
  slices_S24564x4_S24564x1_0_3 : S24564x4.Slices ![0, 3] S24564x1
  slices_S24564x4_S24564x1_0_1 : S24564x4.Slices ![0, 1] S24564x1
  bcast_S16x16_S16x16x1_0_1 : S16x16.BroadcastsInDim S16x16x1 (![0, 1] : Fin 2 → Fin S16x16x1.rank)
  bcast_S24564_S1x24564_1 : S24564.BroadcastsInDim S1x24564 (![1] : Fin 1 → Fin S1x24564.rank)
  bcast_S1x24564_S1x1x24564_1_2 : S1x24564.BroadcastsInDim S1x1x24564 (![1, 2] : Fin 2 → Fin S1x1x24564.rank)
  bcast_S16x16x1_S16x16x24564_0_1_2 : S16x16x1.BroadcastsInDim S16x16x24564 (![0, 1, 2] : Fin 3 → Fin S16x16x24564.rank)
  bcast_S1x1x24564_S16x16x24564_0_1_2 : S1x1x24564.BroadcastsInDim S16x16x24564 (![0, 1, 2] : Fin 3 → Fin S16x16x24564.rank)
  reducesTo_S16x16x24564_S16x24564_d1 : S16x16x24564.ReducesTo [1] S16x24564
  h_S_ : 0 < S_.numel
  reducesTo_S16x16x24564_S16x16_d2 : S16x16x24564.ReducesTo [2] S16x16
  bcast_S16_S1x16_1 : S16.BroadcastsInDim S1x16 (![1] : Fin 1 → Fin S1x16.rank)
  bcast_S_S16x1 : S_.BroadcastsInDim S16x1 (![] : Fin 0 → Fin S16x1.rank)
  bcast_S_S16x16 : S_.BroadcastsInDim S16x16 (![] : Fin 0 → Fin S16x16.rank)
  bcast_S16x1_S16x16_0_1 : S16x1.BroadcastsInDim S16x16 (![0, 1] : Fin 2 → Fin S16x16.rank)
  concatenates_S16x16x1_S16x16x1_S16x16x2_d2 : Shape.Concatenates [S16x16x1, S16x16x1] S16x16x2 2
  bcast_S1x16_S16x16_0_1 : S1x16.BroadcastsInDim S16x16 (![0, 1] : Fin 2 → Fin S16x16.rank)
  bcast_S_S16x24564 : S_.BroadcastsInDim S16x24564 (![] : Fin 0 → Fin S16x24564.rank)
  bcast_S16x1_S16x24564_0_1 : S16x1.BroadcastsInDim S16x24564 (![0, 1] : Fin 2 → Fin S16x24564.rank)
  bcast_S16x24564_S16x24564x1_0_1 : S16x24564.BroadcastsInDim S16x24564x1 (![0, 1] : Fin 2 → Fin S16x24564x1.rank)
  concatenates_S16x24564x1_S16x24564x1_S16x24564x2_d2 : Shape.Concatenates [S16x24564x1, S16x24564x1] S16x24564x2 2
  slices_S16x24564x4_S16x24564x2_0_0_0 : S16x24564x4.Slices ![0, 0, 0] S16x24564x2
  slices_S16x24564x4_S16x24564x2_0_0_2 : S16x24564x4.Slices ![0, 0, 2] S16x24564x2
  bcast_S_S16x24564x2 : S_.BroadcastsInDim S16x24564x2 (![] : Fin 0 → Fin S16x24564x2.rank)
  concatenates_S16x24564x2_S16x24564x2_S16x24564x4_d2 : Shape.Concatenates [S16x24564x2, S16x24564x2] S16x24564x4 2
  bcast_S1x24564x2_S16x24564x2_0_1_2 : S1x24564x2.BroadcastsInDim S16x24564x2 (![0, 1, 2] : Fin 3 → Fin S16x24564x2.rank)
  natLt_1_32 : 1 < 32
  reducesTo_S16x24564_S16_d1 : S16x24564.ReducesTo [1] S16
  bcast_S_S16 : S_.BroadcastsInDim S16 (![] : Fin 0 → Fin S16.rank)
  reducesTo_S16x24564x81_S16x24564_d2 : S16x24564x81.ReducesTo [2] S16x24564
  bcast_S16x24564x1_S16x24564x81_0_1_2 : S16x24564x1.BroadcastsInDim S16x24564x81 (![0, 1, 2] : Fin 3 → Fin S16x24564x81.rank)
  bcast_S_S16x24564x1 : S_.BroadcastsInDim S16x24564x1 (![] : Fin 0 → Fin S16x24564x1.rank)
  shapeCasts_S16x24564x1_S16x24564x1x1 : S16x24564x1.ShapeCasts S16x24564x1x1
  shapeCasts_S16x24564x1_S16x24564 : S16x24564x1.ShapeCasts S16x24564
  slices_S16x24564_S16x24563_0_1 : S16x24564.Slices ![0, 1] S16x24563
  concatenates_S16x24563_S16x1_S16x24564_d1 : Shape.Concatenates [S16x24563, S16x1] S16x24564 1
  bcast_S1x24564_S16x24564_0_1 : S1x24564.BroadcastsInDim S16x24564 (![0, 1] : Fin 2 → Fin S16x24564.rank)
  bcast_S_S16x24564x81 : S_.BroadcastsInDim S16x24564x81 (![] : Fin 0 → Fin S16x24564x81.rank)
  reducesTo_S16x24564x81_S_d0_1_2 : S16x24564x81.ReducesTo [0, 1, 2] S_
  reducesTo_S16x16_S_d0_1 : S16x16.ReducesTo [0, 1] S_
  reducesTo_S16x24564_S_d0_1 : S16x24564.ReducesTo [0, 1] S_
  scatter_S16x24564_S16x16x2_S16x16_n_01_01_2_wf : ScatterDims.WF S16x24564 S16x16x2 S16x16 [] [0, 1] [0, 1] 2
  gather_S16x16_S16x24564x2_S16x24564_n_01_n_n_01_2_11_wf : GatherDims.WF S16x16 S16x24564x2 S16x24564 [] [0, 1] [] [0, 1] [] 2 ![1, 1]
  gather_S16x16x4_S16x24564x2_S16x24564x4_2_01_n_n_01_2_114_wf : GatherDims.WF S16x16x4 S16x24564x2 S16x24564x4 [2] [0, 1] [] [0, 1] [] 2 ![1, 1, 4]
  gather_S16x24564x81_S16x24564x1x1_S16x24564x1_n_2_01_01_2_3_111_wf : GatherDims.WF S16x24564x81 S16x24564x1x1 S16x24564x1 [] [2] [0, 1] [2] [0, 1] 3 ![1, 1, 1]

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def scatter_S16x24564_S16x16x2_S16x16_n_01_01_2 : ScatterDims S16x24564 S16x16x2 S16x16 where
  updateWindowDims := []
  insertedWindowDims := [0, 1]
  scatterDimsToOperandDims := [0, 1]
  indexVectorDim := 2
  wf := scatter_S16x24564_S16x16x2_S16x16_n_01_01_2_wf
def gather_S16x16_S16x24564x2_S16x24564_n_01_n_n_01_2_11 : GatherDims S16x16 S16x24564x2 S16x24564 where
  offsetDims := []
  collapsedSliceDims := [0, 1]
  operandBatchingDims := []
  startIndicesBatchingDims := []
  startIndexMap := [0, 1]
  indexVectorDim := 2
  sliceSizes := ![1, 1]
  wf := gather_S16x16_S16x24564x2_S16x24564_n_01_n_n_01_2_11_wf
def gather_S16x16x4_S16x24564x2_S16x24564x4_2_01_n_n_01_2_114 : GatherDims S16x16x4 S16x24564x2 S16x24564x4 where
  offsetDims := [2]
  collapsedSliceDims := [0, 1]
  operandBatchingDims := []
  startIndicesBatchingDims := []
  startIndexMap := [0, 1]
  indexVectorDim := 2
  sliceSizes := ![1, 1, 4]
  wf := gather_S16x16x4_S16x24564x2_S16x24564x4_2_01_n_n_01_2_114_wf
def gather_S16x24564x81_S16x24564x1x1_S16x24564x1_n_2_01_01_2_3_111 : GatherDims S16x24564x81 S16x24564x1x1 S16x24564x1 where
  offsetDims := []
  collapsedSliceDims := [2]
  operandBatchingDims := [0, 1]
  startIndicesBatchingDims := [0, 1]
  startIndexMap := [2]
  indexVectorDim := 3
  sliceSizes := ![1, 1, 1]
  wf := gather_S16x24564x81_S16x24564x1x1_S16x24564x1_n_2_01_01_2_3_111_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_clip {F : FTy → Type} [FloatOps F] (arg0 : FVec F S16x16x24564x2 .f32) (arg1 : FVec F S_ .f32) : FVec F S16x16x24564x2 .f32 :=
  let v0 : FVec F S_ .f32 := id arg1
  let v1 : FVec F S16x16x24564x2 .f32 := broadcastInDim S16x16x24564x2 ![] bcast_S_S16x16x24564x2 v0
  let v2 : FVec F S16x16x24564x2 .f32 := maximumf v1 arg0
  v2

def fn_argmax {F : FTy → Type} [FloatOps F] (arg0 : FVec F S16x16x24564 .f32) : IVec S16x24564 32 :=
  let v0 : IVec S16x16x24564 32 := iotaInDim S16x16x24564 32 1
  let cst : FVec F S_ .f32 := constant S_ .f32 0xFF800000#32
  let c : IVec S_ 32 := constantI S_ 32 0#32
  let v1_0 : FVec F S16x24564 .f32 := (fun x y u v j => (Host.argReduce reducer_argmax_f32_i32 x y u v reducesTo_S16x16x24564_S16x24564_d1 h_S_ j).1) arg0 v0 cst c
  let v1_1 : IVec S16x24564 32 := (fun x y u v j => (Host.argReduce reducer_argmax_f32_i32 x y u v reducesTo_S16x16x24564_S16x24564_d1 h_S_ j).2) arg0 v0 cst c
  v1_1

def fn_argmax_0 {F : FTy → Type} [FloatOps F] (arg0 : FVec F S16x16x24564 .f32) : IVec S16x16 32 :=
  let v0 : IVec S16x16x24564 32 := iotaInDim S16x16x24564 32 2
  let cst : FVec F S_ .f32 := constant S_ .f32 0xFF800000#32
  let c : IVec S_ 32 := constantI S_ 32 0#32
  let v1_0 : FVec F S16x16 .f32 := (fun x y u v j => (Host.argReduce reducer_argmax_f32_i32 x y u v reducesTo_S16x16x24564_S16x16_d2 h_S_ j).1) arg0 v0 cst c
  let v1_1 : IVec S16x16 32 := (fun x y u v j => (Host.argReduce reducer_argmax_f32_i32 x y u v reducesTo_S16x16x24564_S16x16_d2 h_S_ j).2) arg0 v0 cst c
  v1_1

def fn_where {F : FTy → Type} [FloatOps F] (arg0 : IVec S16x24564 1) (arg1 : IVec S_ 32) (arg2 : IVec S16x24564 32) : IVec S16x24564 32 :=
  let v0 : IVec S_ 32 := id arg1
  let v1 : IVec S16x24564 32 := broadcastInDim S16x24564 ![] bcast_S_S16x24564 v0
  let v2 : IVec S16x24564 32 := select arg0 v1 arg2
  v2

def fn_take_along_axis {F : FTy → Type} [FloatOps F] (arg0 : FVec F S16x24564x81 .f32) (arg1 : IVec S16x24564x1 32) : FVec F S16x24564x1 .f32 :=
  let c : IVec S_ 32 := constantI S_ 32 0#32
  let v0 : IVec S16x24564x1 32 := broadcastInDim S16x24564x1 ![] bcast_S_S16x24564x1 c
  let v1 : IVec S16x24564x1 1 := cmpi .slt arg1 v0
  let c_0 : IVec S_ 32 := constantI S_ 32 81#32
  let v2 : IVec S16x24564x1 32 := broadcastInDim S16x24564x1 ![] bcast_S_S16x24564x1 c_0
  let v3 : IVec S16x24564x1 32 := addi arg1 v2
  let v4 : IVec S16x24564x1 32 := select v1 v3 arg1
  let v5 : IVec S16x24564x1x1 32 := shapeCast S16x24564x1x1 v4 shapeCasts_S16x24564x1_S16x24564x1x1
  let v6 : FVec F S16x24564x1 .f32 := (fun x i => Host.gather gather_S16x24564x81_S16x24564x1x1_S16x24564x1_n_2_01_01_2_3_111 x i) arg0 v5
  v6

def fn_where_1 {F : FTy → Type} [FloatOps F] (arg0 : IVec S16x24564 1) (arg1 : FVec F S_ .f32) (arg2 : FVec F S16x24564 .f32) : FVec F S16x24564 .f32 :=
  let v0 : FVec F S_ .f32 := id arg1
  let v1 : FVec F S16x24564 .f32 := broadcastInDim S16x24564 ![] bcast_S_S16x24564 v0
  let v2 : FVec F S16x24564 .f32 := select arg0 v1 arg2
  v2

def fn_sort {F : FTy → Type} [FloatOps F] (arg0 : FVec F S16x24564 .f32) : FVec F S16x24564 .f32 :=
  let v0 : FVec F S16x24564 .f32 := (fun x => Host.sort S16x24564 1 comparator_f32_d1 x) arg0
  v0

def fn_where_2 {F : FTy → Type} [FloatOps F] (arg0 : IVec S16x24564 1) (arg1 : FVec F S16x24564 .f32) (arg2 : FVec F S16x24564 .f32) : FVec F S16x24564 .f32 :=
  let v0 : FVec F S16x24564 .f32 := select arg0 arg1 arg2
  v0

def fn_part18 {F : FTy → Type} [FloatOps F] (main_v203 : IVec S_ 1) (main_v209 : IVec S_ 1) (main_v210 : IVec S16x24564 1) (main_v337 : FVec F S16x24564 .f32) (main_v340 : FVec F S16x24564 .f32) (main_v341 : FVec F S16x24564 .f32) : IVec S_ 1 × IVec S_ 1 × IVec S_ 1 :=
  let main_v342 : IVec S16x24564 1 := cmpf .olt main_v337 main_v341
  let main_cst_88 : FVec F S_ .f32 := constant S_ .f32 0x40000000#32
  let main_v343 : FVec F S16x24564 .f32 := broadcastInDim S16x24564 ![] bcast_S_S16x24564 main_cst_88
  let main_v344 : FVec F S16x24564 .f32 := mulf main_v337 main_v343
  let main_v345 : FVec F S16x24564 .f32 := fn_where_2 (F := F) main_v342 main_v344 main_v337
  let main_cst_89 : FVec F S_ .f32 := constant S_ .f32 0x40000000#32
  let main_v346 : FVec F S16x24564 .f32 := broadcastInDim S16x24564 ![] bcast_S_S16x24564 main_cst_89
  let main_v347 : FVec F S16x24564 .f32 := mulf main_v340 main_v346
  let main_v348 : FVec F S16x24564 .f32 := fn_where_2 (F := F) main_v342 main_v347 main_v340
  let main_v349 : FVec F S16x24564 .f32 := Host.floor main_v345
  let main_v350 : IVec S16x24564 1 := cmpf .ole main_v348 main_v349
  let main_cst_90 : FVec F S_ .f32 := constant S_ .f32 0x4B800000#32
  let main_v351 : FVec F S16x24564 .f32 := broadcastInDim S16x24564 ![] bcast_S_S16x24564 main_cst_90
  let main_v352 : IVec S16x24564 1 := cmpf .olt main_v345 main_v351
  let main_v353 : IVec S16x24564 1 := andi main_v350 main_v352
  let main_v354 : IVec S16x24564 1 := ori main_v210 main_v353
  let main_c_91 : IVec S_ 1 := constantI S_ 1 1#1
  let main_v355 : IVec S_ 1 := (fun x v => Host.reduce IntOp.andi x v reducesTo_S16x24564_S_d0_1 h_S_) main_v354 main_c_91
  (main_v203, main_v209, main_v355)

def fn_part17 {F : FTy → Type} [FloatOps F] (main_v203 : IVec S_ 1) (main_v209 : IVec S_ 1) (main_v210 : IVec S16x24564 1) (main_v321 : FVec F S16x24564 .f32) (main_v324 : FVec F S16x24564 .f32) : IVec S_ 1 × IVec S_ 1 × IVec S_ 1 :=
  let main_cst_81 : FVec F S_ .f32 := constant S_ .f32 0x4A800000#32
  let main_v325 : FVec F S16x24564 .f32 := broadcastInDim S16x24564 ![] bcast_S_S16x24564 main_cst_81
  let main_v326 : IVec S16x24564 1 := cmpf .olt main_v321 main_v325
  let main_cst_82 : FVec F S_ .f32 := constant S_ .f32 0x40800000#32
  let main_v327 : FVec F S16x24564 .f32 := broadcastInDim S16x24564 ![] bcast_S_S16x24564 main_cst_82
  let main_v328 : FVec F S16x24564 .f32 := mulf main_v321 main_v327
  let main_v329 : FVec F S16x24564 .f32 := fn_where_2 (F := F) main_v326 main_v328 main_v321
  let main_cst_83 : FVec F S_ .f32 := constant S_ .f32 0x40800000#32
  let main_v330 : FVec F S16x24564 .f32 := broadcastInDim S16x24564 ![] bcast_S_S16x24564 main_cst_83
  let main_v331 : FVec F S16x24564 .f32 := mulf main_v324 main_v330
  let main_v332 : FVec F S16x24564 .f32 := fn_where_2 (F := F) main_v326 main_v331 main_v324
  let main_cst_84 : FVec F S_ .f32 := constant S_ .f32 0x4A800000#32
  let main_v333 : FVec F S16x24564 .f32 := broadcastInDim S16x24564 ![] bcast_S_S16x24564 main_cst_84
  let main_v334 : IVec S16x24564 1 := cmpf .olt main_v329 main_v333
  let main_cst_85 : FVec F S_ .f32 := constant S_ .f32 0x40800000#32
  let main_v335 : FVec F S16x24564 .f32 := broadcastInDim S16x24564 ![] bcast_S_S16x24564 main_cst_85
  let main_v336 : FVec F S16x24564 .f32 := mulf main_v329 main_v335
  let main_v337 : FVec F S16x24564 .f32 := fn_where_2 (F := F) main_v334 main_v336 main_v329
  let main_cst_86 : FVec F S_ .f32 := constant S_ .f32 0x40800000#32
  let main_v338 : FVec F S16x24564 .f32 := broadcastInDim S16x24564 ![] bcast_S_S16x24564 main_cst_86
  let main_v339 : FVec F S16x24564 .f32 := mulf main_v332 main_v338
  let main_v340 : FVec F S16x24564 .f32 := fn_where_2 (F := F) main_v334 main_v339 main_v332
  let main_cst_87 : FVec F S_ .f32 := constant S_ .f32 0x4B000000#32
  let main_v341 : FVec F S16x24564 .f32 := broadcastInDim S16x24564 ![] bcast_S_S16x24564 main_cst_87
  fn_part18 (F := F) main_v203 main_v209 main_v210 main_v337 main_v340 main_v341

def fn_part16 {F : FTy → Type} [FloatOps F] (main_v203 : IVec S_ 1) (main_v209 : IVec S_ 1) (main_v210 : IVec S16x24564 1) (main_v300 : FVec F S16x24564 .f32) (main_v302 : IVec S16x24564 1) (main_v305 : FVec F S16x24564 .f32) (main_v306 : FVec F S16x24564 .f32) : IVec S_ 1 × IVec S_ 1 × IVec S_ 1 :=
  let main_v307 : FVec F S16x24564 .f32 := mulf main_v300 main_v306
  let main_v308 : FVec F S16x24564 .f32 := fn_where_2 (F := F) main_v302 main_v307 main_v300
  let main_cst_75 : FVec F S_ .f32 := constant S_ .f32 0x49800000#32
  let main_v309 : FVec F S16x24564 .f32 := broadcastInDim S16x24564 ![] bcast_S_S16x24564 main_cst_75
  let main_v310 : IVec S16x24564 1 := cmpf .olt main_v305 main_v309
  let main_cst_76 : FVec F S_ .f32 := constant S_ .f32 0x41800000#32
  let main_v311 : FVec F S16x24564 .f32 := broadcastInDim S16x24564 ![] bcast_S_S16x24564 main_cst_76
  let main_v312 : FVec F S16x24564 .f32 := mulf main_v305 main_v311
  let main_v313 : FVec F S16x24564 .f32 := fn_where_2 (F := F) main_v310 main_v312 main_v305
  let main_cst_77 : FVec F S_ .f32 := constant S_ .f32 0x41800000#32
  let main_v314 : FVec F S16x24564 .f32 := broadcastInDim S16x24564 ![] bcast_S_S16x24564 main_cst_77
  let main_v315 : FVec F S16x24564 .f32 := mulf main_v308 main_v314
  let main_v316 : FVec F S16x24564 .f32 := fn_where_2 (F := F) main_v310 main_v315 main_v308
  let main_cst_78 : FVec F S_ .f32 := constant S_ .f32 0x49800000#32
  let main_v317 : FVec F S16x24564 .f32 := broadcastInDim S16x24564 ![] bcast_S_S16x24564 main_cst_78
  let main_v318 : IVec S16x24564 1 := cmpf .olt main_v313 main_v317
  let main_cst_79 : FVec F S_ .f32 := constant S_ .f32 0x41800000#32
  let main_v319 : FVec F S16x24564 .f32 := broadcastInDim S16x24564 ![] bcast_S_S16x24564 main_cst_79
  let main_v320 : FVec F S16x24564 .f32 := mulf main_v313 main_v319
  let main_v321 : FVec F S16x24564 .f32 := fn_where_2 (F := F) main_v318 main_v320 main_v313
  let main_cst_80 : FVec F S_ .f32 := constant S_ .f32 0x41800000#32
  let main_v322 : FVec F S16x24564 .f32 := broadcastInDim S16x24564 ![] bcast_S_S16x24564 main_cst_80
  let main_v323 : FVec F S16x24564 .f32 := mulf main_v316 main_v322
  let main_v324 : FVec F S16x24564 .f32 := fn_where_2 (F := F) main_v318 main_v323 main_v316
  fn_part17 (F := F) main_v203 main_v209 main_v210 main_v321 main_v324

def fn_part15 {F : FTy → Type} [FloatOps F] (main_v203 : IVec S_ 1) (main_v209 : IVec S_ 1) (main_v210 : IVec S16x24564 1) (main_v284 : FVec F S16x24564 .f32) (main_v286 : IVec S16x24564 1) (main_v289 : FVec F S16x24564 .f32) : IVec S_ 1 × IVec S_ 1 × IVec S_ 1 :=
  let main_cst_68 : FVec F S_ .f32 := constant S_ .f32 0x47800000#32
  let main_v290 : FVec F S16x24564 .f32 := broadcastInDim S16x24564 ![] bcast_S_S16x24564 main_cst_68
  let main_v291 : FVec F S16x24564 .f32 := mulf main_v284 main_v290
  let main_v292 : FVec F S16x24564 .f32 := fn_where_2 (F := F) main_v286 main_v291 main_v284
  let main_cst_69 : FVec F S_ .f32 := constant S_ .f32 0x43800000#32
  let main_v293 : FVec F S16x24564 .f32 := broadcastInDim S16x24564 ![] bcast_S_S16x24564 main_cst_69
  let main_v294 : IVec S16x24564 1 := cmpf .olt main_v289 main_v293
  let main_cst_70 : FVec F S_ .f32 := constant S_ .f32 0x47800000#32
  let main_v295 : FVec F S16x24564 .f32 := broadcastInDim S16x24564 ![] bcast_S_S16x24564 main_cst_70
  let main_v296 : FVec F S16x24564 .f32 := mulf main_v289 main_v295
  let main_v297 : FVec F S16x24564 .f32 := fn_where_2 (F := F) main_v294 main_v296 main_v289
  let main_cst_71 : FVec F S_ .f32 := constant S_ .f32 0x47800000#32
  let main_v298 : FVec F S16x24564 .f32 := broadcastInDim S16x24564 ![] bcast_S_S16x24564 main_cst_71
  let main_v299 : FVec F S16x24564 .f32 := mulf main_v292 main_v298
  let main_v300 : FVec F S16x24564 .f32 := fn_where_2 (F := F) main_v294 main_v299 main_v292
  let main_cst_72 : FVec F S_ .f32 := constant S_ .f32 0x47800000#32
  let main_v301 : FVec F S16x24564 .f32 := broadcastInDim S16x24564 ![] bcast_S_S16x24564 main_cst_72
  let main_v302 : IVec S16x24564 1 := cmpf .olt main_v297 main_v301
  let main_cst_73 : FVec F S_ .f32 := constant S_ .f32 0x43800000#32
  let main_v303 : FVec F S16x24564 .f32 := broadcastInDim S16x24564 ![] bcast_S_S16x24564 main_cst_73
  let main_v304 : FVec F S16x24564 .f32 := mulf main_v297 main_v303
  let main_v305 : FVec F S16x24564 .f32 := fn_where_2 (F := F) main_v302 main_v304 main_v297
  let main_cst_74 : FVec F S_ .f32 := constant S_ .f32 0x43800000#32
  let main_v306 : FVec F S16x24564 .f32 := broadcastInDim S16x24564 ![] bcast_S_S16x24564 main_cst_74
  fn_part16 (F := F) main_v203 main_v209 main_v210 main_v300 main_v302 main_v305 main_v306

def fn_part14 {F : FTy → Type} [FloatOps F] (main_v203 : IVec S_ 1) (main_v209 : IVec S_ 1) (main_v210 : IVec S16x24564 1) (main_v265 : FVec F S16x24564 .f32) (main_v268 : FVec F S16x24564 .f32) (main_v270 : IVec S16x24564 1) (main_v271 : FVec F S16x24564 .f32) : IVec S_ 1 × IVec S_ 1 × IVec S_ 1 :=
  let main_v272 : FVec F S16x24564 .f32 := mulf main_v265 main_v271
  let main_v273 : FVec F S16x24564 .f32 := fn_where_2 (F := F) main_v270 main_v272 main_v265
  let main_cst_62 : FVec F S_ .f32 := constant S_ .f32 0x5F800000#32
  let main_v274 : FVec F S16x24564 .f32 := broadcastInDim S16x24564 ![] bcast_S_S16x24564 main_cst_62
  let main_v275 : FVec F S16x24564 .f32 := mulf main_v268 main_v274
  let main_v276 : FVec F S16x24564 .f32 := fn_where_2 (F := F) main_v270 main_v275 main_v268
  let main_cst_63 : FVec F S_ .f32 := constant S_ .f32 0x3B800000#32
  let main_v277 : FVec F S16x24564 .f32 := broadcastInDim S16x24564 ![] bcast_S_S16x24564 main_cst_63
  let main_v278 : IVec S16x24564 1 := cmpf .olt main_v273 main_v277
  let main_cst_64 : FVec F S_ .f32 := constant S_ .f32 0x4F800000#32
  let main_v279 : FVec F S16x24564 .f32 := broadcastInDim S16x24564 ![] bcast_S_S16x24564 main_cst_64
  let main_v280 : FVec F S16x24564 .f32 := mulf main_v273 main_v279
  let main_v281 : FVec F S16x24564 .f32 := fn_where_2 (F := F) main_v278 main_v280 main_v273
  let main_cst_65 : FVec F S_ .f32 := constant S_ .f32 0x4F800000#32
  let main_v282 : FVec F S16x24564 .f32 := broadcastInDim S16x24564 ![] bcast_S_S16x24564 main_cst_65
  let main_v283 : FVec F S16x24564 .f32 := mulf main_v276 main_v282
  let main_v284 : FVec F S16x24564 .f32 := fn_where_2 (F := F) main_v278 main_v283 main_v276
  let main_cst_66 : FVec F S_ .f32 := constant S_ .f32 0x43800000#32
  let main_v285 : FVec F S16x24564 .f32 := broadcastInDim S16x24564 ![] bcast_S_S16x24564 main_cst_66
  let main_v286 : IVec S16x24564 1 := cmpf .olt main_v281 main_v285
  let main_cst_67 : FVec F S_ .f32 := constant S_ .f32 0x47800000#32
  let main_v287 : FVec F S16x24564 .f32 := broadcastInDim S16x24564 ![] bcast_S_S16x24564 main_cst_67
  let main_v288 : FVec F S16x24564 .f32 := mulf main_v281 main_v287
  let main_v289 : FVec F S16x24564 .f32 := fn_where_2 (F := F) main_v286 main_v288 main_v281
  fn_part15 (F := F) main_v203 main_v209 main_v210 main_v284 main_v286 main_v289

def fn_part13 {F : FTy → Type} [FloatOps F] (main_v203 : IVec S_ 1) (main_v209 : IVec S_ 1) (main_v210 : IVec S16x24564 1) (main_v249 : FVec F S16x24564 .f32) (main_v252 : FVec F S16x24564 .f32) (main_v254 : IVec S16x24564 1) : IVec S_ 1 × IVec S_ 1 × IVec S_ 1 :=
  let main_cst_55 : FVec F S_ .f32 := constant S_ .f32 0x3E800000#32
  let main_v255 : FVec F S16x24564 .f32 := broadcastInDim S16x24564 ![] bcast_S_S16x24564 main_cst_55
  let main_v256 : FVec F S16x24564 .f32 := mulf main_v249 main_v255
  let main_v257 : FVec F S16x24564 .f32 := fn_where_2 (F := F) main_v254 main_v256 main_v249
  let main_cst_56 : FVec F S_ .f32 := constant S_ .f32 0x3E800000#32
  let main_v258 : FVec F S16x24564 .f32 := broadcastInDim S16x24564 ![] bcast_S_S16x24564 main_cst_56
  let main_v259 : FVec F S16x24564 .f32 := mulf main_v252 main_v258
  let main_v260 : FVec F S16x24564 .f32 := fn_where_2 (F := F) main_v254 main_v259 main_v252
  let main_cst_57 : FVec F S_ .f32 := constant S_ .f32 0x4B800000#32
  let main_v261 : FVec F S16x24564 .f32 := broadcastInDim S16x24564 ![] bcast_S_S16x24564 main_cst_57
  let main_v262 : IVec S16x24564 1 := cmpf .oge main_v257 main_v261
  let main_cst_58 : FVec F S_ .f32 := constant S_ .f32 0x3F000000#32
  let main_v263 : FVec F S16x24564 .f32 := broadcastInDim S16x24564 ![] bcast_S_S16x24564 main_cst_58
  let main_v264 : FVec F S16x24564 .f32 := mulf main_v257 main_v263
  let main_v265 : FVec F S16x24564 .f32 := fn_where_2 (F := F) main_v262 main_v264 main_v257
  let main_cst_59 : FVec F S_ .f32 := constant S_ .f32 0x3F000000#32
  let main_v266 : FVec F S16x24564 .f32 := broadcastInDim S16x24564 ![] bcast_S_S16x24564 main_cst_59
  let main_v267 : FVec F S16x24564 .f32 := mulf main_v260 main_v266
  let main_v268 : FVec F S16x24564 .f32 := fn_where_2 (F := F) main_v262 main_v267 main_v260
  let main_cst_60 : FVec F S_ .f32 := constant S_ .f32 0x2B800000#32
  let main_v269 : FVec F S16x24564 .f32 := broadcastInDim S16x24564 ![] bcast_S_S16x24564 main_cst_60
  let main_v270 : IVec S16x24564 1 := cmpf .olt main_v265 main_v269
  let main_cst_61 : FVec F S_ .f32 := constant S_ .f32 0x5F800000#32
  let main_v271 : FVec F S16x24564 .f32 := broadcastInDim S16x24564 ![] bcast_S_S16x24564 main_cst_61
  fn_part14 (F := F) main_v203 main_v209 main_v210 main_v265 main_v268 main_v270 main_v271

def fn_part12 {F : FTy → Type} [FloatOps F] (main_v203 : IVec S_ 1) (main_v209 : IVec S_ 1) (main_v210 : IVec S16x24564 1) (main_v233 : FVec F S16x24564 .f32) (main_v236 : FVec F S16x24564 .f32) (main_cst_48 : FVec F S_ .f32) : IVec S_ 1 × IVec S_ 1 × IVec S_ 1 :=
  let main_v237 : FVec F S16x24564 .f32 := broadcastInDim S16x24564 ![] bcast_S_S16x24564 main_cst_48
  let main_v238 : IVec S16x24564 1 := cmpf .oge main_v233 main_v237
  let main_cst_49 : FVec F S_ .f32 := constant S_ .f32 0x3B800000#32
  let main_v239 : FVec F S16x24564 .f32 := broadcastInDim S16x24564 ![] bcast_S_S16x24564 main_cst_49
  let main_v240 : FVec F S16x24564 .f32 := mulf main_v233 main_v239
  let main_v241 : FVec F S16x24564 .f32 := fn_where_2 (F := F) main_v238 main_v240 main_v233
  let main_cst_50 : FVec F S_ .f32 := constant S_ .f32 0x3B800000#32
  let main_v242 : FVec F S16x24564 .f32 := broadcastInDim S16x24564 ![] bcast_S_S16x24564 main_cst_50
  let main_v243 : FVec F S16x24564 .f32 := mulf main_v236 main_v242
  let main_v244 : FVec F S16x24564 .f32 := fn_where_2 (F := F) main_v238 main_v243 main_v236
  let main_cst_51 : FVec F S_ .f32 := constant S_ .f32 0x4D000000#32
  let main_v245 : FVec F S16x24564 .f32 := broadcastInDim S16x24564 ![] bcast_S_S16x24564 main_cst_51
  let main_v246 : IVec S16x24564 1 := cmpf .oge main_v241 main_v245
  let main_cst_52 : FVec F S_ .f32 := constant S_ .f32 0x3D800000#32
  let main_v247 : FVec F S16x24564 .f32 := broadcastInDim S16x24564 ![] bcast_S_S16x24564 main_cst_52
  let main_v248 : FVec F S16x24564 .f32 := mulf main_v241 main_v247
  let main_v249 : FVec F S16x24564 .f32 := fn_where_2 (F := F) main_v246 main_v248 main_v241
  let main_cst_53 : FVec F S_ .f32 := constant S_ .f32 0x3D800000#32
  let main_v250 : FVec F S16x24564 .f32 := broadcastInDim S16x24564 ![] bcast_S_S16x24564 main_cst_53
  let main_v251 : FVec F S16x24564 .f32 := mulf main_v244 main_v250
  let main_v252 : FVec F S16x24564 .f32 := fn_where_2 (F := F) main_v246 main_v251 main_v244
  let main_cst_54 : FVec F S_ .f32 := constant S_ .f32 0x4C000000#32
  let main_v253 : FVec F S16x24564 .f32 := broadcastInDim S16x24564 ![] bcast_S_S16x24564 main_cst_54
  let main_v254 : IVec S16x24564 1 := cmpf .oge main_v249 main_v253
  fn_part13 (F := F) main_v203 main_v209 main_v210 main_v249 main_v252 main_v254

def fn_part11 {F : FTy → Type} [FloatOps F] (main_v193 : FVec F S16x24564 .f32) (main_v203 : IVec S_ 1) (main_v209 : IVec S_ 1) (main_v210 : IVec S16x24564 1) (main_v214 : IVec S16x24564 1) (main_v217 : FVec F S16x24564 .f32) (main_v219 : FVec F S16x24564 .f32) : IVec S_ 1 × IVec S_ 1 × IVec S_ 1 :=
  let main_v220 : FVec F S16x24564 .f32 := fn_where_2 (F := F) main_v214 main_v219 main_v193
  let main_cst_42 : FVec F S_ .f32 := constant S_ .f32 0x5B000000#32
  let main_v221 : FVec F S16x24564 .f32 := broadcastInDim S16x24564 ![] bcast_S_S16x24564 main_cst_42
  let main_v222 : IVec S16x24564 1 := cmpf .oge main_v217 main_v221
  let main_cst_43 : FVec F S_ .f32 := constant S_ .f32 0x2F800000#32
  let main_v223 : FVec F S16x24564 .f32 := broadcastInDim S16x24564 ![] bcast_S_S16x24564 main_cst_43
  let main_v224 : FVec F S16x24564 .f32 := mulf main_v217 main_v223
  let main_v225 : FVec F S16x24564 .f32 := fn_where_2 (F := F) main_v222 main_v224 main_v217
  let main_cst_44 : FVec F S_ .f32 := constant S_ .f32 0x2F800000#32
  let main_v226 : FVec F S16x24564 .f32 := broadcastInDim S16x24564 ![] bcast_S_S16x24564 main_cst_44
  let main_v227 : FVec F S16x24564 .f32 := mulf main_v220 main_v226
  let main_v228 : FVec F S16x24564 .f32 := fn_where_2 (F := F) main_v222 main_v227 main_v220
  let main_cst_45 : FVec F S_ .f32 := constant S_ .f32 0x53000000#32
  let main_v229 : FVec F S16x24564 .f32 := broadcastInDim S16x24564 ![] bcast_S_S16x24564 main_cst_45
  let main_v230 : IVec S16x24564 1 := cmpf .oge main_v225 main_v229
  let main_cst_46 : FVec F S_ .f32 := constant S_ .f32 0x37800000#32
  let main_v231 : FVec F S16x24564 .f32 := broadcastInDim S16x24564 ![] bcast_S_S16x24564 main_cst_46
  let main_v232 : FVec F S16x24564 .f32 := mulf main_v225 main_v231
  let main_v233 : FVec F S16x24564 .f32 := fn_where_2 (F := F) main_v230 main_v232 main_v225
  let main_cst_47 : FVec F S_ .f32 := constant S_ .f32 0x37800000#32
  let main_v234 : FVec F S16x24564 .f32 := broadcastInDim S16x24564 ![] bcast_S_S16x24564 main_cst_47
  let main_v235 : FVec F S16x24564 .f32 := mulf main_v228 main_v234
  let main_v236 : FVec F S16x24564 .f32 := fn_where_2 (F := F) main_v230 main_v235 main_v228
  let main_cst_48 : FVec F S_ .f32 := constant S_ .f32 0x4F000000#32
  fn_part12 (F := F) main_v203 main_v209 main_v210 main_v233 main_v236 main_cst_48

def fn_part10 {F : FTy → Type} [FloatOps F] (main_arg3 : IVec S16x16 32) (main_v190 : FVec F S16x24564 .f32) (main_v193 : FVec F S16x24564 .f32) (main_v199 : IVec S16x24564 1) (main_v202 : IVec S16x24564x81 1) (main_c_34 : IVec S_ 1) : IVec S_ 1 × IVec S_ 1 × IVec S_ 1 :=
  let main_v203 : IVec S_ 1 := (fun x v => Host.reduce IntOp.andi x v reducesTo_S16x24564x81_S_d0_1_2 h_S_) main_v202 main_c_34
  let main_c_35 : IVec S_ 32 := constantI S_ 32 1#32
  let main_v204 : IVec S16x16 32 := broadcastInDim S16x16 ![] bcast_S_S16x16 main_c_35
  let main_v205 : IVec S16x16 1 := cmpi .sge main_arg3 main_v204
  let main_c_36 : IVec S_ 32 := constantI S_ 32 81#32
  let main_v206 : IVec S16x16 32 := broadcastInDim S16x16 ![] bcast_S_S16x16 main_c_36
  let main_v207 : IVec S16x16 1 := cmpi .slt main_arg3 main_v206
  let main_v208 : IVec S16x16 1 := andi main_v205 main_v207
  let main_c_37 : IVec S_ 1 := constantI S_ 1 1#1
  let main_v209 : IVec S_ 1 := (fun x v => Host.reduce IntOp.andi x v reducesTo_S16x16_S_d0_1 h_S_) main_v208 main_c_37
  let main_v210 : IVec S16x24564 1 := noti main_v199
  let main_cst_38 : FVec F S_ .f32 := constant S_ .f32 0x7F7FFFFF#32
  let main_v211 : FVec F S16x24564 .f32 := broadcastInDim S16x24564 ![] bcast_S_S16x24564 main_cst_38
  let main_v212 : FVec F S16x24564 .f32 := minimumf main_v190 main_v211
  let main_cst_39 : FVec F S_ .f32 := constant S_ .f32 0x6B000000#32
  let main_v213 : FVec F S16x24564 .f32 := broadcastInDim S16x24564 ![] bcast_S_S16x24564 main_cst_39
  let main_v214 : IVec S16x24564 1 := cmpf .oge main_v212 main_v213
  let main_cst_40 : FVec F S_ .f32 := constant S_ .f32 0x1F800000#32
  let main_v215 : FVec F S16x24564 .f32 := broadcastInDim S16x24564 ![] bcast_S_S16x24564 main_cst_40
  let main_v216 : FVec F S16x24564 .f32 := mulf main_v212 main_v215
  let main_v217 : FVec F S16x24564 .f32 := fn_where_2 (F := F) main_v214 main_v216 main_v212
  let main_cst_41 : FVec F S_ .f32 := constant S_ .f32 0x1F800000#32
  let main_v218 : FVec F S16x24564 .f32 := broadcastInDim S16x24564 ![] bcast_S_S16x24564 main_cst_41
  let main_v219 : FVec F S16x24564 .f32 := mulf main_v193 main_v218
  fn_part11 (F := F) main_v193 main_v203 main_v209 main_v210 main_v214 main_v217 main_v219

def fn_part9 {F : FTy → Type} [FloatOps F] (main_arg1 : FVec F S16x24564x81 .f32) (main_arg3 : IVec S16x16 32) (main_v120 : IVec S16x24564 32) (main_v166 : IVec S16x24564 1) (main_v174 : IVec S16 32) (main_v182 : FVec F S16x24564 .f32) : IVec S_ 1 × IVec S_ 1 × IVec S_ 1 :=
  let main_v183 : IVec S16x24564x1 32 := broadcastInDim S16x24564x1 ![0, 1] bcast_S16x24564_S16x24564x1_0_1 main_v120
  let main_v184 : FVec F S16x24564x1 .f32 := fn_take_along_axis (F := F) main_arg1 main_v183
  let main_v185 : FVec F S16x24564 .f32 := shapeCast S16x24564 main_v184 shapeCasts_S16x24564x1_S16x24564
  let main_v186 : FVec F S16x24564 .f32 := subf main_v182 main_v185
  let main_cst_31 : FVec F S_ .f32 := constant S_ .f32 0x00000000#32
  let main_v187 : FVec F S16x24564 .f32 := fn_where_1 (F := F) main_v166 main_cst_31 main_v186
  let main_v188 : FVec F S16x24564 .f32 := Host.negf main_v187
  let main_v189 : FVec F S16x24564 .f32 := fn_sort (F := F) main_v188
  let main_v190 : FVec F S16x24564 .f32 := Host.negf main_v189
  let main_v191 : FVec F S16x24563 .f32 := (extractStridedSlice S16x24563 ![0, 1] · slices_S16x24564_S16x24563_0_1) main_v190
  let main_cst_32 : FVec F S_ .f32 := constant S_ .f32 0x00000000#32
  let main_v192 : FVec F S16x1 .f32 := broadcastInDim S16x1 ![] bcast_S_S16x1 main_cst_32
  let main_v193 : FVec F S16x24564 .f32 := (fun a b => concatenate S16x24564 1 [⟨S16x24563, a⟩, ⟨S16x1, b⟩] concatenates_S16x24563_S16x1_S16x24564_d1) main_v191 main_v192
  let main_v194 : IVec S24564 32 := iotaInDim S24564 32 0
  let main_v195 : IVec S1x24564 32 := broadcastInDim S1x24564 ![1] bcast_S24564_S1x24564_1 main_v194
  let main_v196 : IVec S16x1 32 := broadcastInDim S16x1 ![0] bcast_S16_S16x1_0 main_v174
  let main_v197 : IVec S16x24564 32 := broadcastInDim S16x24564 ![0, 1] bcast_S1x24564_S16x24564_0_1 main_v195
  let main_v198 : IVec S16x24564 32 := broadcastInDim S16x24564 ![0, 1] bcast_S16x1_S16x24564_0_1 main_v196
  let main_v199 : IVec S16x24564 1 := cmpi .eq main_v197 main_v198
  let main_v200 : FVec F S16x24564x81 .f32 := Host.absf main_arg1
  let main_cst_33 : FVec F S_ .f32 := constant S_ .f32 0x7F800000#32
  let main_v201 : FVec F S16x24564x81 .f32 := broadcastInDim S16x24564x81 ![] bcast_S_S16x24564x81 main_cst_33
  let main_v202 : IVec S16x24564x81 1 := cmpf .olt main_v200 main_v201
  let main_c_34 : IVec S_ 1 := constantI S_ 1 1#1
  fn_part10 (F := F) main_arg3 main_v190 main_v193 main_v199 main_v202 main_c_34

def fn_part8 {F : FTy → Type} [FloatOps F] (main_arg1 : FVec F S16x24564x81 .f32) (main_arg3 : IVec S16x16 32) (main_v120 : IVec S16x24564 32) (main_c_24 : IVec S_ 32) : IVec S_ 1 × IVec S_ 1 × IVec S_ 1 :=
  let main_v165 : IVec S16x24564 32 := broadcastInDim S16x24564 ![] bcast_S_S16x24564 main_c_24
  let main_v166 : IVec S16x24564 1 := cmpi .ne main_v120 main_v165
  let main_v167 : IVec S16x24564 32 := (extui 32 · natLt_1_32) main_v166
  let main_c_25 : IVec S_ 32 := constantI S_ 32 0#32
  let main_v168 : IVec S16 32 := (fun x v => Host.reduce IntOp.addi x v reducesTo_S16x24564_S16_d1 h_S_) main_v167 main_c_25
  let main_c_26 : IVec S_ 32 := constantI S_ 32 3#32
  let main_v169 : IVec S16 32 := broadcastInDim S16 ![] bcast_S_S16 main_c_26
  let main_v170 : IVec S16 32 := muli main_v169 main_v168
  let main_c_27 : IVec S_ 32 := constantI S_ 32 24564#32
  let main_v171 : IVec S16 32 := broadcastInDim S16 ![] bcast_S_S16 main_c_27
  let main_v172 : IVec S16 32 := minsi main_v170 main_v171
  let main_c_28 : IVec S_ 32 := constantI S_ 32 1#32
  let main_v173 : IVec S16 32 := broadcastInDim S16 ![] bcast_S_S16 main_c_28
  let main_v174 : IVec S16 32 := subi main_v172 main_v173
  let main_cst_29 : FVec F S_ .f32 := constant S_ .f32 0xFF800000#32
  let main_v175 : FVec F S16x24564 .f32 := (fun x v => Host.reduce FloatOps.maximumf x v reducesTo_S16x24564x81_S16x24564_d2 h_S_) main_arg1 main_cst_29
  let main_v176 : FVec F S16x24564x1 .f32 := broadcastInDim S16x24564x1 ![0, 1] bcast_S16x24564_S16x24564x1_0_1 main_v175
  let main_v177 : FVec F S16x24564x81 .f32 := broadcastInDim S16x24564x81 ![0, 1, 2] bcast_S16x24564x1_S16x24564x81_0_1_2 main_v176
  let main_v178 : FVec F S16x24564x81 .f32 := subf main_arg1 main_v177
  let main_v179 : FVec F S16x24564x81 .f32 := Host.exp main_v178
  let main_cst_30 : FVec F S_ .f32 := constant S_ .f32 0x00000000#32
  let main_v180 : FVec F S16x24564 .f32 := (fun x v => Host.reduceAdd x v reducesTo_S16x24564x81_S16x24564_d2 h_S_) main_v179 main_cst_30
  let main_v181 : FVec F S16x24564 .f32 := Host.log main_v180
  let main_v182 : FVec F S16x24564 .f32 := addf main_v181 main_v175
  fn_part9 (F := F) main_arg1 main_arg3 main_v120 main_v166 main_v174 main_v182

def fn_part7 {F : FTy → Type} [FloatOps F] (main_arg1 : FVec F S16x24564x81 .f32) (main_arg3 : IVec S16x16 32) (main_arg4 : FVec F S24564x4 .f32) (main_v120 : IVec S16x24564 32) (main_v140 : FVec F S16x24564x2 .f32) (main_v143 : FVec F S16x24564x2 .f32) : IVec S_ 1 × IVec S_ 1 × IVec S_ 1 :=
  let main_v144 : FVec F S16x24564x4 .f32 := (fun a b => concatenate S16x24564x4 2 [⟨S16x24564x2, a⟩, ⟨S16x24564x2, b⟩] concatenates_S16x24564x2_S16x24564x2_S16x24564x4_d2) main_v140 main_v143
  let main_v145 : FVec F S16x24564x2 .f32 := (extractStridedSlice S16x24564x2 ![0, 0, 0] · slices_S16x24564x4_S16x24564x2_0_0_0) main_v144
  let main_v146 : FVec F S24564x2 .f32 := (extractStridedSlice S24564x2 ![0, 0] · slices_S24564x4_S24564x2_0_0) main_arg4
  let main_v147 : FVec F S1x24564x2 .f32 := broadcastInDim S1x24564x2 ![1, 2] bcast_S24564x2_S1x24564x2_1_2 main_v146
  let main_v148 : FVec F S16x24564x2 .f32 := broadcastInDim S16x24564x2 ![0, 1, 2] bcast_S1x24564x2_S16x24564x2_0_1_2 main_v147
  let main_v149 : FVec F S16x24564x2 .f32 := subf main_v145 main_v148
  let main_v150 : FVec F S24564x2 .f32 := (extractStridedSlice S24564x2 ![0, 2] · slices_S24564x4_S24564x2_0_2) main_arg4
  let main_cst_22 : FVec F S_ .f32 := constant S_ .f32 0x41200000#32
  let main_v151 : FVec F S24564x2 .f32 := broadcastInDim S24564x2 ![] bcast_S_S24564x2 main_cst_22
  let main_v152 : FVec F S24564x2 .f32 := Host.divf main_v150 main_v151
  let main_v153 : FVec F S1x24564x2 .f32 := broadcastInDim S1x24564x2 ![1, 2] bcast_S24564x2_S1x24564x2_1_2 main_v152
  let main_v154 : FVec F S16x24564x2 .f32 := broadcastInDim S16x24564x2 ![0, 1, 2] bcast_S1x24564x2_S16x24564x2_0_1_2 main_v153
  let main_v155 : FVec F S16x24564x2 .f32 := Host.divf main_v149 main_v154
  let main_v156 : FVec F S16x24564x2 .f32 := (extractStridedSlice S16x24564x2 ![0, 0, 2] · slices_S16x24564x4_S16x24564x2_0_0_2) main_v144
  let main_v157 : FVec F S24564x2 .f32 := (extractStridedSlice S24564x2 ![0, 2] · slices_S24564x4_S24564x2_0_2) main_arg4
  let main_v158 : FVec F S1x24564x2 .f32 := broadcastInDim S1x24564x2 ![1, 2] bcast_S24564x2_S1x24564x2_1_2 main_v157
  let main_v159 : FVec F S16x24564x2 .f32 := broadcastInDim S16x24564x2 ![0, 1, 2] bcast_S1x24564x2_S16x24564x2_0_1_2 main_v158
  let main_v160 : FVec F S16x24564x2 .f32 := Host.divf main_v156 main_v159
  let main_v161 : FVec F S16x24564x2 .f32 := Host.log main_v160
  let main_cst_23 : FVec F S_ .f32 := constant S_ .f32 0x40A00000#32
  let main_v162 : FVec F S16x24564x2 .f32 := broadcastInDim S16x24564x2 ![] bcast_S_S16x24564x2 main_cst_23
  let main_v163 : FVec F S16x24564x2 .f32 := mulf main_v161 main_v162
  let main_v164 : FVec F S16x24564x4 .f32 := (fun a b => concatenate S16x24564x4 2 [⟨S16x24564x2, a⟩, ⟨S16x24564x2, b⟩] concatenates_S16x24564x2_S16x24564x2_S16x24564x4_d2) main_v155 main_v163
  let main_c_24 : IVec S_ 32 := constantI S_ 32 0#32
  fn_part8 (F := F) main_arg1 main_arg3 main_v120 main_c_24

def fn_part6 {F : FTy → Type} [FloatOps F] (main_arg1 : FVec F S16x24564x81 .f32) (main_arg2 : FVec F S16x16x4 .f32) (main_arg3 : IVec S16x16 32) (main_arg4 : FVec F S24564x4 .f32) (main_v1 : IVec S16x1 32) (main_v86 : IVec S16x24564 32) (main_v120 : IVec S16x24564 32) (main_v122 : IVec S16x1 1) (main_c_18 : IVec S_ 32) : IVec S_ 1 × IVec S_ 1 × IVec S_ 1 :=
  let main_v123 : IVec S16x1 32 := broadcastInDim S16x1 ![] bcast_S_S16x1 main_c_18
  let main_v124 : IVec S16x1 32 := addi main_v1 main_v123
  let main_v125 : IVec S16x1 32 := select main_v122 main_v124 main_v1
  let main_c_19 : IVec S_ 32 := constantI S_ 32 0#32
  let main_v126 : IVec S16x24564 32 := broadcastInDim S16x24564 ![] bcast_S_S16x24564 main_c_19
  let main_v127 : IVec S16x24564 1 := cmpi .slt main_v86 main_v126
  let main_c_20 : IVec S_ 32 := constantI S_ 32 16#32
  let main_v128 : IVec S16x24564 32 := broadcastInDim S16x24564 ![] bcast_S_S16x24564 main_c_20
  let main_v129 : IVec S16x24564 32 := addi main_v86 main_v128
  let main_v130 : IVec S16x24564 32 := select main_v127 main_v129 main_v86
  let main_v131 : IVec S16x24564 32 := broadcastInDim S16x24564 ![0, 1] bcast_S16x1_S16x24564_0_1 main_v125
  let main_v132 : IVec S16x24564x1 32 := broadcastInDim S16x24564x1 ![0, 1] bcast_S16x24564_S16x24564x1_0_1 main_v131
  let main_v133 : IVec S16x24564x1 32 := broadcastInDim S16x24564x1 ![0, 1] bcast_S16x24564_S16x24564x1_0_1 main_v130
  let main_v134 : IVec S16x24564x2 32 := (fun a b => concatenate S16x24564x2 2 [⟨S16x24564x1, a⟩, ⟨S16x24564x1, b⟩] concatenates_S16x24564x1_S16x24564x1_S16x24564x2_d2) main_v132 main_v133
  let main_v135 : FVec F S16x24564x4 .f32 := (fun x i => Host.gather gather_S16x16x4_S16x24564x2_S16x24564x4_2_01_n_n_01_2_114 x i) main_arg2 main_v134
  let main_v136 : FVec F S16x24564x2 .f32 := (extractStridedSlice S16x24564x2 ![0, 0, 0] · slices_S16x24564x4_S16x24564x2_0_0_0) main_v135
  let main_v137 : FVec F S16x24564x2 .f32 := (extractStridedSlice S16x24564x2 ![0, 0, 2] · slices_S16x24564x4_S16x24564x2_0_0_2) main_v135
  let main_v138 : FVec F S16x24564x2 .f32 := addf main_v136 main_v137
  let main_cst_21 : FVec F S_ .f32 := constant S_ .f32 0x40000000#32
  let main_v139 : FVec F S16x24564x2 .f32 := broadcastInDim S16x24564x2 ![] bcast_S_S16x24564x2 main_cst_21
  let main_v140 : FVec F S16x24564x2 .f32 := Host.divf main_v138 main_v139
  let main_v141 : FVec F S16x24564x2 .f32 := (extractStridedSlice S16x24564x2 ![0, 0, 2] · slices_S16x24564x4_S16x24564x2_0_0_2) main_v135
  let main_v142 : FVec F S16x24564x2 .f32 := (extractStridedSlice S16x24564x2 ![0, 0, 0] · slices_S16x24564x4_S16x24564x2_0_0_0) main_v135
  let main_v143 : FVec F S16x24564x2 .f32 := subf main_v141 main_v142
  fn_part7 (F := F) main_arg1 main_arg3 main_arg4 main_v120 main_v140 main_v143

def fn_part5 {F : FTy → Type} [FloatOps F] (main_arg1 : FVec F S16x24564x81 .f32) (main_arg2 : FVec F S16x16x4 .f32) (main_arg3 : IVec S16x16 32) (main_arg4 : FVec F S24564x4 .f32) (main_v1 : IVec S16x1 32) (main_v86 : IVec S16x24564 32) (main_v104 : IVec S16x24564 1) (main_c_12 : IVec S_ 32) : IVec S_ 1 × IVec S_ 1 × IVec S_ 1 :=
  let main_v105 : IVec S16x1 32 := broadcastInDim S16x1 ![] bcast_S_S16x1 main_c_12
  let main_v106 : IVec S16x1 1 := cmpi .slt main_v1 main_v105
  let main_c_13 : IVec S_ 32 := constantI S_ 32 16#32
  let main_v107 : IVec S16x1 32 := broadcastInDim S16x1 ![] bcast_S_S16x1 main_c_13
  let main_v108 : IVec S16x1 32 := addi main_v1 main_v107
  let main_v109 : IVec S16x1 32 := select main_v106 main_v108 main_v1
  let main_c_14 : IVec S_ 32 := constantI S_ 32 0#32
  let main_v110 : IVec S16x24564 32 := broadcastInDim S16x24564 ![] bcast_S_S16x24564 main_c_14
  let main_v111 : IVec S16x24564 1 := cmpi .slt main_v86 main_v110
  let main_c_15 : IVec S_ 32 := constantI S_ 32 16#32
  let main_v112 : IVec S16x24564 32 := broadcastInDim S16x24564 ![] bcast_S_S16x24564 main_c_15
  let main_v113 : IVec S16x24564 32 := addi main_v86 main_v112
  let main_v114 : IVec S16x24564 32 := select main_v111 main_v113 main_v86
  let main_v115 : IVec S16x24564 32 := broadcastInDim S16x24564 ![0, 1] bcast_S16x1_S16x24564_0_1 main_v109
  let main_v116 : IVec S16x24564x1 32 := broadcastInDim S16x24564x1 ![0, 1] bcast_S16x24564_S16x24564x1_0_1 main_v115
  let main_v117 : IVec S16x24564x1 32 := broadcastInDim S16x24564x1 ![0, 1] bcast_S16x24564_S16x24564x1_0_1 main_v114
  let main_v118 : IVec S16x24564x2 32 := (fun a b => concatenate S16x24564x2 2 [⟨S16x24564x1, a⟩, ⟨S16x24564x1, b⟩] concatenates_S16x24564x1_S16x24564x1_S16x24564x2_d2) main_v116 main_v117
  let main_v119 : IVec S16x24564 32 := (fun x i => Host.gather gather_S16x16_S16x24564x2_S16x24564_n_01_n_n_01_2_11 x i) main_arg3 main_v118
  let main_c_16 : IVec S_ 32 := constantI S_ 32 0#32
  let main_v120 : IVec S16x24564 32 := fn_where (F := F) main_v104 main_c_16 main_v119
  let main_c_17 : IVec S_ 32 := constantI S_ 32 0#32
  let main_v121 : IVec S16x1 32 := broadcastInDim S16x1 ![] bcast_S_S16x1 main_c_17
  let main_v122 : IVec S16x1 1 := cmpi .slt main_v1 main_v121
  let main_c_18 : IVec S_ 32 := constantI S_ 32 16#32
  fn_part6 (F := F) main_arg1 main_arg2 main_arg3 main_arg4 main_v1 main_v86 main_v120 main_v122 main_c_18

def fn_part4 {F : FTy → Type} [FloatOps F] (main_arg1 : FVec F S16x24564x81 .f32) (main_arg2 : FVec F S16x16x4 .f32) (main_arg3 : IVec S16x16 32) (main_arg4 : FVec F S24564x4 .f32) (main_v1 : IVec S16x1 32) (main_v66 : FVec F S16x24564 .f32) (main_v68 : IVec S16x16 32) (main_v86 : IVec S16x24564 32) (main_c_6 : IVec S_ 32) : IVec S_ 1 × IVec S_ 1 × IVec S_ 1 :=
  let main_v87 : IVec S16x1 32 := broadcastInDim S16x1 ![] bcast_S_S16x1 main_c_6
  let main_v88 : IVec S16x1 1 := cmpi .slt main_v1 main_v87
  let main_c_7 : IVec S_ 32 := constantI S_ 32 16#32
  let main_v89 : IVec S16x1 32 := broadcastInDim S16x1 ![] bcast_S_S16x1 main_c_7
  let main_v90 : IVec S16x1 32 := addi main_v1 main_v89
  let main_v91 : IVec S16x1 32 := select main_v88 main_v90 main_v1
  let main_c_8 : IVec S_ 32 := constantI S_ 32 0#32
  let main_v92 : IVec S16x16 32 := broadcastInDim S16x16 ![] bcast_S_S16x16 main_c_8
  let main_v93 : IVec S16x16 1 := cmpi .slt main_v68 main_v92
  let main_c_9 : IVec S_ 32 := constantI S_ 32 24564#32
  let main_v94 : IVec S16x16 32 := broadcastInDim S16x16 ![] bcast_S_S16x16 main_c_9
  let main_v95 : IVec S16x16 32 := addi main_v68 main_v94
  let main_v96 : IVec S16x16 32 := select main_v93 main_v95 main_v68
  let main_v97 : IVec S16x16 32 := broadcastInDim S16x16 ![0, 1] bcast_S16x1_S16x16_0_1 main_v91
  let main_v98 : IVec S16x16x1 32 := broadcastInDim S16x16x1 ![0, 1] bcast_S16x16_S16x16x1_0_1 main_v97
  let main_v99 : IVec S16x16x1 32 := broadcastInDim S16x16x1 ![0, 1] bcast_S16x16_S16x16x1_0_1 main_v96
  let main_v100 : IVec S16x16x2 32 := (fun a b => concatenate S16x16x2 2 [⟨S16x16x1, a⟩, ⟨S16x16x1, b⟩] concatenates_S16x16x1_S16x16x1_S16x16x2_d2) main_v98 main_v99
  let main_cst_10 : FVec F S_ .f32 := constant S_ .f32 0x3F800000#32
  let main_v101 : FVec F S16x16 .f32 := broadcastInDim S16x16 ![] bcast_S_S16x16 main_cst_10
  let main_v102 : FVec F S16x24564 .f32 := (fun x i u => Host.scatter scatter_S16x24564_S16x16x2_S16x16_n_01_01_2 (fun _ b => b) x i u) main_v66 main_v100 main_v101
  let main_cst_11 : FVec F S_ .f32 := constant S_ .f32 0x3F000000#32
  let main_v103 : FVec F S16x24564 .f32 := broadcastInDim S16x24564 ![] bcast_S_S16x24564 main_cst_11
  let main_v104 : IVec S16x24564 1 := cmpf .olt main_v102 main_v103
  let main_c_12 : IVec S_ 32 := constantI S_ 32 0#32
  fn_part5 (F := F) main_arg1 main_arg2 main_arg3 main_arg4 main_v1 main_v86 main_v104 main_c_12

def fn_part3 {F : FTy → Type} [FloatOps F] (main_arg1 : FVec F S16x24564x81 .f32) (main_arg2 : FVec F S16x16x4 .f32) (main_arg3 : IVec S16x16 32) (main_arg4 : FVec F S24564x4 .f32) (main_v1 : IVec S16x1 32) (main_v65 : FVec F S16x16x24564 .f32) (main_v66 : FVec F S16x24564 .f32) (main_v67 : IVec S16x24564 32) : IVec S_ 1 × IVec S_ 1 × IVec S_ 1 :=
  let main_v68 : IVec S16x16 32 := fn_argmax_0 (F := F) main_v65
  let main_v69 : IVec S16 32 := iotaInDim S16 32 0
  let main_v70 : IVec S1x16 32 := broadcastInDim S1x16 ![1] bcast_S16_S1x16_1 main_v69
  let main_c : IVec S_ 32 := constantI S_ 32 0#32
  let main_v71 : IVec S16x1 32 := broadcastInDim S16x1 ![] bcast_S_S16x1 main_c
  let main_v72 : IVec S16x1 1 := cmpi .slt main_v1 main_v71
  let main_c_3 : IVec S_ 32 := constantI S_ 32 16#32
  let main_v73 : IVec S16x1 32 := broadcastInDim S16x1 ![] bcast_S_S16x1 main_c_3
  let main_v74 : IVec S16x1 32 := addi main_v1 main_v73
  let main_v75 : IVec S16x1 32 := select main_v72 main_v74 main_v1
  let main_c_4 : IVec S_ 32 := constantI S_ 32 0#32
  let main_v76 : IVec S16x16 32 := broadcastInDim S16x16 ![] bcast_S_S16x16 main_c_4
  let main_v77 : IVec S16x16 1 := cmpi .slt main_v68 main_v76
  let main_c_5 : IVec S_ 32 := constantI S_ 32 24564#32
  let main_v78 : IVec S16x16 32 := broadcastInDim S16x16 ![] bcast_S_S16x16 main_c_5
  let main_v79 : IVec S16x16 32 := addi main_v68 main_v78
  let main_v80 : IVec S16x16 32 := select main_v77 main_v79 main_v68
  let main_v81 : IVec S16x16 32 := broadcastInDim S16x16 ![0, 1] bcast_S16x1_S16x16_0_1 main_v75
  let main_v82 : IVec S16x16x1 32 := broadcastInDim S16x16x1 ![0, 1] bcast_S16x16_S16x16x1_0_1 main_v81
  let main_v83 : IVec S16x16x1 32 := broadcastInDim S16x16x1 ![0, 1] bcast_S16x16_S16x16x1_0_1 main_v80
  let main_v84 : IVec S16x16x2 32 := (fun a b => concatenate S16x16x2 2 [⟨S16x16x1, a⟩, ⟨S16x16x1, b⟩] concatenates_S16x16x1_S16x16x1_S16x16x2_d2) main_v82 main_v83
  let main_v85 : IVec S16x16 32 := broadcastInDim S16x16 ![0, 1] bcast_S1x16_S16x16_0_1 main_v70
  let main_v86 : IVec S16x24564 32 := (fun x i u => Host.scatter scatter_S16x24564_S16x16x2_S16x16_n_01_01_2 (fun _ b => b) x i u) main_v67 main_v84 main_v85
  let main_c_6 : IVec S_ 32 := constantI S_ 32 0#32
  fn_part4 (F := F) main_arg1 main_arg2 main_arg3 main_arg4 main_v1 main_v66 main_v68 main_v86 main_c_6

def fn_part2 {F : FTy → Type} [FloatOps F] (main_arg1 : FVec F S16x24564x81 .f32) (main_arg2 : FVec F S16x16x4 .f32) (main_arg3 : IVec S16x16 32) (main_arg4 : FVec F S24564x4 .f32) (main_v1 : IVec S16x1 32) (main_v12 : FVec F S24564x4 .f32) (main_v35 : FVec F S16x16x24564 .f32) (main_v40 : FVec F S16x16 .f32) (main_v42 : FVec F S16x16 .f32) (main_v44 : FVec F S16x16 .f32) : IVec S_ 1 × IVec S_ 1 × IVec S_ 1 :=
  let main_v45 : FVec F S16x16 .f32 := subf main_v42 main_v44
  let main_v46 : FVec F S16x16 .f32 := mulf main_v40 main_v45
  let main_v47 : FVec F S24564x1 .f32 := (extractStridedSlice S24564x1 ![0, 2] · slices_S24564x4_S24564x1_0_2) main_v12
  let main_v48 : FVec F S24564 .f32 := shapeCast S24564 main_v47 shapeCasts_S24564x1_S24564
  let main_v49 : FVec F S24564x1 .f32 := (extractStridedSlice S24564x1 ![0, 0] · slices_S24564x4_S24564x1_0_0) main_v12
  let main_v50 : FVec F S24564 .f32 := shapeCast S24564 main_v49 shapeCasts_S24564x1_S24564
  let main_v51 : FVec F S24564 .f32 := subf main_v48 main_v50
  let main_v52 : FVec F S24564x1 .f32 := (extractStridedSlice S24564x1 ![0, 3] · slices_S24564x4_S24564x1_0_3) main_v12
  let main_v53 : FVec F S24564 .f32 := shapeCast S24564 main_v52 shapeCasts_S24564x1_S24564
  let main_v54 : FVec F S24564x1 .f32 := (extractStridedSlice S24564x1 ![0, 1] · slices_S24564x4_S24564x1_0_1) main_v12
  let main_v55 : FVec F S24564 .f32 := shapeCast S24564 main_v54 shapeCasts_S24564x1_S24564
  let main_v56 : FVec F S24564 .f32 := subf main_v53 main_v55
  let main_v57 : FVec F S24564 .f32 := mulf main_v51 main_v56
  let main_v58 : FVec F S16x16x1 .f32 := broadcastInDim S16x16x1 ![0, 1] bcast_S16x16_S16x16x1_0_1 main_v46
  let main_v59 : FVec F S1x24564 .f32 := broadcastInDim S1x24564 ![1] bcast_S24564_S1x24564_1 main_v57
  let main_v60 : FVec F S1x1x24564 .f32 := broadcastInDim S1x1x24564 ![1, 2] bcast_S1x24564_S1x1x24564_1_2 main_v59
  let main_v61 : FVec F S16x16x24564 .f32 := broadcastInDim S16x16x24564 ![0, 1, 2] bcast_S16x16x1_S16x16x24564_0_1_2 main_v58
  let main_v62 : FVec F S16x16x24564 .f32 := broadcastInDim S16x16x24564 ![0, 1, 2] bcast_S1x1x24564_S16x16x24564_0_1_2 main_v60
  let main_v63 : FVec F S16x16x24564 .f32 := addf main_v61 main_v62
  let main_v64 : FVec F S16x16x24564 .f32 := subf main_v63 main_v35
  let main_v65 : FVec F S16x16x24564 .f32 := Host.divf main_v35 main_v64
  let main_cst_2 : FVec F S_ .f32 := constant S_ .f32 0xFF800000#32
  let main_v66 : FVec F S16x24564 .f32 := (fun x v => Host.reduce FloatOps.maximumf x v reducesTo_S16x16x24564_S16x24564_d1 h_S_) main_v65 main_cst_2
  let main_v67 : IVec S16x24564 32 := fn_argmax (F := F) main_v65
  fn_part3 (F := F) main_arg1 main_arg2 main_arg3 main_arg4 main_v1 main_v65 main_v66 main_v67

def fn_part1 {F : FTy → Type} [FloatOps F] (main_arg1 : FVec F S16x24564x81 .f32) (main_arg2 : FVec F S16x16x4 .f32) (main_arg3 : IVec S16x16 32) (main_arg4 : FVec F S24564x4 .f32) (main_v1 : IVec S16x1 32) (main_v12 : FVec F S24564x4 .f32) (main_v20 : FVec F S16x16x24564x2 .f32) (main_v21 : FVec F S16x16x2 .f32) : IVec S_ 1 × IVec S_ 1 × IVec S_ 1 :=
  let main_v22 : FVec F S16x16x1x2 .f32 := broadcastInDim S16x16x1x2 ![0, 1, 3] bcast_S16x16x2_S16x16x1x2_0_1_3 main_v21
  let main_v23 : FVec F S24564x2 .f32 := (extractStridedSlice S24564x2 ![0, 2] · slices_S24564x4_S24564x2_0_2) main_v12
  let main_v24 : FVec F S1x24564x2 .f32 := broadcastInDim S1x24564x2 ![1, 2] bcast_S24564x2_S1x24564x2_1_2 main_v23
  let main_v25 : FVec F S1x1x24564x2 .f32 := broadcastInDim S1x1x24564x2 ![1, 2, 3] bcast_S1x24564x2_S1x1x24564x2_1_2_3 main_v24
  let main_v26 : FVec F S16x16x24564x2 .f32 := broadcastInDim S16x16x24564x2 ![0, 1, 2, 3] bcast_S16x16x1x2_S16x16x24564x2_0_1_2_3 main_v22
  let main_v27 : FVec F S16x16x24564x2 .f32 := broadcastInDim S16x16x24564x2 ![0, 1, 2, 3] bcast_S1x1x24564x2_S16x16x24564x2_0_1_2_3 main_v25
  let main_v28 : FVec F S16x16x24564x2 .f32 := minimumf main_v26 main_v27
  let main_v29 : FVec F S16x16x24564x2 .f32 := subf main_v28 main_v20
  let main_cst_1 : FVec F S_ .f32 := constant S_ .f32 0x00000000#32
  let main_v30 : FVec F S16x16x24564x2 .f32 := fn_clip (F := F) main_v29 main_cst_1
  let main_v31 : FVec F S16x16x24564x1 .f32 := (extractStridedSlice S16x16x24564x1 ![0, 0, 0, 0] · slices_S16x16x24564x2_S16x16x24564x1_0_0_0_0) main_v30
  let main_v32 : FVec F S16x16x24564 .f32 := shapeCast S16x16x24564 main_v31 shapeCasts_S16x16x24564x1_S16x16x24564
  let main_v33 : FVec F S16x16x24564x1 .f32 := (extractStridedSlice S16x16x24564x1 ![0, 0, 0, 1] · slices_S16x16x24564x2_S16x16x24564x1_0_0_0_1) main_v30
  let main_v34 : FVec F S16x16x24564 .f32 := shapeCast S16x16x24564 main_v33 shapeCasts_S16x16x24564x1_S16x16x24564
  let main_v35 : FVec F S16x16x24564 .f32 := mulf main_v32 main_v34
  let main_v36 : FVec F S16x16x1 .f32 := (extractStridedSlice S16x16x1 ![0, 0, 2] · slices_S16x16x4_S16x16x1_0_0_2) main_arg2
  let main_v37 : FVec F S16x16 .f32 := shapeCast S16x16 main_v36 shapeCasts_S16x16x1_S16x16
  let main_v38 : FVec F S16x16x1 .f32 := (extractStridedSlice S16x16x1 ![0, 0, 0] · slices_S16x16x4_S16x16x1_0_0_0) main_arg2
  let main_v39 : FVec F S16x16 .f32 := shapeCast S16x16 main_v38 shapeCasts_S16x16x1_S16x16
  let main_v40 : FVec F S16x16 .f32 := subf main_v37 main_v39
  let main_v41 : FVec F S16x16x1 .f32 := (extractStridedSlice S16x16x1 ![0, 0, 3] · slices_S16x16x4_S16x16x1_0_0_3) main_arg2
  let main_v42 : FVec F S16x16 .f32 := shapeCast S16x16 main_v41 shapeCasts_S16x16x1_S16x16
  let main_v43 : FVec F S16x16x1 .f32 := (extractStridedSlice S16x16x1 ![0, 0, 1] · slices_S16x16x4_S16x16x1_0_0_1) main_arg2
  let main_v44 : FVec F S16x16 .f32 := shapeCast S16x16 main_v43 shapeCasts_S16x16x1_S16x16
  fn_part2 (F := F) main_arg1 main_arg2 main_arg3 main_arg4 main_v1 main_v12 main_v35 main_v40 main_v42 main_v44

def fn {F : FTy → Type} [FloatOps F] (main_arg0 : FVec F S16x24564x4 .f32) (main_arg1 : FVec F S16x24564x81 .f32) (main_arg2 : FVec F S16x16x4 .f32) (main_arg3 : IVec S16x16 32) (main_arg4 : FVec F S24564x4 .f32) : IVec S_ 1 × IVec S_ 1 × IVec S_ 1 :=
  let main_v0 : IVec S16 32 := iotaInDim S16 32 0
  let main_v1 : IVec S16x1 32 := broadcastInDim S16x1 ![0] bcast_S16_S16x1_0 main_v0
  let main_v2 : FVec F S24564x2 .f32 := (extractStridedSlice S24564x2 ![0, 0] · slices_S24564x4_S24564x2_0_0) main_arg4
  let main_v3 : FVec F S24564x2 .f32 := (extractStridedSlice S24564x2 ![0, 2] · slices_S24564x4_S24564x2_0_2) main_arg4
  let main_cst : FVec F S_ .f32 := constant S_ .f32 0x40000000#32
  let main_v4 : FVec F S24564x2 .f32 := broadcastInDim S24564x2 ![] bcast_S_S24564x2 main_cst
  let main_v5 : FVec F S24564x2 .f32 := Host.divf main_v3 main_v4
  let main_v6 : FVec F S24564x2 .f32 := subf main_v2 main_v5
  let main_v7 : FVec F S24564x2 .f32 := (extractStridedSlice S24564x2 ![0, 0] · slices_S24564x4_S24564x2_0_0) main_arg4
  let main_v8 : FVec F S24564x2 .f32 := (extractStridedSlice S24564x2 ![0, 2] · slices_S24564x4_S24564x2_0_2) main_arg4
  let main_cst_0 : FVec F S_ .f32 := constant S_ .f32 0x40000000#32
  let main_v9 : FVec F S24564x2 .f32 := broadcastInDim S24564x2 ![] bcast_S_S24564x2 main_cst_0
  let main_v10 : FVec F S24564x2 .f32 := Host.divf main_v8 main_v9
  let main_v11 : FVec F S24564x2 .f32 := addf main_v7 main_v10
  let main_v12 : FVec F S24564x4 .f32 := (fun a b => concatenate S24564x4 1 [⟨S24564x2, a⟩, ⟨S24564x2, b⟩] concatenates_S24564x2_S24564x2_S24564x4_d1) main_v6 main_v11
  let main_v13 : FVec F S16x16x2 .f32 := (extractStridedSlice S16x16x2 ![0, 0, 0] · slices_S16x16x4_S16x16x2_0_0_0) main_arg2
  let main_v14 : FVec F S16x16x1x2 .f32 := broadcastInDim S16x16x1x2 ![0, 1, 3] bcast_S16x16x2_S16x16x1x2_0_1_3 main_v13
  let main_v15 : FVec F S24564x2 .f32 := (extractStridedSlice S24564x2 ![0, 0] · slices_S24564x4_S24564x2_0_0) main_v12
  let main_v16 : FVec F S1x24564x2 .f32 := broadcastInDim S1x24564x2 ![1, 2] bcast_S24564x2_S1x24564x2_1_2 main_v15
  let main_v17 : FVec F S1x1x24564x2 .f32 := broadcastInDim S1x1x24564x2 ![1, 2, 3] bcast_S1x24564x2_S1x1x24564x2_1_2_3 main_v16
  let main_v18 : FVec F S16x16x24564x2 .f32 := broadcastInDim S16x16x24564x2 ![0, 1, 2, 3] bcast_S16x16x1x2_S16x16x24564x2_0_1_2_3 main_v14
  let main_v19 : FVec F S16x16x24564x2 .f32 := broadcastInDim S16x16x24564x2 ![0, 1, 2, 3] bcast_S1x1x24564x2_S16x16x24564x2_0_1_2_3 main_v17
  let main_v20 : FVec F S16x16x24564x2 .f32 := maximumf main_v18 main_v19
  let main_v21 : FVec F S16x16x2 .f32 := (extractStridedSlice S16x16x2 ![0, 0, 2] · slices_S16x16x4_S16x16x2_0_0_2) main_arg2
  fn_part1 (F := F) main_arg1 main_arg2 main_arg3 main_arg4 main_v1 main_v12 main_v20 main_v21
-- ==== Kernel.lean ====
abbrev S16x24564x4 : Shape := ⟨3, ![16, 24564, 4]⟩
abbrev S16x24564x81 : Shape := ⟨3, ![16, 24564, 81]⟩
abbrev S16x16x4 : Shape := ⟨3, ![16, 16, 4]⟩
abbrev S16x16 : Shape := ⟨2, ![16, 16]⟩
abbrev S24564x4 : Shape := ⟨2, ![24564, 4]⟩
abbrev S4x24564 : Shape := ⟨2, ![4, 24564]⟩
abbrev S16x4x24564 : Shape := ⟨3, ![16, 4, 24564]⟩
abbrev S16x4x16 : Shape := ⟨3, ![16, 4, 16]⟩
abbrev S16x1x16 : Shape := ⟨3, ![16, 1, 16]⟩
abbrev S16x1x24564 : Shape := ⟨3, ![16, 1, 24564]⟩
abbrev S16x1x128 : Shape := ⟨3, ![16, 1, 128]⟩
abbrev S1x16x4 : Shape := ⟨3, ![1, 16, 4]⟩
abbrev S1x4x16 : Shape := ⟨3, ![1, 4, 16]⟩
abbrev S1x1x16 : Shape := ⟨3, ![1, 1, 16]⟩
abbrev S1x4x24564 : Shape := ⟨3, ![1, 4, 24564]⟩
abbrev S1x1x24564 : Shape := ⟨3, ![1, 1, 24564]⟩
abbrev S1x1x128 : Shape := ⟨3, ![1, 1, 128]⟩
abbrev S1x24564 : Shape := ⟨2, ![1, 24564]⟩
abbrev S16x4 : Shape := ⟨2, ![16, 4]⟩
abbrev S16x1 : Shape := ⟨2, ![16, 1]⟩
abbrev S16x24564 : Shape := ⟨2, ![16, 24564]⟩
abbrev S24564 : Shape := ⟨1, ![24564]⟩
abbrev S16 : Shape := ⟨1, ![16]⟩
abbrev S1x16 : Shape := ⟨2, ![1, 16]⟩
abbrev S4x16 : Shape := ⟨2, ![4, 16]⟩
abbrev S5x16 : Shape := ⟨2, ![5, 16]⟩
abbrev S5x24564 : Shape := ⟨2, ![5, 24564]⟩
abbrev S1 : Shape := ⟨1, ![1]⟩
abbrev S1x1x1 : Shape := ⟨3, ![1, 1, 1]⟩
abbrev S1x128 : Shape := ⟨2, ![1, 128]⟩
abbrev S1x24564x81 : Shape := ⟨3, ![1, 24564, 81]⟩
abbrev S24564x81 : Shape := ⟨2, ![24564, 81]⟩
abbrev S24564x1 : Shape := ⟨2, ![24564, 1]⟩
abbrev S8x81 : Shape := ⟨2, ![8, 81]⟩
abbrev S8x24564 : Shape := ⟨2, ![8, 24564]⟩
abbrev S8x128 : Shape := ⟨2, ![8, 128]⟩
abbrev S16x1x1 : Shape := ⟨3, ![16, 1, 1]⟩
abbrev S1x16x1 : Shape := ⟨3, ![1, 16, 1]⟩
abbrev S1x1 : Shape := ⟨2, ![1, 1]⟩
abbrev S_ : Shape := ⟨0, ![]⟩

abbrev nBuf : Space → Nat
  | .hbm => 18
  | .vmem => 25
  | .smem => 0
  | _ => 0

abbrev bufTy : (tb : Table) → Fin (tcTables nBuf tb) → BufTy
  | .hbm, ⟨0, _⟩ => ⟨S16x24564x4, .f32⟩
  | .hbm, ⟨1, _⟩ => ⟨S16x24564x81, .f32⟩
  | .hbm, ⟨2, _⟩ => ⟨S16x16x4, .f32⟩
  | .hbm, ⟨3, _⟩ => ⟨S16x16, .i32⟩
  | .hbm, ⟨4, _⟩ => ⟨S24564x4, .f32⟩
  | .hbm, ⟨5, _⟩ => ⟨S4x24564, .f32⟩
  | .hbm, ⟨6, _⟩ => ⟨S16x4x24564, .f32⟩
  | .hbm, ⟨7, _⟩ => ⟨S16x4x16, .f32⟩
  | .hbm, ⟨8, _⟩ => ⟨S16x16, .f32⟩
  | .hbm, ⟨9, _⟩ => ⟨S16x1x16, .f32⟩
  | .hbm, ⟨10, _⟩ => ⟨S16x1x24564, .i32⟩
  | .hbm, ⟨11, _⟩ => ⟨S16x1x128, .f32⟩
  | .hbm, ⟨12, _⟩ => ⟨S16x1x24564, .f32⟩
  | .hbm, ⟨13, _⟩ => ⟨S16x1x128, .f32⟩
  | .hbm, ⟨14, _⟩ => ⟨S16x24564, .f32⟩
  | .hbm, ⟨15, _⟩ => ⟨S8x128, .f32⟩
  | .hbm, ⟨16, _⟩ => ⟨S1x1, .f32⟩
  | .hbm, ⟨17, _⟩ => ⟨S_, .f32⟩
  | .local _ .vmem, ⟨0, _⟩ => ⟨S1x16x4, .f32⟩
  | .local _ .vmem, ⟨1, _⟩ => ⟨S1x16x4, .f32⟩
  | .local _ .vmem, ⟨2, _⟩ => ⟨S1x4x16, .f32⟩
  | .local _ .vmem, ⟨3, _⟩ => ⟨S1x4x16, .f32⟩
  | .local _ .vmem, ⟨4, _⟩ => ⟨S1x1x16, .f32⟩
  | .local _ .vmem, ⟨5, _⟩ => ⟨S1x1x16, .f32⟩
  | .local _ .vmem, ⟨6, _⟩ => ⟨S4x24564, .f32⟩
  | .local _ .vmem, ⟨7, _⟩ => ⟨S1x4x24564, .f32⟩
  | .local _ .vmem, ⟨8, _⟩ => ⟨S1x4x24564, .f32⟩
  | .local _ .vmem, ⟨9, _⟩ => ⟨S1x1x24564, .i32⟩
  | .local _ .vmem, ⟨10, _⟩ => ⟨S1x1x24564, .i32⟩
  | .local _ .vmem, ⟨11, _⟩ => ⟨S1x1x128, .f32⟩
  | .local _ .vmem, ⟨12, _⟩ => ⟨S1x1x128, .f32⟩
  | .local _ .vmem, ⟨13, _⟩ => ⟨S1x24564x81, .f32⟩
  | .local _ .vmem, ⟨14, _⟩ => ⟨S1x24564x81, .f32⟩
  | .local _ .vmem, ⟨15, _⟩ => ⟨S1x1x24564, .i32⟩
  | .local _ .vmem, ⟨16, _⟩ => ⟨S1x1x24564, .i32⟩
  | .local _ .vmem, ⟨17, _⟩ => ⟨S1x1x24564, .f32⟩
  | .local _ .vmem, ⟨18, _⟩ => ⟨S1x1x24564, .f32⟩
  | .local _ .vmem, ⟨19, _⟩ => ⟨S1x1x128, .f32⟩
  | .local _ .vmem, ⟨20, _⟩ => ⟨S1x1x128, .f32⟩
  | .local _ .vmem, ⟨21, _⟩ => ⟨S16x24564, .f32⟩
  | .local _ .vmem, ⟨22, _⟩ => ⟨S16x1x128, .f32⟩
  | .local _ .vmem, ⟨23, _⟩ => ⟨S16x1x128, .f32⟩
  | .local _ .vmem, ⟨24, _⟩ => ⟨S8x128, .f32⟩
  | _, _ => ⟨S16x24564x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc2_sem0_0 : DmaSem sig := 21
abbrev cc2_sem1_0 : DmaSem sig := 22
abbrev cc2_sem2_0 : DmaSem sig := 23
abbrev cc2_sem3_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x24564 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4x24564 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x24564 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x24564x81 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x24564 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x24564 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S16x24564 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S16x1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]
-- ==== ReferenceIdeal.lean ====
abbrev S16x24564x4 : Shape := ⟨3, ![16, 24564, 4]⟩
abbrev S16x24564x81 : Shape := ⟨3, ![16, 24564, 81]⟩
abbrev S16x16x4 : Shape := ⟨3, ![16, 16, 4]⟩
abbrev S16x16 : Shape := ⟨2, ![16, 16]⟩
abbrev S24564x4 : Shape := ⟨2, ![24564, 4]⟩
abbrev S16 : Shape := ⟨1, ![16]⟩
abbrev S16x1 : Shape := ⟨2, ![16, 1]⟩
abbrev S24564x2 : Shape := ⟨2, ![24564, 2]⟩
abbrev S_ : Shape := ⟨0, ![]⟩
abbrev S16x16x2 : Shape := ⟨3, ![16, 16, 2]⟩
abbrev S16x16x1x2 : Shape := ⟨4, ![16, 16, 1, 2]⟩
abbrev S1x24564x2 : Shape := ⟨3, ![1, 24564, 2]⟩
abbrev S1x1x24564x2 : Shape := ⟨4, ![1, 1, 24564, 2]⟩
abbrev S16x16x24564x2 : Shape := ⟨4, ![16, 16, 24564, 2]⟩
abbrev S16x16x24564x1 : Shape := ⟨4, ![16, 16, 24564, 1]⟩
abbrev S16x16x24564 : Shape := ⟨3, ![16, 16, 24564]⟩
abbrev S16x16x1 : Shape := ⟨3, ![16, 16, 1]⟩
abbrev S24564x1 : Shape := ⟨2, ![24564, 1]⟩
abbrev S24564 : Shape := ⟨1, ![24564]⟩
abbrev S1x24564 : Shape := ⟨2, ![1, 24564]⟩
abbrev S1x1x24564 : Shape := ⟨3, ![1, 1, 24564]⟩
abbrev S16x24564 : Shape := ⟨2, ![16, 24564]⟩
abbrev S1x16 : Shape := ⟨2, ![1, 16]⟩
abbrev S16x24564x1 : Shape := ⟨3, ![16, 24564, 1]⟩
abbrev S16x24564x2 : Shape := ⟨3, ![16, 24564, 2]⟩
abbrev S16x24564x1x1 : Shape := ⟨4, ![16, 24564, 1, 1]⟩

abbrev nBuf : Space → Nat
  | .hbm => 279
  | .vmem => 0
  | .smem => 0
  | _ => 0

abbrev hbmTy0_0 (i : Nat) : BufTy := match i % 128 with
  | 0 => ⟨S16x24564x4, .f32⟩
  | 1 => ⟨S16x24564x81, .f32⟩
  | 2 => ⟨S16x16x4, .f32⟩
  | 3 => ⟨S16x16, .i32⟩
  | 4 => ⟨S24564x4, .f32⟩
  | 5 => ⟨S16, .i32⟩
  | 6 => ⟨S16x1, .i32⟩
  | 7 => ⟨S24564x2, .f32⟩
  | 8 => ⟨S24564x2, .f32⟩
  | 9 => ⟨S_, .f32⟩
  | 10 => ⟨S24564x2, .f32⟩
  | 11 => ⟨S24564x2, .f32⟩
  | 12 => ⟨S24564x2, .f32⟩
  | 13 => ⟨S24564x2, .f32⟩
  | 14 => ⟨S24564x2, .f32⟩
  | 15 => ⟨S_, .f32⟩
  | 16 => ⟨S24564x2, .f32⟩
  | 17 => ⟨S24564x2, .f32⟩
  | 18 => ⟨S24564x2, .f32⟩
  | 19 => ⟨S24564x4, .f32⟩
  | 20 => ⟨S16x16x2, .f32⟩
  | 21 => ⟨S16x16x1x2, .f32⟩
  | 22 => ⟨S24564x2, .f32⟩
  | 23 => ⟨S1x24564x2, .f32⟩
  | 24 => ⟨S1x1x24564x2, .f32⟩
  | 25 => ⟨S16x16x24564x2, .f32⟩
  | 26 => ⟨S16x16x24564x2, .f32⟩
  | 27 => ⟨S16x16x24564x2, .f32⟩
  | 28 => ⟨S16x16x2, .f32⟩
  | 29 => ⟨S16x16x1x2, .f32⟩
  | 30 => ⟨S24564x2, .f32⟩
  | 31 => ⟨S1x24564x2, .f32⟩
  | 32 => ⟨S1x1x24564x2, .f32⟩
  | 33 => ⟨S16x16x24564x2, .f32⟩
  | 34 => ⟨S16x16x24564x2, .f32⟩
  | 35 => ⟨S16x16x24564x2, .f32⟩
  | 36 => ⟨S16x16x24564x2, .f32⟩
  | 37 => ⟨S_, .f32⟩
  | 38 => ⟨S_, .f32⟩
  | 39 => ⟨S16x16x24564x2, .f32⟩
  | 40 => ⟨S16x16x24564x2, .f32⟩
  | 41 => ⟨S16x16x24564x1, .f32⟩
  | 42 => ⟨S16x16x24564, .f32⟩
  | 43 => ⟨S16x16x24564x1, .f32⟩
  | 44 => ⟨S16x16x24564, .f32⟩
  | 45 => ⟨S16x16x24564, .f32⟩
  | 46 => ⟨S16x16x1, .f32⟩
  | 47 => ⟨S16x16, .f32⟩
  | 48 => ⟨S16x16x1, .f32⟩
  | 49 => ⟨S16x16, .f32⟩
  | 50 => ⟨S16x16, .f32⟩
  | 51 => ⟨S16x16x1, .f32⟩
  | 52 => ⟨S16x16, .f32⟩
  | 53 => ⟨S16x16x1, .f32⟩
  | 54 => ⟨S16x16, .f32⟩
  | 55 => ⟨S16x16, .f32⟩
  | 56 => ⟨S16x16, .f32⟩
  | 57 => ⟨S24564x1, .f32⟩
  | 58 => ⟨S24564, .f32⟩
  | 59 => ⟨S24564x1, .f32⟩
  | 60 => ⟨S24564, .f32⟩
  | 61 => ⟨S24564, .f32⟩
  | 62 => ⟨S24564x1, .f32⟩
  | 63 => ⟨S24564, .f32⟩
  | 64 => ⟨S24564x1, .f32⟩
  | 65 => ⟨S24564, .f32⟩
  | 66 => ⟨S24564, .f32⟩
  | 67 => ⟨S24564, .f32⟩
  | 68 => ⟨S16x16x1, .f32⟩
  | 69 => ⟨S1x24564, .f32⟩
  | 70 => ⟨S1x1x24564, .f32⟩
  | 71 => ⟨S16x16x24564, .f32⟩
  | 72 => ⟨S16x16x24564, .f32⟩
  | 73 => ⟨S16x16x24564, .f32⟩
  | 74 => ⟨S16x16x24564, .f32⟩
  | 75 => ⟨S16x16x24564, .f32⟩
  | 76 => ⟨S_, .f32⟩
  | 77 => ⟨S16x24564, .f32⟩
  | 78 => ⟨S16x16x24564, .i32⟩
  | 79 => ⟨S_, .f32⟩
  | 80 => ⟨S_, .i32⟩
  | 81 => ⟨S16x24564, .f32⟩
  | 82 => ⟨S16x24564, .i32⟩
  | 83 => ⟨S16x16x24564, .i32⟩
  | 84 => ⟨S_, .f32⟩
  | 85 => ⟨S_, .i32⟩
  | 86 => ⟨S16x16, .f32⟩
  | 87 => ⟨S16x16, .i32⟩
  | 88 => ⟨S16, .i32⟩
  | 89 => ⟨S1x16, .i32⟩
  | 90 => ⟨S_, .i32⟩
  | 91 => ⟨S16x1, .i32⟩
  | 92 => ⟨S16x1, .i1⟩
  | 93 => ⟨S_, .i32⟩
  | 94 => ⟨S16x1, .i32⟩
  | 95 => ⟨S16x1, .i32⟩
  | 96 => ⟨S16x1, .i32⟩
  | 97 => ⟨S_, .i32⟩
  | 98 => ⟨S16x16, .i32⟩
  | 99 => ⟨S16x16, .i1⟩
  | 100 => ⟨S_, .i32⟩
  | 101 => ⟨S16x16, .i32⟩
  | 102 => ⟨S16x16, .i32⟩
  | 103 => ⟨S16x16, .i32⟩
  | 104 => ⟨S16x16, .i32⟩
  | 105 => ⟨S16x16x1, .i32⟩
  | 106 => ⟨S16x16x1, .i32⟩
  | 107 => ⟨S16x16x2, .i32⟩
  | 108 => ⟨S16x16, .i32⟩
  | 109 => ⟨S16x24564, .i32⟩
  | 110 => ⟨S_, .i32⟩
  | 111 => ⟨S16x1, .i32⟩
  | 112 => ⟨S16x1, .i1⟩
  | 113 => ⟨S_, .i32⟩
  | 114 => ⟨S16x1, .i32⟩
  | 115 => ⟨S16x1, .i32⟩
  | 116 => ⟨S16x1, .i32⟩
  | 117 => ⟨S_, .i32⟩
  | 118 => ⟨S16x16, .i32⟩
  | 119 => ⟨S16x16, .i1⟩
  | 120 => ⟨S_, .i32⟩
  | 121 => ⟨S16x16, .i32⟩
  | 122 => ⟨S16x16, .i32⟩
  | 123 => ⟨S16x16, .i32⟩
  | 124 => ⟨S16x16, .i32⟩
  | 125 => ⟨S16x16x1, .i32⟩
  | 126 => ⟨S16x16x1, .i32⟩
  | 127 => ⟨S16x16x2, .i32⟩
  | _ => ⟨S16x24564x4, .f32⟩

abbrev hbmTy0_1 (i : Nat) : BufTy := match i % 128 with
  | 0 => ⟨S_, .f32⟩
  | 1 => ⟨S16x16, .f32⟩
  | 2 => ⟨S16x24564, .f32⟩
  | 3 => ⟨S_, .f32⟩
  | 4 => ⟨S16x24564, .f32⟩
  | 5 => ⟨S16x24564, .i1⟩
  | 6 => ⟨S_, .i32⟩
  | 7 => ⟨S16x1, .i32⟩
  | 8 => ⟨S16x1, .i1⟩
  | 9 => ⟨S_, .i32⟩
  | 10 => ⟨S16x1, .i32⟩
  | 11 => ⟨S16x1, .i32⟩
  | 12 => ⟨S16x1, .i32⟩
  | 13 => ⟨S_, .i32⟩
  | 14 => ⟨S16x24564, .i32⟩
  | 15 => ⟨S16x24564, .i1⟩
  | 16 => ⟨S_, .i32⟩
  | 17 => ⟨S16x24564, .i32⟩
  | 18 => ⟨S16x24564, .i32⟩
  | 19 => ⟨S16x24564, .i32⟩
  | 20 => ⟨S16x24564, .i32⟩
  | 21 => ⟨S16x24564x1, .i32⟩
  | 22 => ⟨S16x24564x1, .i32⟩
  | 23 => ⟨S16x24564x2, .i32⟩
  | 24 => ⟨S16x24564, .i32⟩
  | 25 => ⟨S_, .i32⟩
  | 26 => ⟨S_, .i32⟩
  | 27 => ⟨S16x24564, .i32⟩
  | 28 => ⟨S16x24564, .i32⟩
  | 29 => ⟨S_, .i32⟩
  | 30 => ⟨S16x1, .i32⟩
  | 31 => ⟨S16x1, .i1⟩
  | 32 => ⟨S_, .i32⟩
  | 33 => ⟨S16x1, .i32⟩
  | 34 => ⟨S16x1, .i32⟩
  | 35 => ⟨S16x1, .i32⟩
  | 36 => ⟨S_, .i32⟩
  | 37 => ⟨S16x24564, .i32⟩
  | 38 => ⟨S16x24564, .i1⟩
  | 39 => ⟨S_, .i32⟩
  | 40 => ⟨S16x24564, .i32⟩
  | 41 => ⟨S16x24564, .i32⟩
  | 42 => ⟨S16x24564, .i32⟩
  | 43 => ⟨S16x24564, .i32⟩
  | 44 => ⟨S16x24564x1, .i32⟩
  | 45 => ⟨S16x24564x1, .i32⟩
  | 46 => ⟨S16x24564x2, .i32⟩
  | 47 => ⟨S16x24564x4, .f32⟩
  | 48 => ⟨S16x24564x2, .f32⟩
  | 49 => ⟨S16x24564x2, .f32⟩
  | 50 => ⟨S16x24564x2, .f32⟩
  | 51 => ⟨S_, .f32⟩
  | 52 => ⟨S16x24564x2, .f32⟩
  | 53 => ⟨S16x24564x2, .f32⟩
  | 54 => ⟨S16x24564x2, .f32⟩
  | 55 => ⟨S16x24564x2, .f32⟩
  | 56 => ⟨S16x24564x2, .f32⟩
  | 57 => ⟨S16x24564x4, .f32⟩
  | 58 => ⟨S16x24564x2, .f32⟩
  | 59 => ⟨S24564x2, .f32⟩
  | 60 => ⟨S1x24564x2, .f32⟩
  | 61 => ⟨S16x24564x2, .f32⟩
  | 62 => ⟨S16x24564x2, .f32⟩
  | 63 => ⟨S24564x2, .f32⟩
  | 64 => ⟨S_, .f32⟩
  | 65 => ⟨S24564x2, .f32⟩
  | 66 => ⟨S24564x2, .f32⟩
  | 67 => ⟨S1x24564x2, .f32⟩
  | 68 => ⟨S16x24564x2, .f32⟩
  | 69 => ⟨S16x24564x2, .f32⟩
  | 70 => ⟨S16x24564x2, .f32⟩
  | 71 => ⟨S24564x2, .f32⟩
  | 72 => ⟨S1x24564x2, .f32⟩
  | 73 => ⟨S16x24564x2, .f32⟩
  | 74 => ⟨S16x24564x2, .f32⟩
  | 75 => ⟨S16x24564x2, .f32⟩
  | 76 => ⟨S_, .f32⟩
  | 77 => ⟨S16x24564x2, .f32⟩
  | 78 => ⟨S16x24564x2, .f32⟩
  | 79 => ⟨S16x24564x4, .f32⟩
  | 80 => ⟨S_, .i32⟩
  | 81 => ⟨S16x24564, .i32⟩
  | 82 => ⟨S16x24564, .i1⟩
  | 83 => ⟨S16x24564, .i32⟩
  | 84 => ⟨S_, .i32⟩
  | 85 => ⟨S16, .i32⟩
  | 86 => ⟨S_, .i32⟩
  | 87 => ⟨S_, .i32⟩
  | 88 => ⟨S_, .f32⟩
  | 89 => ⟨S16x24564x4, .f32⟩
  | 90 => ⟨S16x24564x4, .f32⟩
  | 91 => ⟨S16x24564x1, .i1⟩
  | 92 => ⟨S16x24564x1, .f32⟩
  | 93 => ⟨S16x24564x4, .f32⟩
  | 94 => ⟨S16x24564x4, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S16x24564, .f32⟩
  | 102 => ⟨S16x24564x1, .f32⟩
  | 103 => ⟨S16x24564x81, .f32⟩
  | 104 => ⟨S16x24564x81, .f32⟩
  | 105 => ⟨S16x24564x81, .f32⟩
  | 106 => ⟨S_, .f32⟩
  | 107 => ⟨S16x24564, .f32⟩
  | 108 => ⟨S16x24564, .f32⟩
  | 109 => ⟨S16x24564, .f32⟩
  | 110 => ⟨S16x24564x1, .i32⟩
  | 111 => ⟨S_, .i32⟩
  | 112 => ⟨S16x24564x1, .i32⟩
  | 113 => ⟨S16x24564x1, .i1⟩
  | 114 => ⟨S_, .i32⟩
  | 115 => ⟨S16x24564x1, .i32⟩
  | 116 => ⟨S16x24564x1, .i32⟩
  | 117 => ⟨S16x24564x1, .i32⟩
  | 118 => ⟨S16x24564x1x1, .i32⟩
  | 119 => ⟨S16x24564x1, .f32⟩
  | 120 => ⟨S16x24564, .f32⟩
  | 121 => ⟨S16x24564, .f32⟩
  | 122 => ⟨S16x24564, .f32⟩
  | 123 => ⟨S16x24564, .f32⟩
  | 124 => ⟨S_, .f32⟩
  | 125 => ⟨S_, .f32⟩
  | 126 => ⟨S24564, .i32⟩
  | 127 => ⟨S1x24564, .i32⟩
  | _ => ⟨S16x24564x4, .f32⟩

abbrev hbmTy0_2 (i : Nat) : BufTy := match i % 128 with
  | 0 => ⟨S_, .i32⟩
  | 1 => ⟨S16, .i32⟩
  | 2 => ⟨S16, .i32⟩
  | 3 => ⟨S16x1, .i32⟩
  | 4 => ⟨S16x24564, .i32⟩
  | 5 => ⟨S16x24564, .i32⟩
  | 6 => ⟨S16x24564, .i1⟩
  | 7 => ⟨S_, .f32⟩
  | 8 => ⟨S_, .f32⟩
  | 9 => ⟨S16x24564, .f32⟩
  | 10 => ⟨S16x24564, .f32⟩
  | 11 => ⟨S16x24564, .f32⟩
  | 12 => ⟨S16x24564, .f32⟩
  | 13 => ⟨S16x24564, .f32⟩
  | 14 => ⟨S16x24564, .f32⟩
  | 15 => ⟨S16x24564, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | _ => ⟨S16x24564x4, .f32⟩

abbrev hbmTy (i : Nat) : BufTy := match i / 128 with
  | 0 => hbmTy0_0 i
  | 1 => hbmTy0_1 i
  | 2 => hbmTy0_2 i
  | _ => ⟨S16x24564x4, .f32⟩

abbrev bufTy : (tb : Table) → Fin (tcTables nBuf tb) → BufTy
  | .hbm, ⟨i, _⟩ => hbmTy i
  | _, _ => ⟨S16x24564x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_2 : Ref sig .tc := ⟨.hbm, 76, rfl⟩
abbrev main_v66 : Ref sig .tc := ⟨.hbm, 77, rfl⟩
abbrev main_call1_v0 : Ref sig .tc := ⟨.hbm, 78, rfl⟩
abbrev main_call1_cst : Ref sig .tc := ⟨.hbm, 79, rfl⟩
abbrev main_call1_c : Ref sig .tc := ⟨.hbm, 80, rfl⟩
abbrev main_call1_v1_0 : Ref sig .tc := ⟨.hbm, 81, rfl⟩
abbrev main_v67 : Ref sig .tc := ⟨.hbm, 82, rfl⟩
abbrev main_call2_v0 : Ref sig .tc := ⟨.hbm, 83, rfl⟩
abbrev main_call2_cst : Ref sig .tc := ⟨.hbm, 84, rfl⟩
abbrev main_call2_c : Ref sig .tc := ⟨.hbm, 85, rfl⟩
abbrev main_call2_v1_0 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_c : Ref sig .tc := ⟨.hbm, 90, rfl⟩
abbrev main_v71 : Ref sig .tc := ⟨.hbm, 91, rfl⟩
abbrev main_v72 : Ref sig .tc := ⟨.hbm, 92, rfl⟩
abbrev main_c_3 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_4 : Ref sig .tc := ⟨.hbm, 97, rfl⟩
abbrev main_v76 : Ref sig .tc := ⟨.hbm, 98, rfl⟩
abbrev main_v77 : Ref sig .tc := ⟨.hbm, 99, rfl⟩
abbrev main_c_5 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_c_6 : Ref sig .tc := ⟨.hbm, 110, rfl⟩
abbrev main_v87 : Ref sig .tc := ⟨.hbm, 111, rfl⟩
abbrev main_v88 : Ref sig .tc := ⟨.hbm, 112, rfl⟩
abbrev main_c_7 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_c_8 : Ref sig .tc := ⟨.hbm, 117, rfl⟩
abbrev main_v92 : Ref sig .tc := ⟨.hbm, 118, rfl⟩
abbrev main_v93 : Ref sig .tc := ⟨.hbm, 119, rfl⟩
abbrev main_c_9 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_10 : Ref sig .tc := ⟨.hbm, 128, rfl⟩
abbrev main_v101 : Ref sig .tc := ⟨.hbm, 129, rfl⟩
abbrev main_v102 : Ref sig .tc := ⟨.hbm, 130, rfl⟩
abbrev main_cst_11 : Ref sig .tc := ⟨.hbm, 131, rfl⟩
abbrev main_v103 : Ref sig .tc := ⟨.hbm, 132, rfl⟩
abbrev main_v104 : Ref sig .tc := ⟨.hbm, 133, rfl⟩
abbrev main_c_12 : Ref sig .tc := ⟨.hbm, 134, rfl⟩
abbrev main_v105 : Ref sig .tc := ⟨.hbm, 135, rfl⟩
abbrev main_v106 : Ref sig .tc := ⟨.hbm, 136, rfl⟩
abbrev main_c_13 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_c_14 : Ref sig .tc := ⟨.hbm, 141, rfl⟩
abbrev main_v110 : Ref sig .tc := ⟨.hbm, 142, rfl⟩
abbrev main_v111 : Ref sig .tc := ⟨.hbm, 143, rfl⟩
abbrev main_c_15 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_c_16 : Ref sig .tc := ⟨.hbm, 153, rfl⟩
abbrev main_call3_v0 : Ref sig .tc := ⟨.hbm, 154, rfl⟩
abbrev main_call3_v1 : Ref sig .tc := ⟨.hbm, 155, rfl⟩
abbrev main_v120 : Ref sig .tc := ⟨.hbm, 156, rfl⟩
abbrev main_c_17 : Ref sig .tc := ⟨.hbm, 157, rfl⟩
abbrev main_v121 : Ref sig .tc := ⟨.hbm, 158, rfl⟩
abbrev main_v122 : Ref sig .tc := ⟨.hbm, 159, rfl⟩
abbrev main_c_18 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_c_19 : Ref sig .tc := ⟨.hbm, 164, rfl⟩
abbrev main_v126 : Ref sig .tc := ⟨.hbm, 165, rfl⟩
abbrev main_v127 : Ref sig .tc := ⟨.hbm, 166, rfl⟩
abbrev main_c_20 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_21 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_cst_22 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_cst_23 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_c_24 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_c_25 : Ref sig .tc := ⟨.hbm, 212, rfl⟩
abbrev main_v168 : Ref sig .tc := ⟨.hbm, 213, rfl⟩
abbrev main_c_26 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_cst_27 : Ref sig .tc := ⟨.hbm, 223, rfl⟩
abbrev main_v177 : Ref sig .tc := ⟨.hbm, 224, rfl⟩
abbrev main_cst_28 : Ref sig .tc := ⟨.hbm, 225, rfl⟩
abbrev main_v178 : Ref sig .tc := ⟨.hbm, 226, rfl⟩
abbrev main_v179 : Ref sig .tc := ⟨.hbm, 227, rfl⟩
abbrev main_cst_29 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_cst_30 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_call4_c : Ref sig .tc := ⟨.hbm, 239, rfl⟩
abbrev main_call4_v0 : Ref sig .tc := ⟨.hbm, 240, rfl⟩
abbrev main_call4_v1 : Ref sig .tc := ⟨.hbm, 241, rfl⟩
abbrev main_call4_c_0 : Ref sig .tc := ⟨.hbm, 242, rfl⟩
abbrev main_call4_v2 : Ref sig .tc := ⟨.hbm, 243, rfl⟩
abbrev main_call4_v3 : Ref sig .tc := ⟨.hbm, 244, rfl⟩
abbrev main_call4_v4 : Ref sig .tc := ⟨.hbm, 245, rfl⟩
abbrev main_call4_v5 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_cst_31 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_c_32 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_cst_33 : Ref sig .tc := ⟨.hbm, 263, rfl⟩
abbrev main_call5_v0 : Ref sig .tc := ⟨.hbm, 264, rfl⟩
abbrev main_call5_v1 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_cst_34 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_cst_35 : Ref sig .tc := ⟨.hbm, 276, rfl⟩
abbrev main_v212 : Ref sig .tc := ⟨.hbm, 277, rfl⟩
abbrev main_v213 : Ref sig .tc := ⟨.hbm, 278, rfl⟩

abbrev nD : Nat := 1
abbrev τ : Topo := Topo.v7x

variable {F : FTy → Type} [FloatOps F]
-- ==== Proof.RefRun.lean ====
module

public import proofs.«01_k».proof.Defs
public import proofs.«01_k».proof.Proof.Gen.ReferenceIdeal
public import Idealize.ShloMosaic.Adequacy
public import Idealize.ShloMosaic.Init
public import Idealize.ShloMosaic.Lib.Claim
public import Idealize.ShloMosaic.Lib.Quiescent
public import Idealize.ShloMosaic.Lib.StableHlo.RunRead

/-! The reference program as one line of host operations, cut into stretches at the arrays the proof names. -/

@[expose] public section
noncomputable section
namespace Cert.ReferenceIdeal.Run
open Idealize.ShloMosaic Idealize.SL.Sem Cert.ReferenceIdeal Cert.ReferenceIdeal.Facts₀

variable {F : FTy → Type} [FloatOps F]

/-- The operations that compute the overlaps of every object with every prior. -/
def opsIou : List (HloOp τ sig (Elt F)) :=
  [StableHlo.nullary main_v0 (iotaInDim S16 32 0),
   StableHlo.unary main_v0 main_v1 (broadcastInDim S16x1 ![0] bcast_S16_S16x1_0 : (⟨S16, .i32⟩ : BufTy).Contents (Elt F) → (⟨S16x1, .i32⟩ : BufTy).Contents (Elt F)),
   StableHlo.unary main_arg4 main_v2 ((extractStridedSlice S24564x2 ![0, 0] · slices_S24564x4_S24564x2_0_0) : (⟨S24564x4, .f32⟩ : BufTy).Contents (Elt F) → (⟨S24564x2, .f32⟩ : BufTy).Contents (Elt F)),
   StableHlo.unary main_arg4 main_v3 ((extractStridedSlice S24564x2 ![0, 2] · slices_S24564x4_S24564x2_0_2) : (⟨S24564x4, .f32⟩ : BufTy).Contents (Elt F) → (⟨S24564x2, .f32⟩ : BufTy).Contents (Elt F)),
   StableHlo.nullary main_cst (constant S_ .f32 0x40000000#32),
   StableHlo.unary main_cst main_v4 (broadcastInDim S24564x2 ![] bcast_S_S24564x2 : (⟨S_, .f32⟩ : BufTy).Contents (Elt F) → (⟨S24564x2, .f32⟩ : BufTy).Contents (Elt F)),
   StableHlo.binary main_v3 main_v4 main_v5 (Host.divf : (⟨S24564x2, .f32⟩ : BufTy).Contents (Elt F) → (⟨S24564x2, .f32⟩ : BufTy).Contents (Elt F) → (⟨S24564x2, .f32⟩ : BufTy).Contents (Elt F)),
   StableHlo.binary main_v2 main_v5 main_v6 (subf : (⟨S24564x2, .f32⟩ : BufTy).Contents (Elt F) → (⟨S24564x2, .f32⟩ : BufTy).Contents (Elt F) → (⟨S24564x2, .f32⟩ : BufTy).Contents (Elt F)),
   StableHlo.unary main_arg4 main_v7 ((extractStridedSlice S24564x2 ![0, 0] · slices_S24564x4_S24564x2_0_0) : (⟨S24564x4, .f32⟩ : BufTy).Contents (Elt F) → (⟨S24564x2, .f32⟩ : BufTy).Contents (Elt F)),
   StableHlo.unary main_arg4 main_v8 ((extractStridedSlice S24564x2 ![0, 2] · slices_S24564x4_S24564x2_0_2) : (⟨S24564x4, .f32⟩ : BufTy).Contents (Elt F) → (⟨S24564x2, .f32⟩ : BufTy).Contents (Elt F)),
   StableHlo.nullary main_cst_0 (constant S_ .f32 0x40000000#32),
   StableHlo.unary main_cst_0 main_v9 (broadcastInDim S24564x2 ![] bcast_S_S24564x2 : (⟨S_, .f32⟩ : BufTy).Contents (Elt F) → (⟨S24564x2, .f32⟩ : BufTy).Contents (Elt F)),
   StableHlo.binary main_v8 main_v9 main_v10 (Host.divf : (⟨S24564x2, .f32⟩ : BufTy).Contents (Elt F) → (⟨S24564x2, .f32⟩ : BufTy).Contents (Elt F) → (⟨S24564x2, .f32⟩ : BufTy).Contents (Elt F)),
   StableHlo.binary main_v7 main_v10 main_v11 (addf : (⟨S24564x2, .f32⟩ : BufTy).Contents (Elt F) → (⟨S24564x2, .f32⟩ : BufTy).Contents (Elt F) → (⟨S24564x2, .f32⟩ : BufTy).Contents (Elt F)),
   StableHlo.binary main_v6 main_v11 main_v12 ((fun a b => concatenate S24564x4 1 [⟨S24564x2, a⟩, ⟨S24564x2, b⟩] concatenates_S24564x2_S24564x2_S24564x4_d1) : (⟨S24564x2, .f32⟩ : BufTy).Contents (Elt F) → (⟨S24564x2, .f32⟩ : BufTy).Contents (Elt F) → (⟨S24564x4, .f32⟩ : BufTy).Contents (Elt F)),
   StableHlo.unary main_arg2 main_v13 ((extractStridedSlice S16x16x2 ![0, 0, 0] · slices_S16x16x4_S16x16x2_0_0_0) : (⟨S16x16x4, .f32⟩ : BufTy).Contents (Elt F) → (⟨S16x16x2, .f32⟩ : BufTy).Contents (Elt F)),
   StableHlo.unary main_v13 main_v14 (broadcastInDim S16x16x1x2 ![0, 1, 3] bcast_S16x16x2_S16x16x1x2_0_1_3 : (⟨S16x16x2, .f32⟩ : BufTy).Contents (Elt F) → (⟨S16x16x1x2, .f32⟩ : BufTy).Contents (Elt F)),
   StableHlo.unary main_v12 main_v15 ((extractStridedSlice S24564x2 ![0, 0] · slices_S24564x4_S24564x2_0_0) : (⟨S24564x4, .f32⟩ : BufTy).Contents (Elt F) → (⟨S24564x2, .f32⟩ : BufTy).Contents (Elt F)),
   StableHlo.unary main_v15 main_v16 (broadcastInDim S1x24564x2 ![1, 2] bcast_S24564x2_S1x24564x2_1_2 : (⟨S24564x2, .f32⟩ : BufTy).Contents (Elt F) → (⟨S1x24564x2, .f32⟩ : BufTy).Contents (Elt F)),
   StableHlo.unary main_v16 main_v17 (broadcastInDim S1x1x24564x2 ![1, 2, 3] bcast_S1x24564x2_S1x1x24564x2_1_2_3 : (⟨S1x24564x2, .f32⟩ : BufTy).Contents (Elt F) → (⟨S1x1x24564x2, .f32⟩ : BufTy).Contents (Elt F)),
   StableHlo.unary main_v14 main_v18 (broadcastInDim S16x16x24564x2 ![0, 1, 2, 3] bcast_S16x16x1x2_S16x16x24564x2_0_1_2_3 : (⟨S16x16x1x2, .f32⟩ : BufTy).Contents (Elt F) → (⟨S16x16x24564x2, .f32⟩ : BufTy).Contents (Elt F)),
   StableHlo.unary main_v17 main_v19 (broadcastInDim S16x16x24564x2 ![0, 1, 2, 3] bcast_S1x1x24564x2_S16x16x24564x2_0_1_2_3 : (⟨S1x1x24564x2, .f32⟩ : BufTy).Contents (Elt F) → (⟨S16x16x24564x2, .f32⟩ : BufTy).Contents (Elt F)),
   StableHlo.binary main_v18 main_v19 main_v20 (maximumf : (⟨S16x16x24564x2, .f32⟩ : BufTy).Contents (Elt F) → (⟨S16x16x24564x2, .f32⟩ : BufTy).Contents (Elt F) → (⟨S16x16x24564x2, .f32⟩ : BufTy).Contents (Elt F)),
   StableHlo.unary main_arg2 main_v21 ((extractStridedSlice S16x16x2 ![0, 0, 2] · slices_S16x16x4_S16x16x2_0_0_2) : (⟨S16x16x4, .f32⟩ : BufTy).Contents (Elt F) → (⟨S16x16x2, .f32⟩ : BufTy).Contents (Elt F)),
   StableHlo.unary main_v21 main_v22 (broadcastInDim S16x16x1x2 ![0, 1, 3] bcast_S16x16x2_S16x16x1x2_0_1_3 : (⟨S16x16x2, .f32⟩ : BufTy).Contents (Elt F) → (⟨S16x16x1x2, .f32⟩ : BufTy).Contents (Elt F)),
   StableHlo.unary main_v12 main_v23 ((extractStridedSlice S24564x2 ![0, 2] · slices_S24564x4_S24564x2_0_2) : (⟨S24564x4, .f32⟩ : BufTy).Contents (Elt F) → (⟨S24564x2, .f32⟩ : BufTy).Contents (Elt F)),
   StableHlo.unary main_v23 main_v24 (broadcastInDim S1x24564x2 ![1, 2] bcast_S24564x2_S1x24564x2_1_2 : (⟨S24564x2, .f32⟩ : BufTy).Contents (Elt F) → (⟨S1x24564x2, .f32⟩ : BufTy).Contents (Elt F)),
   StableHlo.unary main_v24 main_v25 (broadcastInDim S1x1x24564x2 ![1, 2, 3] bcast_S1x24564x2_S1x1x24564x2_1_2_3 : (⟨S1x24564x2, .f32⟩ : BufTy).Contents (Elt F) → (⟨S1x1x24564x2, .f32⟩ : BufTy).Contents (Elt F)),
   StableHlo.unary main_v22 main_v26 (broadcastInDim S16x16x24564x2 ![0, 1, 2, 3] bcast_S16x16x1x2_S16x16x24564x2_0_1_2_3 : (⟨S16x16x1x2, .f32⟩ : BufTy).Contents (Elt F) → (⟨S16x16x24564x2, .f32⟩ : BufTy).Contents (Elt F)),
   StableHlo.unary main_v25 main_v27 (broadcastInDim S16x16x24564x2 ![0, 1, 2, 3] bcast_S1x1x24564x2_S16x16x24564x2_0_1_2_3 : (⟨S1x1x24564x2, .f32⟩ : BufTy).Contents (Elt F) → (⟨S16x16x24564x2, .f32⟩ : BufTy).Contents (Elt F)),
   StableHlo.binary main_v26 main_v27 main_v28 (minimumf : (⟨S16x16x24564x2, .f32⟩ : BufTy).Contents (Elt F) → (⟨S16x16x24564x2, .f32⟩ : BufTy).Contents (Elt F) → (⟨S16x16x24564x2, .f32⟩ : BufTy).Contents (Elt F)),
   StableHlo.binary main_v28 main_v20 main_v29 (subf : (⟨S16x16x24564x2, .f32⟩ : BufTy).Contents (Elt F) → (⟨S16x16x24564x2, .f32⟩ : BufTy).Contents (Elt F) → (⟨S16x16x24564x2, .f32⟩ : BufTy).Contents (Elt F)),
   StableHlo.nullary main_cst_1 (constant S_ .f32 0x00000000#32),
   StableHlo.TRef.unary (.of main_cst_1) main_call0.v0 id,
   StableHlo.TRef.unary main_call0.v0 main_call0.v1 (broadcastInDim S16x16x24564x2 ![] bcast_S_S16x16x24564x2),
   StableHlo.TRef.binary main_call0.v1 (.of main_v29) main_call0.v2 maximumf,
   StableHlo.unary main_v30 main_v31 ((extractStridedSlice S16x16x24564x1 ![0, 0, 0, 0] · slices_S16x16x24564x2_S16x16x24564x1_0_0_0_0) : (⟨S16x16x24564x2, .f32⟩ : BufTy).Contents (Elt F) → (⟨S16x16x24564x1, .f32⟩ : BufTy).Contents (Elt F)),
   StableHlo.reshape main_v31 main_v32 (rfl : (.f32 : EltTy) = .f32) shapeCasts_S16x16x24564x1_S16x16x24564,
   StableHlo.unary main_v30 main_v33 ((extractStridedSlice S16x16x24564x1 ![0, 0, 0, 1] · slices_S16x16x24564x2_S16x16x24564x1_0_0_0_1) : (⟨S16x16x24564x2, .f32⟩ : BufTy).Contents (Elt F) → (⟨S16x16x24564x1, .f32⟩ : BufTy).Contents (Elt F)),
   StableHlo.reshape main_v33 main_v34 (rfl : (.f32 : EltTy) = .f32) shapeCasts_S16x16x24564x1_S16x16x24564,
   StableHlo.binary main_v32 main_v34 main_v35 (mulf : (⟨S16x16x24564, .f32⟩ : BufTy).Contents (Elt F) → (⟨S16x16x24564, .f32⟩ : BufTy).Contents (Elt F) → (⟨S16x16x24564, .f32⟩ : BufTy).Contents (Elt F)),
   StableHlo.unary main_arg2 main_v36 ((extractStridedSlice S16x16x1 ![0, 0, 2] · slices_S16x16x4_S16x16x1_0_0_2) : (⟨S16x16x4, .f32⟩ : BufTy).Contents (Elt F) → (⟨S16x16x1, .f32⟩ : BufTy).Contents (Elt F)),
   StableHlo.reshape main_v36 main_v37 (rfl : (.f32 : EltTy) = .f32) shapeCasts_S16x16x1_S16x16,
   StableHlo.unary main_arg2 main_v38 ((extractStridedSlice S16x16x1 ![0, 0, 0] · slices_S16x16x4_S16x16x1_0_0_0) : (⟨S16x16x4, .f32⟩ : BufTy).Contents (Elt F) → (⟨S16x16x1, .f32⟩ : BufTy).Contents (Elt F)),
   StableHlo.reshape main_v38 main_v39 (rfl : (.f32 : EltTy) = .f32) shapeCasts_S16x16x1_S16x16,
   StableHlo.binary main_v37 main_v39 main_v40 (subf : (⟨S16x16, .f32⟩ : BufTy).Contents (Elt F) → (⟨S16x16, .f32⟩ : BufTy).Contents (Elt F) → (⟨S16x16, .f32⟩ : BufTy).Contents (Elt F)),
   StableHlo.unary main_arg2 main_v41 ((extractStridedSlice S16x16x1 ![0, 0, 3] · slices_S16x16x4_S16x16x1_0_0_3) : (⟨S16x16x4, .f32⟩ : BufTy).Contents (Elt F) → (⟨S16x16x1, .f32⟩ : BufTy).Contents (Elt F)),
   StableHlo.reshape main_v41 main_v42 (rfl : (.f32 : EltTy) = .f32) shapeCasts_S16x16x1_S16x16,
   StableHlo.unary main_arg2 main_v43 ((extractStridedSlice S16x16x1 ![0, 0, 1] · slices_S16x16x4_S16x16x1_0_0_1) : (⟨S16x16x4, .f32⟩ : BufTy).Contents (Elt F) → (⟨S16x16x1, .f32⟩ : BufTy).Contents (Elt F)),
   StableHlo.reshape main_v43 main_v44 (rfl : (.f32 : EltTy) = .f32) shapeCasts_S16x16x1_S16x16,
   StableHlo.binary main_v42 main_v44 main_v45 (subf : (⟨S16x16, .f32⟩ : BufTy).Contents (Elt F) → (⟨S16x16, .f32⟩ : BufTy).Contents (Elt F) → (⟨S16x16, .f32⟩ : BufTy).Contents (Elt F)),
   StableHlo.binary main_v40 main_v45 main_v46 (mulf : (⟨S16x16, .f32⟩ : BufTy).Contents (Elt F) → (⟨S16x16, .f32⟩ : BufTy).Contents (Elt F) → (⟨S16x16, .f32⟩ : BufTy).Contents (Elt F)),
   StableHlo.unary main_v12 main_v47 ((extractStridedSlice S24564x1 ![0, 2] · slices_S24564x4_S24564x1_0_2) : (⟨S24564x4, .f32⟩ : BufTy).Contents (Elt F) → (⟨S24564x1, .f32⟩ : BufTy).Contents (Elt F)),
   StableHlo.reshape main_v47 main_v48 (rfl : (.f32 : EltTy) = .f32) shapeCasts_S24564x1_S24564,
   StableHlo.unary main_v12 main_v49 ((extractStridedSlice S24564x1 ![0, 0] · slices_S24564x4_S24564x1_0_0) : (⟨S24564x4, .f32⟩ : BufTy).Contents (Elt F) → (⟨S24564x1, .f32⟩ : BufTy).Contents (Elt F)),
   StableHlo.reshape main_v49 main_v50 (rfl : (.f32 : EltTy) = .f32) shapeCasts_S24564x1_S24564,
   StableHlo.binary main_v48 main_v50 main_v51 (subf : (⟨S24564, .f32⟩ : BufTy).Contents (Elt F) → (⟨S24564, .f32⟩ : BufTy).Contents (Elt F) → (⟨S24564, .f32⟩ : BufTy).Contents (Elt F)),
   StableHlo.unary main_v12 main_v52 ((extractStridedSlice S24564x1 ![0, 3] · slices_S24564x4_S24564x1_0_3) : (⟨S24564x4, .f32⟩ : BufTy).Contents (Elt F) → (⟨S24564x1, .f32⟩ : BufTy).Contents (Elt F)),
   StableHlo.reshape main_v52 main_v53 (rfl : (.f32 : EltTy) = .f32) shapeCasts_S24564x1_S24564,
   StableHlo.unary main_v12 main_v54 ((extractStridedSlice S24564x1 ![0, 1] · slices_S24564x4_S24564x1_0_1) : (⟨S24564x4, .f32⟩ : BufTy).Contents (Elt F) → (⟨S24564x1, .f32⟩ : BufTy).Contents (Elt F)),
   StableHlo.reshape main_v54 main_v55 (rfl : (.f32 : EltTy) = .f32) shapeCasts_S24564x1_S24564,
   StableHlo.binary main_v53 main_v55 main_v56 (subf : (⟨S24564, .f32⟩ : BufTy).Contents (Elt F) → (⟨S24564, .f32⟩ : BufTy).Contents (Elt F) → (⟨S24564, .f32⟩ : BufTy).Contents (Elt F)),
   StableHlo.binary main_v51 main_v56 main_v57 (mulf : (⟨S24564, .f32⟩ : BufTy).Contents (Elt F) → (⟨S24564, .f32⟩ : BufTy).Contents (Elt F) → (⟨S24564, .f32⟩ : BufTy).Contents (Elt F)),
   StableHlo.unary main_v46 main_v58 (broadcastInDim S16x16x1 ![0, 1] bcast_S16x16_S16x16x1_0_1 : (⟨S16x16, .f32⟩ : BufTy).Contents (Elt F) → (⟨S16x16x1, .f32⟩ : BufTy).Contents (Elt F)),
   StableHlo.unary main_v57 main_v59 (broadcastInDim S1x24564 ![1] bcast_S24564_S1x24564_1 : (⟨S24564, .f32⟩ : BufTy).Contents (Elt F) → (⟨S1x24564, .f32⟩ : BufTy).Contents (Elt F)),
   StableHlo.unary main_v59 main_v60 (broadcastInDim S1x1x24564 ![1, 2] bcast_S1x24564_S1x1x24564_1_2 : (⟨S1x24564, .f32⟩ : BufTy).Contents (Elt F) → (⟨S1x1x24564, .f32⟩ : BufTy).Contents (Elt F)),
   StableHlo.unary main_v58 main_v61 (broadcastInDim S16x16x24564 ![0, 1, 2] bcast_S16x16x1_S16x16x24564_0_1_2 : (⟨S16x16x1, .f32⟩ : BufTy).Contents (Elt F) → (⟨S16x16x24564, .f32⟩ : BufTy).Contents (Elt F)),
   StableHlo.unary main_v60 main_v62 (broadcastInDim S16x16x24564 ![0, 1, 2] bcast_S1x1x24564_S16x16x24564_0_1_2 : (⟨S1x1x24564, .f32⟩ : BufTy).Contents (Elt F) → (⟨S16x16x24564, .f32⟩ : BufTy).Contents (Elt F)),
   StableHlo.binary main_v61 main_v62 main_v63 (addf : (⟨S16x16x24564, .f32⟩ : BufTy).Contents (Elt F) → (⟨S16x16x24564, .f32⟩ : BufTy).Contents (Elt F) → (⟨S16x16x24564, .f32⟩ : BufTy).Contents (Elt F)),
   StableHlo.binary main_v63 main_v35 main_v64 (subf : (⟨S16x16x24564, .f32⟩ : BufTy).Contents (Elt F) → (⟨S16x16x24564, .f32⟩ : BufTy).Contents (Elt F) → (⟨S16x16x24564, .f32⟩ : BufTy).Contents (Elt F)),
   StableHlo.binary main_v35 main_v64 main_v65 (Host.divf : (⟨S16x16x24564, .f32⟩ : BufTy).Contents (Elt F) → (⟨S16x16x24564, .f32⟩ : BufTy).Contents (Elt F) → (⟨S16x16x24564, .f32⟩ : BufTy).Contents (Elt F))]

/-- The operations that compute the greatest overlap of each prior, its object, and each object's prior. -/
def opsBest : List (HloOp τ sig (Elt F)) :=
  [StableHlo.nullary main_cst_2 (constant S_ .f32 0xFF800000#32),
   StableHlo.binary main_v65 main_cst_2 main_v66 ((fun x v => Host.reduce FloatOps.maximumf x v reducesTo_S16x16x24564_S16x24564_d1 h_S_) : (⟨S16x16x24564, .f32⟩ : BufTy).Contents (Elt F) → (⟨S_, .f32⟩ : BufTy).Contents (Elt F) → (⟨S16x24564, .f32⟩ : BufTy).Contents (Elt F)),
   StableHlo.TRef.nullary main_call1.v0 (iotaInDim S16x16x24564 32 1),
   StableHlo.TRef.nullary main_call1.cst (constant S_ .f32 0xFF800000#32),
   StableHlo.TRef.nullary main_call1.c (constantI S_ 32 0#32),
   StableHlo.TRef.quaternary (.of main_v65) main_call1.v0 main_call1.cst main_call1.c main_call1.v1_0 (fun x y u v j => (Host.argReduce reducer_argmax_f32_i32 x y u v reducesTo_S16x16x24564_S16x24564_d1 h_S_ j).1),
   StableHlo.TRef.quaternary (.of main_v65) main_call1.v0 main_call1.cst main_call1.c main_call1.v1_1 (fun x y u v j => (Host.argReduce reducer_argmax_f32_i32 x y u v reducesTo_S16x16x24564_S16x24564_d1 h_S_ j).2),
   StableHlo.TRef.nullary main_call2.v0 (iotaInDim S16x16x24564 32 2),
   StableHlo.TRef.nullary main_call2.cst (constant S_ .f32 0xFF800000#32),
   StableHlo.TRef.nullary main_call2.c (constantI S_ 32 0#32),
   StableHlo.TRef.quaternary (.of main_v65) main_call2.v0 main_call2.cst main_call2.c main_call2.v1_0 (fun x y u v j => (Host.argReduce reducer_argmax_f32_i32 x y u v reducesTo_S16x16x24564_S16x16_d2 h_S_ j).1),
   StableHlo.TRef.quaternary (.of main_v65) main_call2.v0 main_call2.cst main_call2.c main_call2.v1_1 (fun x y u v j => (Host.argReduce reducer_argmax_f32_i32 x y u v reducesTo_S16x16x24564_S16x16_d2 h_S_ j).2)]

/-- The operations that compute each prior's object once every object has claimed its best prior. -/
def opsPair : List (HloOp τ sig (Elt F)) :=
  [StableHlo.nullary main_v69 (iotaInDim S16 32 0),
   StableHlo.unary main_v69 main_v70 (broadcastInDim S1x16 ![1] bcast_S16_S1x16_1 : (⟨S16, .i32⟩ : BufTy).Contents (Elt F) → (⟨S1x16, .i32⟩ : BufTy).Contents (Elt F)),
   StableHlo.nullary main_c (constantI S_ 32 0#32),
   StableHlo.unary main_c main_v71 (broadcastInDim S16x1 ![] bcast_S_S16x1 : (⟨S_, .i32⟩ : BufTy).Contents (Elt F) → (⟨S16x1, .i32⟩ : BufTy).Contents (Elt F)),
   StableHlo.binary main_v1 main_v71 main_v72 (cmpi .slt : (⟨S16x1, .i32⟩ : BufTy).Contents (Elt F) → (⟨S16x1, .i32⟩ : BufTy).Contents (Elt F) → (⟨S16x1, .i1⟩ : BufTy).Contents (Elt F)),
   StableHlo.nullary main_c_3 (constantI S_ 32 16#32),
   StableHlo.unary main_c_3 main_v73 (broadcastInDim S16x1 ![] bcast_S_S16x1 : (⟨S_, .i32⟩ : BufTy).Contents (Elt F) → (⟨S16x1, .i32⟩ : BufTy).Contents (Elt F)),
   StableHlo.binary main_v1 main_v73 main_v74 (addi : (⟨S16x1, .i32⟩ : BufTy).Contents (Elt F) → (⟨S16x1, .i32⟩ : BufTy).Contents (Elt F) → (⟨S16x1, .i32⟩ : BufTy).Contents (Elt F)),
   StableHlo.ternary main_v72 main_v74 main_v1 main_v75 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
   StableHlo.nullary main_c_4 (constantI S_ 32 0#32),
   StableHlo.unary main_c_4 main_v76 (broadcastInDim S16x16 ![] bcast_S_S16x16 : (⟨S_, .i32⟩ : BufTy).Contents (Elt F) → (⟨S16x16, .i32⟩ : BufTy).Contents (Elt F)),
   StableHlo.binary main_v68 main_v76 main_v77 (cmpi .slt : (⟨S16x16, .i32⟩ : BufTy).Contents (Elt F) → (⟨S16x16, .i32⟩ : BufTy).Contents (Elt F) → (⟨S16x16, .i1⟩ : BufTy).Contents (Elt F)),
   StableHlo.nullary main_c_5 (constantI S_ 32 24564#32),
   StableHlo.unary main_c_5 main_v78 (broadcastInDim S16x16 ![] bcast_S_S16x16 : (⟨S_, .i32⟩ : BufTy).Contents (Elt F) → (⟨S16x16, .i32⟩ : BufTy).Contents (Elt F)),
   StableHlo.binary main_v68 main_v78 main_v79 (addi : (⟨S16x16, .i32⟩ : BufTy).Contents (Elt F) → (⟨S16x16, .i32⟩ : BufTy).Contents (Elt F) → (⟨S16x16, .i32⟩ : BufTy).Contents (Elt F)),
   StableHlo.ternary main_v77 main_v79 main_v68 main_v80 (select : (⟨S16x16, .i1⟩ : BufTy).Contents (Elt F) → (⟨S16x16, .i32⟩ : BufTy).Contents (Elt F) → (⟨S16x16, .i32⟩ : BufTy).Contents (Elt F) → (⟨S16x16, .i32⟩ : BufTy).Contents (Elt F)),
   StableHlo.unary main_v75 main_v81 (broadcastInDim S16x16 ![0, 1] bcast_S16x1_S16x16_0_1 : (⟨S16x1, .i32⟩ : BufTy).Contents (Elt F) → (⟨S16x16, .i32⟩ : BufTy).Contents (Elt F)),
   StableHlo.unary main_v81 main_v82 (broadcastInDim S16x16x1 ![0, 1] bcast_S16x16_S16x16x1_0_1 : (⟨S16x16, .i32⟩ : BufTy).Contents (Elt F) → (⟨S16x16x1, .i32⟩ : BufTy).Contents (Elt F)),
   StableHlo.unary main_v80 main_v83 (broadcastInDim S16x16x1 ![0, 1] bcast_S16x16_S16x16x1_0_1 : (⟨S16x16, .i32⟩ : BufTy).Contents (Elt F) → (⟨S16x16x1, .i32⟩ : BufTy).Contents (Elt F)),
   StableHlo.binary main_v82 main_v83 main_v84 ((fun a b => concatenate S16x16x2 2 [⟨S16x16x1, a⟩, ⟨S16x16x1, b⟩] concatenates_S16x16x1_S16x16x1_S16x16x2_d2) : (⟨S16x16x1, .i32⟩ : BufTy).Contents (Elt F) → (⟨S16x16x1, .i32⟩ : BufTy).Contents (Elt F) → (⟨S16x16x2, .i32⟩ : BufTy).Contents (Elt F)),
   StableHlo.unary main_v70 main_v85 (broadcastInDim S16x16 ![0, 1] bcast_S1x16_S16x16_0_1 : (⟨S1x16, .i32⟩ : BufTy).Contents (Elt F) → (⟨S16x16, .i32⟩ : BufTy).Contents (Elt F)),
   StableHlo.ternary main_v67 main_v84 main_v85 main_v86 ((fun x i u => Host.scatter scatter_S16x24564_S16x16x2_S16x16_n_01_01_2 (fun _ b => b) x i u) : (⟨S16x24564, .i32⟩ : BufTy).Contents (Elt F) → (⟨S16x16x2, .i32⟩ : BufTy).Contents (Elt F) → (⟨S16x16, .i32⟩ : BufTy).Contents (Elt F) → (⟨S16x24564, .i32⟩ : BufTy).Contents (Elt F))]

/-- The operations that compute each prior's overlap once the claimed ones count as full. -/
def opsForce : List (HloOp τ sig (Elt F)) :=
  [StableHlo.nullary main_c_6 (constantI S_ 32 0#32),
   StableHlo.unary main_c_6 main_v87 (broadcastInDim S16x1 ![] bcast_S_S16x1 : (⟨S_, .i32⟩ : BufTy).Contents (Elt F) → (⟨S16x1, .i32⟩ : BufTy).Contents (Elt F)),
   StableHlo.binary main_v1 main_v87 main_v88 (cmpi .slt : (⟨S16x1, .i32⟩ : BufTy).Contents (Elt F) → (⟨S16x1, .i32⟩ : BufTy).Contents (Elt F) → (⟨S16x1, .i1⟩ : BufTy).Contents (Elt F)),
   StableHlo.nullary main_c_7 (constantI S_ 32 16#32),
   StableHlo.unary main_c_7 main_v89 (broadcastInDim S16x1 ![] bcast_S_S16x1 : (⟨S_, .i32⟩ : BufTy).Contents (Elt F) → (⟨S16x1, .i32⟩ : BufTy).Contents (Elt F)),
   StableHlo.binary main_v1 main_v89 main_v90 (addi : (⟨S16x1, .i32⟩ : BufTy).Contents (Elt F) → (⟨S16x1, .i32⟩ : BufTy).Contents (Elt F) → (⟨S16x1, .i32⟩ : BufTy).Contents (Elt F)),
   StableHlo.ternary main_v88 main_v90 main_v1 main_v91 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
   StableHlo.nullary main_c_8 (constantI S_ 32 0#32),
   StableHlo.unary main_c_8 main_v92 (broadcastInDim S16x16 ![] bcast_S_S16x16 : (⟨S_, .i32⟩ : BufTy).Contents (Elt F) → (⟨S16x16, .i32⟩ : BufTy).Contents (Elt F)),
   StableHlo.binary main_v68 main_v92 main_v93 (cmpi .slt : (⟨S16x16, .i32⟩ : BufTy).Contents (Elt F) → (⟨S16x16, .i32⟩ : BufTy).Contents (Elt F) → (⟨S16x16, .i1⟩ : BufTy).Contents (Elt F)),
   StableHlo.nullary main_c_9 (constantI S_ 32 24564#32),
   StableHlo.unary main_c_9 main_v94 (broadcastInDim S16x16 ![] bcast_S_S16x16 : (⟨S_, .i32⟩ : BufTy).Contents (Elt F) → (⟨S16x16, .i32⟩ : BufTy).Contents (Elt F)),
   StableHlo.binary main_v68 main_v94 main_v95 (addi : (⟨S16x16, .i32⟩ : BufTy).Contents (Elt F) → (⟨S16x16, .i32⟩ : BufTy).Contents (Elt F) → (⟨S16x16, .i32⟩ : BufTy).Contents (Elt F)),
   StableHlo.ternary main_v93 main_v95 main_v68 main_v96 (select : (⟨S16x16, .i1⟩ : BufTy).Contents (Elt F) → (⟨S16x16, .i32⟩ : BufTy).Contents (Elt F) → (⟨S16x16, .i32⟩ : BufTy).Contents (Elt F) → (⟨S16x16, .i32⟩ : BufTy).Contents (Elt F)),
   StableHlo.unary main_v91 main_v97 (broadcastInDim S16x16 ![0, 1] bcast_S16x1_S16x16_0_1 : (⟨S16x1, .i32⟩ : BufTy).Contents (Elt F) → (⟨S16x16, .i32⟩ : BufTy).Contents (Elt F)),
   StableHlo.unary main_v97 main_v98 (broadcastInDim S16x16x1 ![0, 1] bcast_S16x16_S16x16x1_0_1 : (⟨S16x16, .i32⟩ : BufTy).Contents (Elt F) → (⟨S16x16x1, .i32⟩ : BufTy).Contents (Elt F)),
   StableHlo.unary main_v96 main_v99 (broadcastInDim S16x16x1 ![0, 1] bcast_S16x16_S16x16x1_0_1 : (⟨S16x16, .i32⟩ : BufTy).Contents (Elt F) → (⟨S16x16x1, .i32⟩ : BufTy).Contents (Elt F)),
   StableHlo.binary main_v98 main_v99 main_v100 ((fun a b => concatenate S16x16x2 2 [⟨S16x16x1, a⟩, ⟨S16x16x1, b⟩] concatenates_S16x16x1_S16x16x1_S16x16x2_d2) : (⟨S16x16x1, .i32⟩ : BufTy).Contents (Elt F) → (⟨S16x16x1, .i32⟩ : BufTy).Contents (Elt F) → (⟨S16x16x2, .i32⟩ : BufTy).Contents (Elt F)),
   StableHlo.nullary main_cst_10 (constant S_ .f32 0x3F800000#32),
   StableHlo.unary main_cst_10 main_v101 (broadcastInDim S16x16 ![] bcast_S_S16x16 : (⟨S_, .f32⟩ : BufTy).Contents (Elt F) → (⟨S16x16, .f32⟩ : BufTy).Contents (Elt F)),
   StableHlo.ternary main_v66 main_v100 main_v101 main_v102 ((fun x i u => Host.scatter scatter_S16x24564_S16x16x2_S16x16_n_01_01_2 (fun _ b => b) x i u) : (⟨S16x24564, .f32⟩ : BufTy).Contents (Elt F) → (⟨S16x16x2, .i32⟩ : BufTy).Contents (Elt F) → (⟨S16x16, .f32⟩ : BufTy).Contents (Elt F) → (⟨S16x24564, .f32⟩ : BufTy).Contents (Elt F))]

/-- The operations that compute each prior's class. -/
def opsLabel : List (HloOp τ sig (Elt F)) :=
  [StableHlo.nullary main_cst_11 (constant S_ .f32 0x3F000000#32),
   StableHlo.unary main_cst_11 main_v103 (broadcastInDim S16x24564 ![] bcast_S_S16x24564 : (⟨S_, .f32⟩ : BufTy).Contents (Elt F) → (⟨S16x24564, .f32⟩ : BufTy).Contents (Elt F)),
   StableHlo.binary main_v102 main_v103 main_v104 (cmpf .olt : (⟨S16x24564, .f32⟩ : BufTy).Contents (Elt F) → (⟨S16x24564, .f32⟩ : BufTy).Contents (Elt F) → (⟨S16x24564, .i1⟩ : BufTy).Contents (Elt F)),
   StableHlo.nullary main_c_12 (constantI S_ 32 0#32),
   StableHlo.unary main_c_12 main_v105 (broadcastInDim S16x1 ![] bcast_S_S16x1 : (⟨S_, .i32⟩ : BufTy).Contents (Elt F) → (⟨S16x1, .i32⟩ : BufTy).Contents (Elt F)),
   StableHlo.binary main_v1 main_v105 main_v106 (cmpi .slt : (⟨S16x1, .i32⟩ : BufTy).Contents (Elt F) → (⟨S16x1, .i32⟩ : BufTy).Contents (Elt F) → (⟨S16x1, .i1⟩ : BufTy).Contents (Elt F)),
   StableHlo.nullary main_c_13 (constantI S_ 32 16#32),
   StableHlo.unary main_c_13 main_v107 (broadcastInDim S16x1 ![] bcast_S_S16x1 : (⟨S_, .i32⟩ : BufTy).Contents (Elt F) → (⟨S16x1, .i32⟩ : BufTy).Contents (Elt F)),
   StableHlo.binary main_v1 main_v107 main_v108 (addi : (⟨S16x1, .i32⟩ : BufTy).Contents (Elt F) → (⟨S16x1, .i32⟩ : BufTy).Contents (Elt F) → (⟨S16x1, .i32⟩ : BufTy).Contents (Elt F)),
   StableHlo.ternary main_v106 main_v108 main_v1 main_v109 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
   StableHlo.nullary main_c_14 (constantI S_ 32 0#32),
   StableHlo.unary main_c_14 main_v110 (broadcastInDim S16x24564 ![] bcast_S_S16x24564 : (⟨S_, .i32⟩ : BufTy).Contents (Elt F) → (⟨S16x24564, .i32⟩ : BufTy).Contents (Elt F)),
   StableHlo.binary main_v86 main_v110 main_v111 (cmpi .slt : (⟨S16x24564, .i32⟩ : BufTy).Contents (Elt F) → (⟨S16x24564, .i32⟩ : BufTy).Contents (Elt F) → (⟨S16x24564, .i1⟩ : BufTy).Contents (Elt F)),
   StableHlo.nullary main_c_15 (constantI S_ 32 16#32),
   StableHlo.unary main_c_15 main_v112 (broadcastInDim S16x24564 ![] bcast_S_S16x24564 : (⟨S_, .i32⟩ : BufTy).Contents (Elt F) → (⟨S16x24564, .i32⟩ : BufTy).Contents (Elt F)),
   StableHlo.binary main_v86 main_v112 main_v113 (addi : (⟨S16x24564, .i32⟩ : BufTy).Contents (Elt F) → (⟨S16x24564, .i32⟩ : BufTy).Contents (Elt F) → (⟨S16x24564, .i32⟩ : BufTy).Contents (Elt F)),
   StableHlo.ternary main_v111 main_v113 main_v86 main_v114 (select : (⟨S16x24564, .i1⟩ : BufTy).Contents (Elt F) → (⟨S16x24564, .i32⟩ : BufTy).Contents (Elt F) → (⟨S16x24564, .i32⟩ : BufTy).Contents (Elt F) → (⟨S16x24564, .i32⟩ : BufTy).Contents (Elt F)),
   StableHlo.unary main_v109 main_v115 (broadcastInDim S16x24564 ![0, 1] bcast_S16x1_S16x24564_0_1 : (⟨S16x1, .i32⟩ : BufTy).Contents (Elt F) → (⟨S16x24564, .i32⟩ : BufTy).Contents (Elt F)),
   StableHlo.unary main_v115 main_v116 (broadcastInDim S16x24564x1 ![0, 1] bcast_S16x24564_S16x24564x1_0_1 : (⟨S16x24564, .i32⟩ : BufTy).Contents (Elt F) → (⟨S16x24564x1, .i32⟩ : BufTy).Contents (Elt F)),
   StableHlo.unary main_v114 main_v117 (broadcastInDim S16x24564x1 ![0, 1] bcast_S16x24564_S16x24564x1_0_1 : (⟨S16x24564, .i32⟩ : BufTy).Contents (Elt F) → (⟨S16x24564x1, .i32⟩ : BufTy).Contents (Elt F)),
   StableHlo.binary main_v116 main_v117 main_v118 ((fun a b => concatenate S16x24564x2 2 [⟨S16x24564x1, a⟩, ⟨S16x24564x1, b⟩] concatenates_S16x24564x1_S16x24564x1_S16x24564x2_d2) : (⟨S16x24564x1, .i32⟩ : BufTy).Contents (Elt F) → (⟨S16x24564x1, .i32⟩ : BufTy).Contents (Elt F) → (⟨S16x24564x2, .i32⟩ : BufTy).Contents (Elt F)),
   StableHlo.binary main_arg3 main_v118 main_v119 ((fun x i => Host.gather gather_S16x16_S16x24564x2_S16x24564_n_01_n_n_01_2_11 x i) : (⟨S16x16, .i32⟩ : BufTy).Contents (Elt F) → (⟨S16x24564x2, .i32⟩ : BufTy).Contents (Elt F) → (⟨S16x24564, .i32⟩ : BufTy).Contents (Elt F)),
   StableHlo.nullary main_c_16 (constantI S_ 32 0#32),
   StableHlo.TRef.unary (.of main_c_16) main_call3.v0 id,
   StableHlo.TRef.unary main_call3.v0 main_call3.v1 (broadcastInDim S16x24564 ![] bcast_S_S16x24564),
   StableHlo.TRef.ternary (.of main_v104) main_call3.v1 (.of main_v119) main_call3.v2 select]

/-- The operations that compute each prior's target offsets. -/
def opsLocs : List (HloOp τ sig (Elt F)) :=
  [StableHlo.nullary main_c_17 (constantI S_ 32 0#32),
   StableHlo.unary main_c_17 main_v121 (broadcastInDim S16x1 ![] bcast_S_S16x1 : (⟨S_, .i32⟩ : BufTy).Contents (Elt F) → (⟨S16x1, .i32⟩ : BufTy).Contents (Elt F)),
   StableHlo.binary main_v1 main_v121 main_v122 (cmpi .slt : (⟨S16x1, .i32⟩ : BufTy).Contents (Elt F) → (⟨S16x1, .i32⟩ : BufTy).Contents (Elt F) → (⟨S16x1, .i1⟩ : BufTy).Contents (Elt F)),
   StableHlo.nullary main_c_18 (constantI S_ 32 16#32),
   StableHlo.unary main_c_18 main_v123 (broadcastInDim S16x1 ![] bcast_S_S16x1 : (⟨S_, .i32⟩ : BufTy).Contents (Elt F) → (⟨S16x1, .i32⟩ : BufTy).Contents (Elt F)),
   StableHlo.binary main_v1 main_v123 main_v124 (addi : (⟨S16x1, .i32⟩ : BufTy).Contents (Elt F) → (⟨S16x1, .i32⟩ : BufTy).Contents (Elt F) → (⟨S16x1, .i32⟩ : BufTy).Contents (Elt F)),
   StableHlo.ternary main_v122 main_v124 main_v1 main_v125 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
   StableHlo.nullary main_c_19 (constantI S_ 32 0#32),
   StableHlo.unary main_c_19 main_v126 (broadcastInDim S16x24564 ![] bcast_S_S16x24564 : (⟨S_, .i32⟩ : BufTy).Contents (Elt F) → (⟨S16x24564, .i32⟩ : BufTy).Contents (Elt F)),
   StableHlo.binary main_v86 main_v126 main_v127 (cmpi .slt : (⟨S16x24564, .i32⟩ : BufTy).Contents (Elt F) → (⟨S16x24564, .i32⟩ : BufTy).Contents (Elt F) → (⟨S16x24564, .i1⟩ : BufTy).Contents (Elt F)),
   StableHlo.nullary main_c_20 (constantI S_ 32 16#32),
   StableHlo.unary main_c_20 main_v128 (broadcastInDim S16x24564 ![] bcast_S_S16x24564 : (⟨S_, .i32⟩ : BufTy).Contents (Elt F) → (⟨S16x24564, .i32⟩ : BufTy).Contents (Elt F)),
   StableHlo.binary main_v86 main_v128 main_v129 (addi : (⟨S16x24564, .i32⟩ : BufTy).Contents (Elt F) → (⟨S16x24564, .i32⟩ : BufTy).Contents (Elt F) → (⟨S16x24564, .i32⟩ : BufTy).Contents (Elt F)),
   StableHlo.ternary main_v127 main_v129 main_v86 main_v130 (select : (⟨S16x24564, .i1⟩ : BufTy).Contents (Elt F) → (⟨S16x24564, .i32⟩ : BufTy).Contents (Elt F) → (⟨S16x24564, .i32⟩ : BufTy).Contents (Elt F) → (⟨S16x24564, .i32⟩ : BufTy).Contents (Elt F)),
   StableHlo.unary main_v125 main_v131 (broadcastInDim S16x24564 ![0, 1] bcast_S16x1_S16x24564_0_1 : (⟨S16x1, .i32⟩ : BufTy).Contents (Elt F) → (⟨S16x24564, .i32⟩ : BufTy).Contents (Elt F)),
   StableHlo.unary main_v131 main_v132 (broadcastInDim S16x24564x1 ![0, 1] bcast_S16x24564_S16x24564x1_0_1 : (⟨S16x24564, .i32⟩ : BufTy).Contents (Elt F) → (⟨S16x24564x1, .i32⟩ : BufTy).Contents (Elt F)),
   StableHlo.unary main_v130 main_v133 (broadcastInDim S16x24564x1 ![0, 1] bcast_S16x24564_S16x24564x1_0_1 : (⟨S16x24564, .i32⟩ : BufTy).Contents (Elt F) → (⟨S16x24564x1, .i32⟩ : BufTy).Contents (Elt F)),
   StableHlo.binary main_v132 main_v133 main_v134 ((fun a b => concatenate S16x24564x2 2 [⟨S16x24564x1, a⟩, ⟨S16x24564x1, b⟩] concatenates_S16x24564x1_S16x24564x1_S16x24564x2_d2) : (⟨S16x24564x1, .i32⟩ : BufTy).Contents (Elt F) → (⟨S16x24564x1, .i32⟩ : BufTy).Contents (Elt F) → (⟨S16x24564x2, .i32⟩ : BufTy).Contents (Elt F)),
   StableHlo.binary main_arg2 main_v134 main_v135 ((fun x i => Host.gather gather_S16x16x4_S16x24564x2_S16x24564x4_2_01_n_n_01_2_114 x i) : (⟨S16x16x4, .f32⟩ : BufTy).Contents (Elt F) → (⟨S16x24564x2, .i32⟩ : BufTy).Contents (Elt F) → (⟨S16x24564x4, .f32⟩ : BufTy).Contents (Elt F)),
   StableHlo.unary main_v135 main_v136 ((extractStridedSlice S16x24564x2 ![0, 0, 0] · slices_S16x24564x4_S16x24564x2_0_0_0) : (⟨S16x24564x4, .f32⟩ : BufTy).Contents (Elt F) → (⟨S16x24564x2, .f32⟩ : BufTy).Contents (Elt F)),
   StableHlo.unary main_v135 main_v137 ((extractStridedSlice S16x24564x2 ![0, 0, 2] · slices_S16x24564x4_S16x24564x2_0_0_2) : (⟨S16x24564x4, .f32⟩ : BufTy).Contents (Elt F) → (⟨S16x24564x2, .f32⟩ : BufTy).Contents (Elt F)),
   StableHlo.binary main_v136 main_v137 main_v138 (addf : (⟨S16x24564x2, .f32⟩ : BufTy).Contents (Elt F) → (⟨S16x24564x2, .f32⟩ : BufTy).Contents (Elt F) → (⟨S16x24564x2, .f32⟩ : BufTy).Contents (Elt F)),
   StableHlo.nullary main_cst_21 (constant S_ .f32 0x40000000#32),
   StableHlo.unary main_cst_21 main_v139 (broadcastInDim S16x24564x2 ![] bcast_S_S16x24564x2 : (⟨S_, .f32⟩ : BufTy).Contents (Elt F) → (⟨S16x24564x2, .f32⟩ : BufTy).Contents (Elt F)),
   StableHlo.binary main_v138 main_v139 main_v140 (Host.divf : (⟨S16x24564x2, .f32⟩ : BufTy).Contents (Elt F) → (⟨S16x24564x2, .f32⟩ : BufTy).Contents (Elt F) → (⟨S16x24564x2, .f32⟩ : BufTy).Contents (Elt F)),
   StableHlo.unary main_v135 main_v141 ((extractStridedSlice S16x24564x2 ![0, 0, 2] · slices_S16x24564x4_S16x24564x2_0_0_2) : (⟨S16x24564x4, .f32⟩ : BufTy).Contents (Elt F) → (⟨S16x24564x2, .f32⟩ : BufTy).Contents (Elt F)),
   StableHlo.unary main_v135 main_v142 ((extractStridedSlice S16x24564x2 ![0, 0, 0] · slices_S16x24564x4_S16x24564x2_0_0_0) : (⟨S16x24564x4, .f32⟩ : BufTy).Contents (Elt F) → (⟨S16x24564x2, .f32⟩ : BufTy).Contents (Elt F)),
   StableHlo.binary main_v141 main_v142 main_v143 (subf : (⟨S16x24564x2, .f32⟩ : BufTy).Contents (Elt F) → (⟨S16x24564x2, .f32⟩ : BufTy).Contents (Elt F) → (⟨S16x24564x2, .f32⟩ : BufTy).Contents (Elt F)),
   StableHlo.binary main_v140 main_v143 main_v144 ((fun a b => concatenate S16x24564x4 2 [⟨S16x24564x2, a⟩, ⟨S16x24564x2, b⟩] concatenates_S16x24564x2_S16x24564x2_S16x24564x4_d2) : (⟨S16x24564x2, .f32⟩ : BufTy).Contents (Elt F) → (⟨S16x24564x2, .f32⟩ : BufTy).Contents (Elt F) → (⟨S16x24564x4, .f32⟩ : BufTy).Contents (Elt F)),
   StableHlo.unary main_v144 main_v145 ((extractStridedSlice S16x24564x2 ![0, 0, 0] · slices_S16x24564x4_S16x24564x2_0_0_0) : (⟨S16x24564x4, .f32⟩ : BufTy).Contents (Elt F) → (⟨S16x24564x2, .f32⟩ : BufTy).Contents (Elt F)),
   StableHlo.unary main_arg4 main_v146 ((extractStridedSlice S24564x2 ![0, 0] · slices_S24564x4_S24564x2_0_0) : (⟨S24564x4, .f32⟩ : BufTy).Contents (Elt F) → (⟨S24564x2, .f32⟩ : BufTy).Contents (Elt F)),
   StableHlo.unary main_v146 main_v147 (broadcastInDim S1x24564x2 ![1, 2] bcast_S24564x2_S1x24564x2_1_2 : (⟨S24564x2, .f32⟩ : BufTy).Contents (Elt F) → (⟨S1x24564x2, .f32⟩ : BufTy).Contents (Elt F)),
   StableHlo.unary main_v147 main_v148 (broadcastInDim S16x24564x2 ![0, 1, 2] bcast_S1x24564x2_S16x24564x2_0_1_2 : (⟨S1x24564x2, .f32⟩ : BufTy).Contents (Elt F) → (⟨S16x24564x2, .f32⟩ : BufTy).Contents (Elt F)),
   StableHlo.binary main_v145 main_v148 main_v149 (subf : (⟨S16x24564x2, .f32⟩ : BufTy).Contents (Elt F) → (⟨S16x24564x2, .f32⟩ : BufTy).Contents (Elt F) → (⟨S16x24564x2, .f32⟩ : BufTy).Contents (Elt F)),
   StableHlo.unary main_arg4 main_v150 ((extractStridedSlice S24564x2 ![0, 2] · slices_S24564x4_S24564x2_0_2) : (⟨S24564x4, .f32⟩ : BufTy).Contents (Elt F) → (⟨S24564x2, .f32⟩ : BufTy).Contents (Elt F)),
   StableHlo.nullary main_cst_22 (constant S_ .f32 0x41200000#32),
   StableHlo.unary main_cst_22 main_v151 (broadcastInDim S24564x2 ![] bcast_S_S24564x2 : (⟨S_, .f32⟩ : BufTy).Contents (Elt F) → (⟨S24564x2, .f32⟩ : BufTy).Contents (Elt F)),
   StableHlo.binary main_v150 main_v151 main_v152 (Host.divf : (⟨S24564x2, .f32⟩ : BufTy).Contents (Elt F) → (⟨S24564x2, .f32⟩ : BufTy).Contents (Elt F) → (⟨S24564x2, .f32⟩ : BufTy).Contents (Elt F)),
   StableHlo.unary main_v152 main_v153 (broadcastInDim S1x24564x2 ![1, 2] bcast_S24564x2_S1x24564x2_1_2 : (⟨S24564x2, .f32⟩ : BufTy).Contents (Elt F) → (⟨S1x24564x2, .f32⟩ : BufTy).Contents (Elt F)),
   StableHlo.unary main_v153 main_v154 (broadcastInDim S16x24564x2 ![0, 1, 2] bcast_S1x24564x2_S16x24564x2_0_1_2 : (⟨S1x24564x2, .f32⟩ : BufTy).Contents (Elt F) → (⟨S16x24564x2, .f32⟩ : BufTy).Contents (Elt F)),
   StableHlo.binary main_v149 main_v154 main_v155 (Host.divf : (⟨S16x24564x2, .f32⟩ : BufTy).Contents (Elt F) → (⟨S16x24564x2, .f32⟩ : BufTy).Contents (Elt F) → (⟨S16x24564x2, .f32⟩ : BufTy).Contents (Elt F)),
   StableHlo.unary main_v144 main_v156 ((extractStridedSlice S16x24564x2 ![0, 0, 2] · slices_S16x24564x4_S16x24564x2_0_0_2) : (⟨S16x24564x4, .f32⟩ : BufTy).Contents (Elt F) → (⟨S16x24564x2, .f32⟩ : BufTy).Contents (Elt F)),
   StableHlo.unary main_arg4 main_v157 ((extractStridedSlice S24564x2 ![0, 2] · slices_S24564x4_S24564x2_0_2) : (⟨S24564x4, .f32⟩ : BufTy).Contents (Elt F) → (⟨S24564x2, .f32⟩ : BufTy).Contents (Elt F)),
   StableHlo.unary main_v157 main_v158 (broadcastInDim S1x24564x2 ![1, 2] bcast_S24564x2_S1x24564x2_1_2 : (⟨S24564x2, .f32⟩ : BufTy).Contents (Elt F) → (⟨S1x24564x2, .f32⟩ : BufTy).Contents (Elt F)),
   StableHlo.unary main_v158 main_v159 (broadcastInDim S16x24564x2 ![0, 1, 2] bcast_S1x24564x2_S16x24564x2_0_1_2 : (⟨S1x24564x2, .f32⟩ : BufTy).Contents (Elt F) → (⟨S16x24564x2, .f32⟩ : BufTy).Contents (Elt F)),
   StableHlo.binary main_v156 main_v159 main_v160 (Host.divf : (⟨S16x24564x2, .f32⟩ : BufTy).Contents (Elt F) → (⟨S16x24564x2, .f32⟩ : BufTy).Contents (Elt F) → (⟨S16x24564x2, .f32⟩ : BufTy).Contents (Elt F)),
   StableHlo.unary main_v160 main_v161 (Host.log : (⟨S16x24564x2, .f32⟩ : BufTy).Contents (Elt F) → (⟨S16x24564x2, .f32⟩ : BufTy).Contents (Elt F)),
   StableHlo.nullary main_cst_23 (constant S_ .f32 0x40A00000#32),
   StableHlo.unary main_cst_23 main_v162 (broadcastInDim S16x24564x2 ![] bcast_S_S16x24564x2 : (⟨S_, .f32⟩ : BufTy).Contents (Elt F) → (⟨S16x24564x2, .f32⟩ : BufTy).Contents (Elt F)),
   StableHlo.binary main_v161 main_v162 main_v163 (mulf : (⟨S16x24564x2, .f32⟩ : BufTy).Contents (Elt F) → (⟨S16x24564x2, .f32⟩ : BufTy).Contents (Elt F) → (⟨S16x24564x2, .f32⟩ : BufTy).Contents (Elt F)),
   StableHlo.binary main_v155 main_v163 main_v164 ((fun a b => concatenate S16x24564x4 2 [⟨S16x24564x2, a⟩, ⟨S16x24564x2, b⟩] concatenates_S16x24564x2_S16x24564x2_S16x24564x4_d2) : (⟨S16x24564x2, .f32⟩ : BufTy).Contents (Elt F) → (⟨S16x24564x2, .f32⟩ : BufTy).Contents (Elt F) → (⟨S16x24564x4, .f32⟩ : BufTy).Contents (Elt F))]

/-- The operations that compute the positives, the location loss and each prior's cross entropy. -/
def opsCe : List (HloOp τ sig (Elt F)) :=
  [StableHlo.nullary main_c_24 (constantI S_ 32 0#32),
   StableHlo.unary main_c_24 main_v165 (broadcastInDim S16x24564 ![] bcast_S_S16x24564 : (⟨S_, .i32⟩ : BufTy).Contents (Elt F) → (⟨S16x24564, .i32⟩ : BufTy).Contents (Elt F)),
   StableHlo.binary main_v120 main_v165 main_v166 (cmpi .ne : (⟨S16x24564, .i32⟩ : BufTy).Contents (Elt F) → (⟨S16x24564, .i32⟩ : BufTy).Contents (Elt F) → (⟨S16x24564, .i1⟩ : BufTy).Contents (Elt F)),
   StableHlo.unary main_v166 main_v167 ((extui 32 · natLt_1_32) : (⟨S16x24564, .i1⟩ : BufTy).Contents (Elt F) → (⟨S16x24564, .i32⟩ : BufTy).Contents (Elt F)),
   StableHlo.nullary main_c_25 (constantI S_ 32 0#32),
   StableHlo.binary main_v167 main_c_25 main_v168 ((fun x v => Host.reduce IntOp.addi x v reducesTo_S16x24564_S16_d1 h_S_) : (⟨S16x24564, .i32⟩ : BufTy).Contents (Elt F) → (⟨S_, .i32⟩ : BufTy).Contents (Elt F) → (⟨S16, .i32⟩ : BufTy).Contents (Elt F)),
   StableHlo.nullary main_c_26 (constantI S_ 32 0#32),
   StableHlo.binary main_v168 main_c_26 main_v169 ((fun x v => Host.reduce IntOp.addi x v reducesTo_S16_S_d0 h_S_) : (⟨S16, .i32⟩ : BufTy).Contents (Elt F) → (⟨S_, .i32⟩ : BufTy).Contents (Elt F) → (⟨S_, .i32⟩ : BufTy).Contents (Elt F)),
   StableHlo.unary main_v169 main_v170 (sitofp .f32 : (⟨S_, .i32⟩ : BufTy).Contents (Elt F) → (⟨S_, .f32⟩ : BufTy).Contents (Elt F)),
   StableHlo.binary main_arg0 main_v164 main_v171 (subf : (⟨S16x24564x4, .f32⟩ : BufTy).Contents (Elt F) → (⟨S16x24564x4, .f32⟩ : BufTy).Contents (Elt F) → (⟨S16x24564x4, .f32⟩ : BufTy).Contents (Elt F)),
   StableHlo.unary main_v171 main_v172 (Host.absf : (⟨S16x24564x4, .f32⟩ : BufTy).Contents (Elt F) → (⟨S16x24564x4, .f32⟩ : BufTy).Contents (Elt F)),
   StableHlo.unary main_v166 main_v173 (broadcastInDim S16x24564x1 ![0, 1] bcast_S16x24564_S16x24564x1_0_1 : (⟨S16x24564, .i1⟩ : BufTy).Contents (Elt F) → (⟨S16x24564x1, .i1⟩ : BufTy).Contents (Elt F)),
   StableHlo.unary main_v173 main_v174 (uitofp .f32 : (⟨S16x24564x1, .i1⟩ : BufTy).Contents (Elt F) → (⟨S16x24564x1, .f32⟩ : BufTy).Contents (Elt F)),
   StableHlo.unary main_v174 main_v175 (broadcastInDim S16x24564x4 ![0, 1, 2] bcast_S16x24564x1_S16x24564x4_0_1_2 : (⟨S16x24564x1, .f32⟩ : BufTy).Contents (Elt F) → (⟨S16x24564x4, .f32⟩ : BufTy).Contents (Elt F)),
   StableHlo.binary main_v172 main_v175 main_v176 (mulf : (⟨S16x24564x4, .f32⟩ : BufTy).Contents (Elt F) → (⟨S16x24564x4, .f32⟩ : BufTy).Contents (Elt F) → (⟨S16x24564x4, .f32⟩ : BufTy).Contents (Elt F)),
   StableHlo.nullary main_cst_27 (constant S_ .f32 0x00000000#32),
   StableHlo.binary main_v176 main_cst_27 main_v177 ((fun x v => Host.reduceAdd x v reducesTo_S16x24564x4_S_d0_1_2 h_S_) : (⟨S16x24564x4, .f32⟩ : BufTy).Contents (Elt F) → (⟨S_, .f32⟩ : BufTy).Contents (Elt F) → (⟨S_, .f32⟩ : BufTy).Contents (Elt F)),
   StableHlo.nullary main_cst_28 (constant S_ .f32 0x40800000#32),
   StableHlo.binary main_v170 main_cst_28 main_v178 (mulf : (⟨S_, .f32⟩ : BufTy).Contents (Elt F) → (⟨S_, .f32⟩ : BufTy).Contents (Elt F) → (⟨S_, .f32⟩ : BufTy).Contents (Elt F)),
   StableHlo.binary main_v177 main_v178 main_v179 (Host.divf : (⟨S_, .f32⟩ : BufTy).Contents (Elt F) → (⟨S_, .f32⟩ : BufTy).Contents (Elt F) → (⟨S_, .f32⟩ : BufTy).Contents (Elt F)),
   StableHlo.nullary main_cst_29 (constant S_ .f32 0xFF800000#32),
   StableHlo.binary main_arg1 main_cst_29 main_v180 ((fun x v => Host.reduce FloatOps.maximumf x v reducesTo_S16x24564x81_S16x24564_d2 h_S_) : (⟨S16x24564x81, .f32⟩ : BufTy).Contents (Elt F) → (⟨S_, .f32⟩ : BufTy).Contents (Elt F) → (⟨S16x24564, .f32⟩ : BufTy).Contents (Elt F)),
   StableHlo.unary main_v180 main_v181 (broadcastInDim S16x24564x1 ![0, 1] bcast_S16x24564_S16x24564x1_0_1 : (⟨S16x24564, .f32⟩ : BufTy).Contents (Elt F) → (⟨S16x24564x1, .f32⟩ : BufTy).Contents (Elt F)),
   StableHlo.unary main_v181 main_v182 (broadcastInDim S16x24564x81 ![0, 1, 2] bcast_S16x24564x1_S16x24564x81_0_1_2 : (⟨S16x24564x1, .f32⟩ : BufTy).Contents (Elt F) → (⟨S16x24564x81, .f32⟩ : BufTy).Contents (Elt F)),
   StableHlo.binary main_arg1 main_v182 main_v183 (subf : (⟨S16x24564x81, .f32⟩ : BufTy).Contents (Elt F) → (⟨S16x24564x81, .f32⟩ : BufTy).Contents (Elt F) → (⟨S16x24564x81, .f32⟩ : BufTy).Contents (Elt F)),
   StableHlo.unary main_v183 main_v184 (Host.exp : (⟨S16x24564x81, .f32⟩ : BufTy).Contents (Elt F) → (⟨S16x24564x81, .f32⟩ : BufTy).Contents (Elt F)),
   StableHlo.nullary main_cst_30 (constant S_ .f32 0x00000000#32),
   StableHlo.binary main_v184 main_cst_30 main_v185 ((fun x v => Host.reduceAdd x v reducesTo_S16x24564x81_S16x24564_d2 h_S_) : (⟨S16x24564x81, .f32⟩ : BufTy).Contents (Elt F) → (⟨S_, .f32⟩ : BufTy).Contents (Elt F) → (⟨S16x24564, .f32⟩ : BufTy).Contents (Elt F)),
   StableHlo.unary main_v185 main_v186 (Host.log : (⟨S16x24564, .f32⟩ : BufTy).Contents (Elt F) → (⟨S16x24564, .f32⟩ : BufTy).Contents (Elt F)),
   StableHlo.binary main_v186 main_v180 main_v187 (addf : (⟨S16x24564, .f32⟩ : BufTy).Contents (Elt F) → (⟨S16x24564, .f32⟩ : BufTy).Contents (Elt F) → (⟨S16x24564, .f32⟩ : BufTy).Contents (Elt F)),
   StableHlo.unary main_v120 main_v188 (broadcastInDim S16x24564x1 ![0, 1] bcast_S16x24564_S16x24564x1_0_1 : (⟨S16x24564, .i32⟩ : BufTy).Contents (Elt F) → (⟨S16x24564x1, .i32⟩ : BufTy).Contents (Elt F)),
   StableHlo.TRef.nullary main_call4.c (constantI S_ 32 0#32),
   StableHlo.TRef.unary main_call4.c main_call4.v0 (broadcastInDim S16x24564x1 ![] bcast_S_S16x24564x1),
   StableHlo.TRef.binary (.of main_v188) main_call4.v0 main_call4.v1 (cmpi .slt),
   StableHlo.TRef.nullary main_call4.c_0 (constantI S_ 32 81#32),
   StableHlo.TRef.unary main_call4.c_0 main_call4.v2 (broadcastInDim S16x24564x1 ![] bcast_S_S16x24564x1),
   StableHlo.TRef.binary (.of main_v188) main_call4.v2 main_call4.v3 addi,
   StableHlo.TRef.ternary main_call4.v1 main_call4.v3 (.of main_v188) main_call4.v4 select,
   StableHlo.TRef.reshape main_call4.v4 main_call4.v5 (rfl : (.i32 : EltTy) = .i32) shapeCasts_S16x24564x1_S16x24564x1x1,
   StableHlo.TRef.binary (.of main_arg1) main_call4.v5 main_call4.v6 (fun x i => Host.gather gather_S16x24564x81_S16x24564x1x1_S16x24564x1_n_2_01_01_2_3_111 x i),
   StableHlo.reshape main_v189 main_v190 (rfl : (.f32 : EltTy) = .f32) shapeCasts_S16x24564x1_S16x24564,
   StableHlo.binary main_v187 main_v190 main_v191 (subf : (⟨S16x24564, .f32⟩ : BufTy).Contents (Elt F) → (⟨S16x24564, .f32⟩ : BufTy).Contents (Elt F) → (⟨S16x24564, .f32⟩ : BufTy).Contents (Elt F))]

/-- The operations that compute the positives' loss, the mined negatives' and the total. -/
def opsRest : List (HloOp τ sig (Elt F)) :=
  [StableHlo.unary main_v166 main_v192 (uitofp .f32 : (⟨S16x24564, .i1⟩ : BufTy).Contents (Elt F) → (⟨S16x24564, .f32⟩ : BufTy).Contents (Elt F)),
   StableHlo.binary main_v191 main_v192 main_v193 (mulf : (⟨S16x24564, .f32⟩ : BufTy).Contents (Elt F) → (⟨S16x24564, .f32⟩ : BufTy).Contents (Elt F) → (⟨S16x24564, .f32⟩ : BufTy).Contents (Elt F)),
   StableHlo.nullary main_cst_31 (constant S_ .f32 0x00000000#32),
   StableHlo.binary main_v193 main_cst_31 main_v194 ((fun x v => Host.reduceAdd x v reducesTo_S16x24564_S_d0_1 h_S_) : (⟨S16x24564, .f32⟩ : BufTy).Contents (Elt F) → (⟨S_, .f32⟩ : BufTy).Contents (Elt F) → (⟨S_, .f32⟩ : BufTy).Contents (Elt F)),
   StableHlo.nullary main_v195 (iotaInDim S24564 32 0),
   StableHlo.unary main_v195 main_v196 (broadcastInDim S1x24564 ![1] bcast_S24564_S1x24564_1 : (⟨S24564, .i32⟩ : BufTy).Contents (Elt F) → (⟨S1x24564, .i32⟩ : BufTy).Contents (Elt F)),
   StableHlo.nullary main_c_32 (constantI S_ 32 3#32),
   StableHlo.unary main_c_32 main_v197 (broadcastInDim S16 ![] bcast_S_S16 : (⟨S_, .i32⟩ : BufTy).Contents (Elt F) → (⟨S16, .i32⟩ : BufTy).Contents (Elt F)),
   StableHlo.binary main_v197 main_v168 main_v198 (muli : (⟨S16, .i32⟩ : BufTy).Contents (Elt F) → (⟨S16, .i32⟩ : BufTy).Contents (Elt F) → (⟨S16, .i32⟩ : BufTy).Contents (Elt F)),
   StableHlo.unary main_v198 main_v199 (broadcastInDim S16x1 ![0] bcast_S16_S16x1_0 : (⟨S16, .i32⟩ : BufTy).Contents (Elt F) → (⟨S16x1, .i32⟩ : BufTy).Contents (Elt F)),
   StableHlo.unary main_v196 main_v200 (broadcastInDim S16x24564 ![0, 1] bcast_S1x24564_S16x24564_0_1 : (⟨S1x24564, .i32⟩ : BufTy).Contents (Elt F) → (⟨S16x24564, .i32⟩ : BufTy).Contents (Elt F)),
   StableHlo.unary main_v199 main_v201 (broadcastInDim S16x24564 ![0, 1] bcast_S16x1_S16x24564_0_1 : (⟨S16x1, .i32⟩ : BufTy).Contents (Elt F) → (⟨S16x24564, .i32⟩ : BufTy).Contents (Elt F)),
   StableHlo.binary main_v200 main_v201 main_v202 (cmpi .slt : (⟨S16x24564, .i32⟩ : BufTy).Contents (Elt F) → (⟨S16x24564, .i32⟩ : BufTy).Contents (Elt F) → (⟨S16x24564, .i1⟩ : BufTy).Contents (Elt F)),
   StableHlo.nullary main_cst_33 (constant S_ .f32 0x00000000#32),
   StableHlo.TRef.unary (.of main_cst_33) main_call5.v0 id,
   StableHlo.TRef.unary main_call5.v0 main_call5.v1 (broadcastInDim S16x24564 ![] bcast_S_S16x24564),
   StableHlo.TRef.ternary (.of main_v166) main_call5.v1 (.of main_v191) main_call5.v2 select,
   StableHlo.unary main_v203 main_v204 (Host.negf : (⟨S16x24564, .f32⟩ : BufTy).Contents (Elt F) → (⟨S16x24564, .f32⟩ : BufTy).Contents (Elt F)),
   StableHlo.TRef.unary (.of main_v204) main_call6.v0 (fun x => Host.sort S16x24564 1 comparator_f32_d1 x),
   StableHlo.unary main_v205 main_v206 (Host.negf : (⟨S16x24564, .f32⟩ : BufTy).Contents (Elt F) → (⟨S16x24564, .f32⟩ : BufTy).Contents (Elt F)),
   StableHlo.unary main_v202 main_v207 (uitofp .f32 : (⟨S16x24564, .i1⟩ : BufTy).Contents (Elt F) → (⟨S16x24564, .f32⟩ : BufTy).Contents (Elt F)),
   StableHlo.binary main_v206 main_v207 main_v208 (mulf : (⟨S16x24564, .f32⟩ : BufTy).Contents (Elt F) → (⟨S16x24564, .f32⟩ : BufTy).Contents (Elt F) → (⟨S16x24564, .f32⟩ : BufTy).Contents (Elt F)),
   StableHlo.nullary main_cst_34 (constant S_ .f32 0x00000000#32),
   StableHlo.binary main_v208 main_cst_34 main_v209 ((fun x v => Host.reduceAdd x v reducesTo_S16x24564_S_d0_1 h_S_) : (⟨S16x24564, .f32⟩ : BufTy).Contents (Elt F) → (⟨S_, .f32⟩ : BufTy).Contents (Elt F) → (⟨S_, .f32⟩ : BufTy).Contents (Elt F)),
   StableHlo.binary main_v209 main_v194 main_v210 (addf : (⟨S_, .f32⟩ : BufTy).Contents (Elt F) → (⟨S_, .f32⟩ : BufTy).Contents (Elt F) → (⟨S_, .f32⟩ : BufTy).Contents (Elt F)),
   StableHlo.binary main_v210 main_v170 main_v211 (Host.divf : (⟨S_, .f32⟩ : BufTy).Contents (Elt F) → (⟨S_, .f32⟩ : BufTy).Contents (Elt F) → (⟨S_, .f32⟩ : BufTy).Contents (Elt F)),
   StableHlo.nullary main_cst_35 (constant S_ .f32 0x3F800000#32),
   StableHlo.binary main_cst_35 main_v179 main_v212 (mulf : (⟨S_, .f32⟩ : BufTy).Contents (Elt F) → (⟨S_, .f32⟩ : BufTy).Contents (Elt F) → (⟨S_, .f32⟩ : BufTy).Contents (Elt F)),
   StableHlo.binary main_v211 main_v212 main_v213 (addf : (⟨S_, .f32⟩ : BufTy).Contents (Elt F) → (⟨S_, .f32⟩ : BufTy).Contents (Elt F) → (⟨S_, .f32⟩ : BufTy).Contents (Elt F))]

/-- The whole line. -/
def opsAll : List (HloOp τ sig (Elt F)) :=
  opsIou ++ (opsBest ++ (opsPair ++ (opsForce ++ (opsLabel ++ (opsLocs ++ (opsCe ++ (opsRest)))))))

/-- The program is that line. -/
theorem main_seq (d : Dev nD) : StableHlo.IsSeq (main (F := F) d) (opsAll (F := F)) := by
  have h : ∀ l, l = opsAll (F := F) → StableHlo.IsSeq (main (F := F) d) l → StableHlo.IsSeq (main (F := F) d) (opsAll (F := F)) :=
    fun _ e h => e ▸ h
  apply h
  rotate_left
  · hlo_seq
  · rfl

/-- Every run of the reference ends with each buffer at the line's value over the initial memory, and every counter at zero. -/
theorem run (m : (ℓ : Loc nD τ sig) → Buf (Elt Ideal) ℓ) (g : Dev nD → PrngReg) :
    θ_run (defs (F := Ideal)) (onTc (τ := τ) (main (F := Ideal))) ⟨m, fun _ => 0, g⟩ (fun r =>
      (∀ (d : Dev nD) (b : Ref sig .tc), r.2.mem ((d.tc : Thread nD τ).loc b)
          = StableHlo.after (opsAll (F := Ideal)) (StableHlo.launchContents m d) (Proc.devRef .tc b))
      ∧ r.2.sem = fun _ => 0) :=
  θ_run_mono
    (StableHlo.run_hlo _ _ (main_seq (F := Ideal)) (by decide) (by decide) (by simp [opsAll,opsIou, opsBest, opsPair, opsForce, opsLabel, opsLocs, opsCe, opsRest])
      (by unfold opsAll; simp only [opsIou, opsBest, opsPair, opsForce, opsLabel, opsLocs, opsCe, opsRest, List.cons_append, List.nil_append]; intro _ h; (repeat (cases h with | head => rfl | tail _ h => ?_)); exact nomatch h) m g)
    (fun _ h => ⟨h, sem_eq_zero_of_no_sems (by decide) _⟩)

/-- After the line the arguments are what they were. -/
theorem args_reads (m : (ℓ : Loc nD τ sig) → Buf (Elt Ideal) ℓ) (d : Dev nD) :
    StableHlo.after (opsAll (F := Ideal)) (StableHlo.launchContents m d) (Proc.devRef .tc main_arg0) = m ((d.tc : Thread nD τ).loc main_arg0)
    ∧ StableHlo.after (opsAll (F := Ideal)) (StableHlo.launchContents m d) (Proc.devRef .tc main_arg1) = m ((d.tc : Thread nD τ).loc main_arg1)
    ∧ StableHlo.after (opsAll (F := Ideal)) (StableHlo.launchContents m d) (Proc.devRef .tc main_arg2) = m ((d.tc : Thread nD τ).loc main_arg2)
    ∧ StableHlo.after (opsAll (F := Ideal)) (StableHlo.launchContents m d) (Proc.devRef .tc main_arg3) = m ((d.tc : Thread nD τ).loc main_arg3)
    ∧ StableHlo.after (opsAll (F := Ideal)) (StableHlo.launchContents m d) (Proc.devRef .tc main_arg4) = m ((d.tc : Thread nD τ).loc main_arg4) := by
  refine ⟨?_, ?_, ?_, ?_, ?_⟩ <;>
    (unfold opsAll; simp only [opsIou, opsBest, opsPair, opsForce, opsLabel, opsLocs, opsCe, opsRest, List.cons_append, List.nil_append]; after_reads_simp; done)

/-- The reference runs, leaves its arguments alone and ends with every counter at zero. -/
theorem frame : quiescent_ReferenceIdeal (hReferenceIdeal := Cert.ReferenceIdeal.Gen.facts) := by
  intro m g _
  refine θ_run_mono (run m g) fun r h => ⟨fun d => ?_, h.2⟩
  simp only [h.1]
  exact args_reads m d

end Cert.ReferenceIdeal.Run
end
-- ==== Proof.Stages.lean ====
/- The values of the reference and of the precondition, as functions of one another: the overlaps, the matching, the
   classes, the losses, the ranking. -/
module

public import proofs.«01_k».proof.Defs
public import proofs.«01_k».proof.Proof.Gen.Pre_admissible

@[expose] public section

noncomputable section

namespace Cert.Stages

open Idealize.ShloMosaic
open Cert.Pre_admissible Cert.Pre_admissible.Facts

variable [Cert.Pre_admissible.Facts]
variable {F : FTy → Type} [FloatOps F]

/-- The images, numbered. -/
def images  : IVec S16x1 32 :=
  have v0 : IVec S16 32 := iotaInDim S16 32 0
  broadcastInDim S16x1 ![0] bcast_S16_S16x1_0 v0

/-- The overlap (intersection over union) of every object with every prior. -/
def overlap (arg2 : FVec F S16x16x4 .f32) (arg4 : FVec F S24564x4 .f32) : FVec F S16x16x24564 .f32 :=
  have v2 : FVec F S24564x2 .f32 := extractStridedSlice S24564x2 ![0, 0] arg4 slices_S24564x4_S24564x2_0_0
  have v3 : FVec F S24564x2 .f32 := extractStridedSlice S24564x2 ![0, 2] arg4 slices_S24564x4_S24564x2_0_2
  have cst : FVec F S_ .f32 := constant S_ .f32 0x40000000#32
  have v4 : FVec F S24564x2 .f32 := broadcastInDim S24564x2 ![] bcast_S_S24564x2 cst
  have v5 : FVec F S24564x2 .f32 := Host.divf v3 v4
  have v6 : FVec F S24564x2 .f32 := subf v2 v5
  have v7 : FVec F S24564x2 .f32 := extractStridedSlice S24564x2 ![0, 0] arg4 slices_S24564x4_S24564x2_0_0
  have v8 : FVec F S24564x2 .f32 := extractStridedSlice S24564x2 ![0, 2] arg4 slices_S24564x4_S24564x2_0_2
  have cst_0 : FVec F S_ .f32 := constant S_ .f32 0x40000000#32
  have v9 : FVec F S24564x2 .f32 := broadcastInDim S24564x2 ![] bcast_S_S24564x2 cst_0
  have v10 : FVec F S24564x2 .f32 := Host.divf v8 v9
  have v11 : FVec F S24564x2 .f32 := addf v7 v10
  have v12 : FVec F S24564x4 .f32 := concatenate S24564x4 1 [⟨S24564x2, v6⟩, ⟨S24564x2, v11⟩] concatenates_S24564x2_S24564x2_S24564x4_d1
  have v13 : FVec F S16x16x2 .f32 := extractStridedSlice S16x16x2 ![0, 0, 0] arg2 slices_S16x16x4_S16x16x2_0_0_0
  have v14 : FVec F S16x16x1x2 .f32 := broadcastInDim S16x16x1x2 ![0, 1, 3] bcast_S16x16x2_S16x16x1x2_0_1_3 v13
  have v15 : FVec F S24564x2 .f32 := extractStridedSlice S24564x2 ![0, 0] v12 slices_S24564x4_S24564x2_0_0
  have v16 : FVec F S1x24564x2 .f32 := broadcastInDim S1x24564x2 ![1, 2] bcast_S24564x2_S1x24564x2_1_2 v15
  have v17 : FVec F S1x1x24564x2 .f32 := broadcastInDim S1x1x24564x2 ![1, 2, 3] bcast_S1x24564x2_S1x1x24564x2_1_2_3 v16
  have v18 : FVec F S16x16x24564x2 .f32 := broadcastInDim S16x16x24564x2 ![0, 1, 2, 3] bcast_S16x16x1x2_S16x16x24564x2_0_1_2_3 v14
  have v19 : FVec F S16x16x24564x2 .f32 := broadcastInDim S16x16x24564x2 ![0, 1, 2, 3] bcast_S1x1x24564x2_S16x16x24564x2_0_1_2_3 v17
  have v20 : FVec F S16x16x24564x2 .f32 := maximumf v18 v19
  have v21 : FVec F S16x16x2 .f32 := extractStridedSlice S16x16x2 ![0, 0, 2] arg2 slices_S16x16x4_S16x16x2_0_0_2
  have v22 : FVec F S16x16x1x2 .f32 := broadcastInDim S16x16x1x2 ![0, 1, 3] bcast_S16x16x2_S16x16x1x2_0_1_3 v21
  have v23 : FVec F S24564x2 .f32 := extractStridedSlice S24564x2 ![0, 2] v12 slices_S24564x4_S24564x2_0_2
  have v24 : FVec F S1x24564x2 .f32 := broadcastInDim S1x24564x2 ![1, 2] bcast_S24564x2_S1x24564x2_1_2 v23
  have v25 : FVec F S1x1x24564x2 .f32 := broadcastInDim S1x1x24564x2 ![1, 2, 3] bcast_S1x24564x2_S1x1x24564x2_1_2_3 v24
  have v26 : FVec F S16x16x24564x2 .f32 := broadcastInDim S16x16x24564x2 ![0, 1, 2, 3] bcast_S16x16x1x2_S16x16x24564x2_0_1_2_3 v22
  have v27 : FVec F S16x16x24564x2 .f32 := broadcastInDim S16x16x24564x2 ![0, 1, 2, 3] bcast_S1x1x24564x2_S16x16x24564x2_0_1_2_3 v25
  have v28 : FVec F S16x16x24564x2 .f32 := minimumf v26 v27
  have v29 : FVec F S16x16x24564x2 .f32 := subf v28 v20
  have cst_1 : FVec F S_ .f32 := constant S_ .f32 0x00000000#32
  have v30 : FVec F S16x16x24564x2 .f32 := fn_clip (F := F) v29 cst_1
  have v31 : FVec F S16x16x24564x1 .f32 := extractStridedSlice S16x16x24564x1 ![0, 0, 0, 0] v30 slices_S16x16x24564x2_S16x16x24564x1_0_0_0_0
  have v32 : FVec F S16x16x24564 .f32 := shapeCast S16x16x24564 v31 shapeCasts_S16x16x24564x1_S16x16x24564
  have v33 : FVec F S16x16x24564x1 .f32 := extractStridedSlice S16x16x24564x1 ![0, 0, 0, 1] v30 slices_S16x16x24564x2_S16x16x24564x1_0_0_0_1
  have v34 : FVec F S16x16x24564 .f32 := shapeCast S16x16x24564 v33 shapeCasts_S16x16x24564x1_S16x16x24564
  have v35 : FVec F S16x16x24564 .f32 := mulf v32 v34
  have v36 : FVec F S16x16x1 .f32 := extractStridedSlice S16x16x1 ![0, 0, 2] arg2 slices_S16x16x4_S16x16x1_0_0_2
  have v37 : FVec F S16x16 .f32 := shapeCast S16x16 v36 shapeCasts_S16x16x1_S16x16
  have v38 : FVec F S16x16x1 .f32 := extractStridedSlice S16x16x1 ![0, 0, 0] arg2 slices_S16x16x4_S16x16x1_0_0_0
  have v39 : FVec F S16x16 .f32 := shapeCast S16x16 v38 shapeCasts_S16x16x1_S16x16
  have v40 : FVec F S16x16 .f32 := subf v37 v39
  have v41 : FVec F S16x16x1 .f32 := extractStridedSlice S16x16x1 ![0, 0, 3] arg2 slices_S16x16x4_S16x16x1_0_0_3
  have v42 : FVec F S16x16 .f32 := shapeCast S16x16 v41 shapeCasts_S16x16x1_S16x16
  have v43 : FVec F S16x16x1 .f32 := extractStridedSlice S16x16x1 ![0, 0, 1] arg2 slices_S16x16x4_S16x16x1_0_0_1
  have v44 : FVec F S16x16 .f32 := shapeCast S16x16 v43 shapeCasts_S16x16x1_S16x16
  have v45 : FVec F S16x16 .f32 := subf v42 v44
  have v46 : FVec F S16x16 .f32 := mulf v40 v45
  have v47 : FVec F S24564x1 .f32 := extractStridedSlice S24564x1 ![0, 2] v12 slices_S24564x4_S24564x1_0_2
  have v48 : FVec F S24564 .f32 := shapeCast S24564 v47 shapeCasts_S24564x1_S24564
  have v49 : FVec F S24564x1 .f32 := extractStridedSlice S24564x1 ![0, 0] v12 slices_S24564x4_S24564x1_0_0
  have v50 : FVec F S24564 .f32 := shapeCast S24564 v49 shapeCasts_S24564x1_S24564
  have v51 : FVec F S24564 .f32 := subf v48 v50
  have v52 : FVec F S24564x1 .f32 := extractStridedSlice S24564x1 ![0, 3] v12 slices_S24564x4_S24564x1_0_3
  have v53 : FVec F S24564 .f32 := shapeCast S24564 v52 shapeCasts_S24564x1_S24564
  have v54 : FVec F S24564x1 .f32 := extractStridedSlice S24564x1 ![0, 1] v12 slices_S24564x4_S24564x1_0_1
  have v55 : FVec F S24564 .f32 := shapeCast S24564 v54 shapeCasts_S24564x1_S24564
  have v56 : FVec F S24564 .f32 := subf v53 v55
  have v57 : FVec F S24564 .f32 := mulf v51 v56
  have v58 : FVec F S16x16x1 .f32 := broadcastInDim S16x16x1 ![0, 1] bcast_S16x16_S16x16x1_0_1 v46
  have v59 : FVec F S1x24564 .f32 := broadcastInDim S1x24564 ![1] bcast_S24564_S1x24564_1 v57
  have v60 : FVec F S1x1x24564 .f32 := broadcastInDim S1x1x24564 ![1, 2] bcast_S1x24564_S1x1x24564_1_2 v59
  have v61 : FVec F S16x16x24564 .f32 := broadcastInDim S16x16x24564 ![0, 1, 2] bcast_S16x16x1_S16x16x24564_0_1_2 v58
  have v62 : FVec F S16x16x24564 .f32 := broadcastInDim S16x16x24564 ![0, 1, 2] bcast_S1x1x24564_S16x16x24564_0_1_2 v60
  have v63 : FVec F S16x16x24564 .f32 := addf v61 v62
  have v64 : FVec F S16x16x24564 .f32 := subf v63 v35
  Host.divf v35 v64

/-- Each prior's greatest overlap with an object. -/
def best (v65 : FVec F S16x16x24564 .f32) : FVec F S16x24564 .f32 :=
  have cst_2 : FVec F S_ .f32 := constant S_ .f32 0xFF800000#32
  Host.reduce FloatOps.maximumf v65 cst_2 reducesTo_S16x16x24564_S16x24564_d1 h_S_

/-- Each prior's object: the first of greatest overlap, or the last object whose best prior it is. -/
def objects (v1 : IVec S16x1 32) (v67 : IVec S16x24564 32) (v68 : IVec S16x16 32) : IVec S16x24564 32 :=
  have v69 : IVec S16 32 := iotaInDim S16 32 0
  have v70 : IVec S1x16 32 := broadcastInDim S1x16 ![1] bcast_S16_S1x16_1 v69
  have c : IVec S_ 32 := constantI S_ 32 0#32
  have v71 : IVec S16x1 32 := broadcastInDim S16x1 ![] bcast_S_S16x1 c
  have v72 : IVec S16x1 1 := cmpi .slt v1 v71
  have c_3 : IVec S_ 32 := constantI S_ 32 16#32
  have v73 : IVec S16x1 32 := broadcastInDim S16x1 ![] bcast_S_S16x1 c_3
  have v74 : IVec S16x1 32 := addi v1 v73
  have v75 : IVec S16x1 32 := select v72 v74 v1
  have c_4 : IVec S_ 32 := constantI S_ 32 0#32
  have v76 : IVec S16x16 32 := broadcastInDim S16x16 ![] bcast_S_S16x16 c_4
  have v77 : IVec S16x16 1 := cmpi .slt v68 v76
  have c_5 : IVec S_ 32 := constantI S_ 32 24564#32
  have v78 : IVec S16x16 32 := broadcastInDim S16x16 ![] bcast_S_S16x16 c_5
  have v79 : IVec S16x16 32 := addi v68 v78
  have v80 : IVec S16x16 32 := select v77 v79 v68
  have v81 : IVec S16x16 32 := broadcastInDim S16x16 ![0, 1] bcast_S16x1_S16x16_0_1 v75
  have v82 : IVec S16x16x1 32 := broadcastInDim S16x16x1 ![0, 1] bcast_S16x16_S16x16x1_0_1 v81
  have v83 : IVec S16x16x1 32 := broadcastInDim S16x16x1 ![0, 1] bcast_S16x16_S16x16x1_0_1 v80
  have v84 : IVec S16x16x2 32 := concatenate S16x16x2 2 [⟨S16x16x1, v82⟩, ⟨S16x16x1, v83⟩] concatenates_S16x16x1_S16x16x1_S16x16x2_d2
  have v85 : IVec S16x16 32 := broadcastInDim S16x16 ![0, 1] bcast_S1x16_S16x16_0_1 v70
  Host.scatter scatter_S16x24564_S16x16x2_S16x16_n_01_01_2 (fun _ b => b) v67 v84 v85

/-- Each prior's overlap: its greatest, or one where it is an object's best prior. -/
def overlaps (v1 : IVec S16x1 32) (v66 : FVec F S16x24564 .f32) (v68 : IVec S16x16 32) : FVec F S16x24564 .f32 :=
  have c_6 : IVec S_ 32 := constantI S_ 32 0#32
  have v87 : IVec S16x1 32 := broadcastInDim S16x1 ![] bcast_S_S16x1 c_6
  have v88 : IVec S16x1 1 := cmpi .slt v1 v87
  have c_7 : IVec S_ 32 := constantI S_ 32 16#32
  have v89 : IVec S16x1 32 := broadcastInDim S16x1 ![] bcast_S_S16x1 c_7
  have v90 : IVec S16x1 32 := addi v1 v89
  have v91 : IVec S16x1 32 := select v88 v90 v1
  have c_8 : IVec S_ 32 := constantI S_ 32 0#32
  have v92 : IVec S16x16 32 := broadcastInDim S16x16 ![] bcast_S_S16x16 c_8
  have v93 : IVec S16x16 1 := cmpi .slt v68 v92
  have c_9 : IVec S_ 32 := constantI S_ 32 24564#32
  have v94 : IVec S16x16 32 := broadcastInDim S16x16 ![] bcast_S_S16x16 c_9
  have v95 : IVec S16x16 32 := addi v68 v94
  have v96 : IVec S16x16 32 := select v93 v95 v68
  have v97 : IVec S16x16 32 := broadcastInDim S16x16 ![0, 1] bcast_S16x1_S16x16_0_1 v91
  have v98 : IVec S16x16x1 32 := broadcastInDim S16x16x1 ![0, 1] bcast_S16x16_S16x16x1_0_1 v97
  have v99 : IVec S16x16x1 32 := broadcastInDim S16x16x1 ![0, 1] bcast_S16x16_S16x16x1_0_1 v96
  have v100 : IVec S16x16x2 32 := concatenate S16x16x2 2 [⟨S16x16x1, v98⟩, ⟨S16x16x1, v99⟩] concatenates_S16x16x1_S16x16x1_S16x16x2_d2
  have cst_10 : FVec F S_ .f32 := constant S_ .f32 0x3F800000#32
  have v101 : FVec F S16x16 .f32 := broadcastInDim S16x16 ![] bcast_S_S16x16 cst_10
  Host.scatter scatter_S16x24564_S16x16x2_S16x16_n_01_01_2 (fun _ b => b) v66 v100 v101

/-- Each prior's class: its object's, or 0 where the overlap is below one half. -/
def classes (v1 : IVec S16x1 32) (arg3 : IVec S16x16 32) (v86 : IVec S16x24564 32) (v102 : FVec F S16x24564 .f32) : IVec S16x24564 32 :=
  have cst_11 : FVec F S_ .f32 := constant S_ .f32 0x3F000000#32
  have v103 : FVec F S16x24564 .f32 := broadcastInDim S16x24564 ![] bcast_S_S16x24564 cst_11
  have v104 : IVec S16x24564 1 := cmpf .olt v102 v103
  have c_12 : IVec S_ 32 := constantI S_ 32 0#32
  have v105 : IVec S16x1 32 := broadcastInDim S16x1 ![] bcast_S_S16x1 c_12
  have v106 : IVec S16x1 1 := cmpi .slt v1 v105
  have c_13 : IVec S_ 32 := constantI S_ 32 16#32
  have v107 : IVec S16x1 32 := broadcastInDim S16x1 ![] bcast_S_S16x1 c_13
  have v108 : IVec S16x1 32 := addi v1 v107
  have v109 : IVec S16x1 32 := select v106 v108 v1
  have c_14 : IVec S_ 32 := constantI S_ 32 0#32
  have v110 : IVec S16x24564 32 := broadcastInDim S16x24564 ![] bcast_S_S16x24564 c_14
  have v111 : IVec S16x24564 1 := cmpi .slt v86 v110
  have c_15 : IVec S_ 32 := constantI S_ 32 16#32
  have v112 : IVec S16x24564 32 := broadcastInDim S16x24564 ![] bcast_S_S16x24564 c_15
  have v113 : IVec S16x24564 32 := addi v86 v112
  have v114 : IVec S16x24564 32 := select v111 v113 v86
  have v115 : IVec S16x24564 32 := broadcastInDim S16x24564 ![0, 1] bcast_S16x1_S16x24564_0_1 v109
  have v116 : IVec S16x24564x1 32 := broadcastInDim S16x24564x1 ![0, 1] bcast_S16x24564_S16x24564x1_0_1 v115
  have v117 : IVec S16x24564x1 32 := broadcastInDim S16x24564x1 ![0, 1] bcast_S16x24564_S16x24564x1_0_1 v114
  have v118 : IVec S16x24564x2 32 := concatenate S16x24564x2 2 [⟨S16x24564x1, v116⟩, ⟨S16x24564x1, v117⟩] concatenates_S16x24564x1_S16x24564x1_S16x24564x2_d2
  have v119 : IVec S16x24564 32 := Host.gather gather_S16x16_S16x24564x2_S16x24564_n_01_n_n_01_2_11 arg3 v118
  have c_16 : IVec S_ 32 := constantI S_ 32 0#32
  fn_where (F := F) v104 c_16 v119

/-- Each prior's object's box. -/
def chosen (v1 : IVec S16x1 32) (arg2 : FVec F S16x16x4 .f32) (v86 : IVec S16x24564 32) : FVec F S16x24564x4 .f32 :=
  have c_17 : IVec S_ 32 := constantI S_ 32 0#32
  have v121 : IVec S16x1 32 := broadcastInDim S16x1 ![] bcast_S_S16x1 c_17
  have v122 : IVec S16x1 1 := cmpi .slt v1 v121
  have c_18 : IVec S_ 32 := constantI S_ 32 16#32
  have v123 : IVec S16x1 32 := broadcastInDim S16x1 ![] bcast_S_S16x1 c_18
  have v124 : IVec S16x1 32 := addi v1 v123
  have v125 : IVec S16x1 32 := select v122 v124 v1
  have c_19 : IVec S_ 32 := constantI S_ 32 0#32
  have v126 : IVec S16x24564 32 := broadcastInDim S16x24564 ![] bcast_S_S16x24564 c_19
  have v127 : IVec S16x24564 1 := cmpi .slt v86 v126
  have c_20 : IVec S_ 32 := constantI S_ 32 16#32
  have v128 : IVec S16x24564 32 := broadcastInDim S16x24564 ![] bcast_S_S16x24564 c_20
  have v129 : IVec S16x24564 32 := addi v86 v128
  have v130 : IVec S16x24564 32 := select v127 v129 v86
  have v131 : IVec S16x24564 32 := broadcastInDim S16x24564 ![0, 1] bcast_S16x1_S16x24564_0_1 v125
  have v132 : IVec S16x24564x1 32 := broadcastInDim S16x24564x1 ![0, 1] bcast_S16x24564_S16x24564x1_0_1 v131
  have v133 : IVec S16x24564x1 32 := broadcastInDim S16x24564x1 ![0, 1] bcast_S16x24564_S16x24564x1_0_1 v130
  have v134 : IVec S16x24564x2 32 := concatenate S16x24564x2 2 [⟨S16x24564x1, v132⟩, ⟨S16x24564x1, v133⟩] concatenates_S16x24564x1_S16x24564x1_S16x24564x2_d2
  Host.gather gather_S16x16x4_S16x24564x2_S16x24564x4_2_01_n_n_01_2_114 arg2 v134

/-- Boxes as centres and extents. -/
def centred (v135 : FVec F S16x24564x4 .f32) : FVec F S16x24564x4 .f32 :=
  have v136 : FVec F S16x24564x2 .f32 := extractStridedSlice S16x24564x2 ![0, 0, 0] v135 slices_S16x24564x4_S16x24564x2_0_0_0
  have v137 : FVec F S16x24564x2 .f32 := extractStridedSlice S16x24564x2 ![0, 0, 2] v135 slices_S16x24564x4_S16x24564x2_0_0_2
  have v138 : FVec F S16x24564x2 .f32 := addf v136 v137
  have cst_21 : FVec F S_ .f32 := constant S_ .f32 0x40000000#32
  have v139 : FVec F S16x24564x2 .f32 := broadcastInDim S16x24564x2 ![] bcast_S_S16x24564x2 cst_21
  have v140 : FVec F S16x24564x2 .f32 := Host.divf v138 v139
  have v141 : FVec F S16x24564x2 .f32 := extractStridedSlice S16x24564x2 ![0, 0, 2] v135 slices_S16x24564x4_S16x24564x2_0_0_2
  have v142 : FVec F S16x24564x2 .f32 := extractStridedSlice S16x24564x2 ![0, 0, 0] v135 slices_S16x24564x4_S16x24564x2_0_0_0
  have v143 : FVec F S16x24564x2 .f32 := subf v141 v142
  concatenate S16x24564x4 2 [⟨S16x24564x2, v140⟩, ⟨S16x24564x2, v143⟩] concatenates_S16x24564x2_S16x24564x2_S16x24564x4_d2

/-- Centres and extents relative to the priors'. -/
def relative (arg4 : FVec F S24564x4 .f32) (v144 : FVec F S16x24564x4 .f32) : FVec F S16x24564x4 .f32 :=
  have v145 : FVec F S16x24564x2 .f32 := extractStridedSlice S16x24564x2 ![0, 0, 0] v144 slices_S16x24564x4_S16x24564x2_0_0_0
  have v146 : FVec F S24564x2 .f32 := extractStridedSlice S24564x2 ![0, 0] arg4 slices_S24564x4_S24564x2_0_0
  have v147 : FVec F S1x24564x2 .f32 := broadcastInDim S1x24564x2 ![1, 2] bcast_S24564x2_S1x24564x2_1_2 v146
  have v148 : FVec F S16x24564x2 .f32 := broadcastInDim S16x24564x2 ![0, 1, 2] bcast_S1x24564x2_S16x24564x2_0_1_2 v147
  have v149 : FVec F S16x24564x2 .f32 := subf v145 v148
  have v150 : FVec F S24564x2 .f32 := extractStridedSlice S24564x2 ![0, 2] arg4 slices_S24564x4_S24564x2_0_2
  have cst_22 : FVec F S_ .f32 := constant S_ .f32 0x41200000#32
  have v151 : FVec F S24564x2 .f32 := broadcastInDim S24564x2 ![] bcast_S_S24564x2 cst_22
  have v152 : FVec F S24564x2 .f32 := Host.divf v150 v151
  have v153 : FVec F S1x24564x2 .f32 := broadcastInDim S1x24564x2 ![1, 2] bcast_S24564x2_S1x24564x2_1_2 v152
  have v154 : FVec F S16x24564x2 .f32 := broadcastInDim S16x24564x2 ![0, 1, 2] bcast_S1x24564x2_S16x24564x2_0_1_2 v153
  have v155 : FVec F S16x24564x2 .f32 := Host.divf v149 v154
  have v156 : FVec F S16x24564x2 .f32 := extractStridedSlice S16x24564x2 ![0, 0, 2] v144 slices_S16x24564x4_S16x24564x2_0_0_2
  have v157 : FVec F S24564x2 .f32 := extractStridedSlice S24564x2 ![0, 2] arg4 slices_S24564x4_S24564x2_0_2
  have v158 : FVec F S1x24564x2 .f32 := broadcastInDim S1x24564x2 ![1, 2] bcast_S24564x2_S1x24564x2_1_2 v157
  have v159 : FVec F S16x24564x2 .f32 := broadcastInDim S16x24564x2 ![0, 1, 2] bcast_S1x24564x2_S16x24564x2_0_1_2 v158
  have v160 : FVec F S16x24564x2 .f32 := Host.divf v156 v159
  have v161 : FVec F S16x24564x2 .f32 := Host.log v160
  have cst_23 : FVec F S_ .f32 := constant S_ .f32 0x40A00000#32
  have v162 : FVec F S16x24564x2 .f32 := broadcastInDim S16x24564x2 ![] bcast_S_S16x24564x2 cst_23
  have v163 : FVec F S16x24564x2 .f32 := mulf v161 v162
  concatenate S16x24564x4 2 [⟨S16x24564x2, v155⟩, ⟨S16x24564x2, v163⟩] concatenates_S16x24564x2_S16x24564x2_S16x24564x4_d2

/-- The offsets to learn. -/
def offsets (v1 : IVec S16x1 32) (arg2 : FVec F S16x16x4 .f32) (arg4 : FVec F S24564x4 .f32) (v86 : IVec S16x24564 32) : FVec F S16x24564x4 .f32 :=
  relative arg4 (centred (chosen v1 arg2 v86))

/-- The priors whose class is not 0. -/
def positive (v120 : IVec S16x24564 32) : IVec S16x24564 1 :=
  have c_24 : IVec S_ 32 := constantI S_ 32 0#32
  have v165 : IVec S16x24564 32 := broadcastInDim S16x24564 ![] bcast_S_S16x24564 c_24
  cmpi .ne v120 v165

/-- How many positive priors each image has. -/
def counts (v166 : IVec S16x24564 1) : IVec S16 32 :=
  have v167 : IVec S16x24564 32 := extui 32 v166 natLt_1_32
  have c_25 : IVec S_ 32 := constantI S_ 32 0#32
  Host.reduce IntOp.addi v167 c_25 reducesTo_S16x24564_S16_d1 h_S_

/-- The cross entropy of each prior. -/
def losses (arg1 : FVec F S16x24564x81 .f32) (v120 : IVec S16x24564 32) : FVec F S16x24564 .f32 :=
  have cst_29 : FVec F S_ .f32 := constant S_ .f32 0xFF800000#32
  have v175 : FVec F S16x24564 .f32 := Host.reduce FloatOps.maximumf arg1 cst_29 reducesTo_S16x24564x81_S16x24564_d2 h_S_
  have v176 : FVec F S16x24564x1 .f32 := broadcastInDim S16x24564x1 ![0, 1] bcast_S16x24564_S16x24564x1_0_1 v175
  have v177 : FVec F S16x24564x81 .f32 := broadcastInDim S16x24564x81 ![0, 1, 2] bcast_S16x24564x1_S16x24564x81_0_1_2 v176
  have v178 : FVec F S16x24564x81 .f32 := subf arg1 v177
  have v179 : FVec F S16x24564x81 .f32 := Host.exp v178
  have cst_30 : FVec F S_ .f32 := constant S_ .f32 0x00000000#32
  have v180 : FVec F S16x24564 .f32 := Host.reduceAdd v179 cst_30 reducesTo_S16x24564x81_S16x24564_d2 h_S_
  have v181 : FVec F S16x24564 .f32 := Host.log v180
  have v182 : FVec F S16x24564 .f32 := addf v181 v175
  have v183 : IVec S16x24564x1 32 := broadcastInDim S16x24564x1 ![0, 1] bcast_S16x24564_S16x24564x1_0_1 v120
  have v184 : FVec F S16x24564x1 .f32 := fn_take_along_axis (F := F) arg1 v183
  have v185 : FVec F S16x24564 .f32 := shapeCast S16x24564 v184 shapeCasts_S16x24564x1_S16x24564
  subf v182 v185

/-- The losses of the negative priors, 0 at a positive one, the greatest first. -/
def ranked (v166 : IVec S16x24564 1) (v186 : FVec F S16x24564 .f32) : FVec F S16x24564 .f32 :=
  have cst_31 : FVec F S_ .f32 := constant S_ .f32 0x00000000#32
  have v187 : FVec F S16x24564 .f32 := fn_where_1 (F := F) v166 cst_31 v186
  have v188 : FVec F S16x24564 .f32 := Host.negf v187
  have v189 : FVec F S16x24564 .f32 := fn_sort (F := F) v188
  Host.negf v189

/-- The rank of the least loss taken. -/
def atLast (v168 : IVec S16 32) : IVec S16x24564 1 :=
  have c_26 : IVec S_ 32 := constantI S_ 32 3#32
  have v169 : IVec S16 32 := broadcastInDim S16 ![] bcast_S_S16 c_26
  have v170 : IVec S16 32 := muli v169 v168
  have c_27 : IVec S_ 32 := constantI S_ 32 24564#32
  have v171 : IVec S16 32 := broadcastInDim S16 ![] bcast_S_S16 c_27
  have v172 : IVec S16 32 := minsi v170 v171
  have c_28 : IVec S_ 32 := constantI S_ 32 1#32
  have v173 : IVec S16 32 := broadcastInDim S16 ![] bcast_S_S16 c_28
  have v174 : IVec S16 32 := subi v172 v173
  have v191 : IVec S24564 32 := iotaInDim S24564 32 0
  have v192 : IVec S1x24564 32 := broadcastInDim S1x24564 ![1] bcast_S24564_S1x24564_1 v191
  have v193 : IVec S16x1 32 := broadcastInDim S16x1 ![0] bcast_S16_S16x1_0 v174
  have v194 : IVec S16x24564 32 := broadcastInDim S16x24564 ![0, 1] bcast_S1x24564_S16x24564_0_1 v192
  have v195 : IVec S16x24564 32 := broadcastInDim S16x24564 ![0, 1] bcast_S16x1_S16x24564_0_1 v193
  cmpi .eq v194 v195

/-- Whether every logit is finite. -/
def finite (arg1 : FVec F S16x24564x81 .f32) : IVec S_ 1 :=
  have v197 : FVec F S16x24564x81 .f32 := Host.absf arg1
  have cst_32 : FVec F S_ .f32 := constant S_ .f32 0x7F800000#32
  have v198 : FVec F S16x24564x81 .f32 := broadcastInDim S16x24564x81 ![] bcast_S_S16x24564x81 cst_32
  have v199 : IVec S16x24564x81 1 := cmpf .olt v197 v198
  have c_33 : IVec S_ 1 := constantI S_ 1 1#1
  Host.reduce IntOp.andi v199 c_33 reducesTo_S16x24564x81_S_d0_1_2 h_S_

/-- Whether every label is a class from 1 to 80. -/
def labelled (arg3 : IVec S16x16 32) : IVec S_ 1 :=
  have c_34 : IVec S_ 32 := constantI S_ 32 1#32
  have v201 : IVec S16x16 32 := broadcastInDim S16x16 ![] bcast_S_S16x16 c_34
  have v202 : IVec S16x16 1 := cmpi .sge arg3 v201
  have c_35 : IVec S_ 32 := constantI S_ 32 81#32
  have v203 : IVec S16x16 32 := broadcastInDim S16x16 ![] bcast_S_S16x16 c_35
  have v204 : IVec S16x16 1 := cmpi .slt arg3 v203
  have v205 : IVec S16x16 1 := andi v202 v204
  have c_36 : IVec S_ 1 := constantI S_ 1 1#1
  Host.reduce IntOp.andi v205 c_36 reducesTo_S16x16_S_d0_1 h_S_

/-- The ranked losses moved up a rank, with 0 after the last. -/
def following (v190 : FVec F S16x24564 .f32) : FVec F S16x24564 .f32 :=
  have v191 : FVec F S16x24563 .f32 := extractStridedSlice S16x24563 ![0, 1] v190 slices_S16x24564_S16x24563_0_1
  have cst_32 : FVec F S_ .f32 := constant S_ .f32 0x00000000#32
  have v192 : FVec F S16x1 .f32 := broadcastInDim S16x1 ![] bcast_S_S16x1 cst_32
  concatenate S16x24564 1 [⟨S16x24563, v191⟩, ⟨S16x1, v192⟩] concatenates_S16x24563_S16x1_S16x24564_d1

/-- No more than the greatest float32 number. -/
def capped (v190 : FVec F S16x24564 .f32) : FVec F S16x24564 .f32 :=
  minimumf v190 (broadcastInDim S16x24564 ![] bcast_S_S16x24564 (constant S_ .f32 0x7F7FFFFF#32))

/-- `v` multiplied by the number of `lo` where `y` is at least the number of `hi`. -/
def down (hi lo : BitVec 32) (y v : FVec F S16x24564 .f32) : FVec F S16x24564 .f32 :=
  fn_where_2 (cmpf .oge y (broadcastInDim S16x24564 ![] bcast_S_S16x24564 (constant S_ .f32 hi)))
    (mulf v (broadcastInDim S16x24564 ![] bcast_S_S16x24564 (constant S_ .f32 lo))) v

/-- `v` multiplied by the number of `lo` where `y` is below the number of `hi`. -/
def up (hi lo : BitVec 32) (y v : FVec F S16x24564 .f32) : FVec F S16x24564 .f32 :=
  fn_where_2 (cmpf .olt y (broadcastInDim S16x24564 ![] bcast_S_S16x24564 (constant S_ .f32 hi)))
    (mulf v (broadcastInDim S16x24564 ![] bcast_S_S16x24564 (constant S_ .f32 lo))) v

/-- A test of two vectors, made of both multiplied where the first is large. -/
def downs (hi lo : BitVec 32) (k : FVec F S16x24564 .f32 → FVec F S16x24564 .f32 → IVec S16x24564 1) (y z : FVec F S16x24564 .f32) : IVec S16x24564 1 :=
  k (down hi lo y y) (down hi lo y z)

/-- A test of two vectors, made of both multiplied where the first is small. -/
def ups (hi lo : BitVec 32) (k : FVec F S16x24564 .f32 → FVec F S16x24564 .f32 → IVec S16x24564 1) (y z : FVec F S16x24564 .f32) : IVec S16x24564 1 :=
  k (up hi lo y y) (up hi lo y z)

/-- A test of two vectors, made of both scaled by powers of two, the first down to below `2^24`, then up to at least `2^23` or by `2^149`. -/
def scaled (k : FVec F S16x24564 .f32 → FVec F S16x24564 .f32 → IVec S16x24564 1) : FVec F S16x24564 .f32 → FVec F S16x24564 .f32 → IVec S16x24564 1 :=
  downs 0x6B000000#32 0x1F800000#32 <|
  downs 0x5B000000#32 0x2F800000#32 <|
  downs 0x53000000#32 0x37800000#32 <|
  downs 0x4F000000#32 0x3B800000#32 <|
  downs 0x4D000000#32 0x3D800000#32 <|
  downs 0x4C000000#32 0x3E800000#32 <|
  downs 0x4B800000#32 0x3F000000#32 <|
  ups 0x2B800000#32 0x5F800000#32 <|
  ups 0x3B800000#32 0x4F800000#32 <|
  ups 0x43800000#32 0x47800000#32 <|
  ups 0x43800000#32 0x47800000#32 <|
  ups 0x47800000#32 0x43800000#32 <|
  ups 0x49800000#32 0x41800000#32 <|
  ups 0x49800000#32 0x41800000#32 <|
  ups 0x4A800000#32 0x40800000#32 <|
  ups 0x4A800000#32 0x40800000#32 <|
  ups 0x4B000000#32 0x40000000#32 <|
  k

/-- Whether a whole number lies between `z` and `y`, which is below `2^24`. -/
def whole (y z : FVec F S16x24564 .f32) : IVec S16x24564 1 :=
  andi (cmpf .ole z (Host.floor y)) (cmpf .olt y (broadcastInDim S16x24564 ![] bcast_S_S16x24564 (constant S_ .f32 0x4B800000#32)))

/-- Whether it is so at every place chosen. -/
def admitted (v199 v353 : IVec S16x24564 1) : IVec S_ 1 :=
  have v210 : IVec S16x24564 1 := noti v199
  have v354 : IVec S16x24564 1 := ori v210 v353
  have c_91 : IVec S_ 1 := constantI S_ 1 1#1
  Host.reduce IntOp.andi v354 c_91 reducesTo_S16x24564_S_d0_1 h_S_

/-- The object of each prior, from the boxes and the priors. -/
def objs (a2 : FVec F S16x16x4 .f32) (a4 : FVec F S24564x4 .f32) : IVec S16x24564 32 :=
  objects images (fn_argmax (F := F) (overlap a2 a4)) (fn_argmax_0 (F := F) (overlap a2 a4))

/-- The class of each prior, from the boxes, the labels and the priors. -/
def cls (a2 : FVec F S16x16x4 .f32) (a3 : IVec S16x16 32) (a4 : FVec F S24564x4 .f32) : IVec S16x24564 32 :=
  classes images a3 (objs a2 a4)
    (overlaps images (best (overlap a2 a4)) (fn_argmax_0 (F := F) (overlap a2 a4)))

/-- The ranked losses, from the logits and the classes. -/
def rank (a1 : FVec F S16x24564x81 .f32) (cl : IVec S16x24564 32) : FVec F S16x24564 .f32 :=
  ranked (positive cl) (losses a1 cl)

/-- Whether a float32 number lies between the next loss and this one, of ranked losses. -/
def parted (v190 : FVec F S16x24564 .f32) : IVec S16x24564 1 :=
  scaled whole (capped v190) (following v190)

/-- The precondition is that the logits are finite, the labels in range, and the losses taken parted by a float32 number from the rest. -/
theorem fn_eq (a0 : FVec F S16x24564x4 .f32) (a1 : FVec F S16x24564x81 .f32) (a2 : FVec F S16x16x4 .f32)
    (a3 : IVec S16x16 32) (a4 : FVec F S24564x4 .f32) :
    Cert.Pre_admissible.fn (F := F) a0 a1 a2 a3 a4 = (finite a1, labelled a3,
      admitted (atLast (counts (positive (cls a2 a3 a4)))) (parted (rank a1 (cls a2 a3 a4)))) := by
  rfl

end Cert.Stages
-- ==== Proof.RefValue.lean ====
/- The reference's result as a function of its arguments: each stretch of its operations read as the value it computes. -/
module

public import proofs.«01_k».proof.Defs
public import proofs.«01_k».proof.Proof.RefRun
public import proofs.«01_k».proof.Proof.Stages

@[expose] public section

noncomputable section

namespace Cert.ReferenceIdeal.Run

open Idealize.ShloMosaic Idealize.SL.Sem Cert.ReferenceIdeal Cert.ReferenceIdeal.Facts₀

variable [Cert.Pre_admissible.Facts]

variable {F : FTy → Type} [FloatOps F]

/-- The mean L1 distance of the positive priors' offsets. -/
def locLoss (a0 locs : FVec F S16x24564x4 .f32) (pos : IVec S16x24564 1) (total : FVec F S_ .f32) : FVec F S_ .f32 :=
  Host.divf
    (Host.reduceAdd
      (mulf (Host.absf (subf a0 locs))
        (broadcastInDim S16x24564x4 ![0, 1, 2] bcast_S16x24564x1_S16x24564x4_0_1_2
          (uitofp .f32 (broadcastInDim S16x24564x1 ![0, 1] bcast_S16x24564_S16x24564x1_0_1 pos))))
      (constant S_ .f32 0x00000000#32) reducesTo_S16x24564x4_S_d0_1_2 h_S_)
    (mulf total (constant S_ .f32 0x40800000#32))

/-- How many positive priors there are, as a float. -/
def posTotal (n : IVec S16 32) : FVec F S_ .f32 :=
  sitofp .f32 (Host.reduce IntOp.addi n (constantI S_ 32 0#32) reducesTo_S16_S_d0 h_S_)

/-- The positive priors' losses, added up. -/
def posLoss (ce : FVec F S16x24564 .f32) (pos : IVec S16x24564 1) : FVec F S_ .f32 :=
  Host.reduceAdd (mulf ce (uitofp .f32 pos)) (constant S_ .f32 0x00000000#32) reducesTo_S16x24564_S_d0_1 h_S_

/-- The losses of rank below three times the count, added up. -/
def hardLoss (rk : FVec F S16x24564 .f32) (n : IVec S16 32) : FVec F S_ .f32 :=
  Host.reduceAdd
    (mulf rk (uitofp .f32
      (cmpi .slt
        (broadcastInDim S16x24564 ![0, 1] bcast_S1x24564_S16x24564_0_1
          (broadcastInDim S1x24564 ![1] bcast_S24564_S1x24564_1 (iotaInDim S24564 32 0)))
        (broadcastInDim S16x24564 ![0, 1] bcast_S16x1_S16x24564_0_1
          (broadcastInDim S16x1 ![0] bcast_S16_S16x1_0
            (muli (broadcastInDim S16 ![] bcast_S_S16 (constantI S_ 32 3#32)) n))))))
    (constant S_ .f32 0x00000000#32) reducesTo_S16x24564_S_d0_1 h_S_

/-- The reference's result from the offsets to learn, the classes and the arguments. -/
def result (a0 : FVec F S16x24564x4 .f32) (a1 : FVec F S16x24564x81 .f32) (locs : FVec F S16x24564x4 .f32)
    (cl : IVec S16x24564 32) : FVec F S_ .f32 :=
  addf
    (Host.divf
      (addf (hardLoss (F := F) (Stages.rank a1 cl) (Stages.counts (Stages.positive cl)))
        (posLoss (F := F) (Stages.losses a1 cl) (Stages.positive cl)))
      (posTotal (Stages.counts (Stages.positive cl))))
    (mulf (constant S_ .f32 0x3F800000#32)
      (locLoss a0 locs (Stages.positive cl) (posTotal (Stages.counts (Stages.positive cl)))))

/-- Two lines one after the other are run one after the other. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

section Stretches

variable (V : Valuation τ sig (Elt F))

/-- What the first stretch computes, and what it leaves. -/
theorem iou_reads :
    StableHlo.after (opsIou (F := F)) V (Proc.devRef .tc main_arg0) = V (Proc.devRef .tc main_arg0) ∧
    StableHlo.after (opsIou (F := F)) V (Proc.devRef .tc main_arg1) = V (Proc.devRef .tc main_arg1) ∧
    StableHlo.after (opsIou (F := F)) V (Proc.devRef .tc main_arg2) = V (Proc.devRef .tc main_arg2) ∧
    StableHlo.after (opsIou (F := F)) V (Proc.devRef .tc main_arg3) = V (Proc.devRef .tc main_arg3) ∧
    StableHlo.after (opsIou (F := F)) V (Proc.devRef .tc main_arg4) = V (Proc.devRef .tc main_arg4) ∧
    StableHlo.after (opsIou (F := F)) V (Proc.devRef .tc main_v1) = Stages.images ∧
    StableHlo.after (opsIou (F := F)) V (Proc.devRef .tc main_v65) = Stages.overlap (V (Proc.devRef .tc main_arg2)) (V (Proc.devRef .tc main_arg4)) := by
  unfold opsIou
  refine ⟨?_, ?_, ?_, ?_, ?_, ?_, ?_⟩ <;> after_reads_simp <;> rfl

/-- The greatest overlaps and where they are. -/
theorem best_reads :
    StableHlo.after (opsBest (F := F)) V (Proc.devRef .tc main_arg0) = V (Proc.devRef .tc main_arg0) ∧
    StableHlo.after (opsBest (F := F)) V (Proc.devRef .tc main_arg1) = V (Proc.devRef .tc main_arg1) ∧
    StableHlo.after (opsBest (F := F)) V (Proc.devRef .tc main_arg2) = V (Proc.devRef .tc main_arg2) ∧
    StableHlo.after (opsBest (F := F)) V (Proc.devRef .tc main_arg3) = V (Proc.devRef .tc main_arg3) ∧
    StableHlo.after (opsBest (F := F)) V (Proc.devRef .tc main_arg4) = V (Proc.devRef .tc main_arg4) ∧
    StableHlo.after (opsBest (F := F)) V (Proc.devRef .tc main_v1) = V (Proc.devRef .tc main_v1) ∧
    StableHlo.after (opsBest (F := F)) V (Proc.devRef .tc main_v66) = Stages.best (V (Proc.devRef .tc main_v65)) ∧
    StableHlo.after (opsBest (F := F)) V (Proc.devRef .tc main_v67) = Cert.Pre_admissible.fn_argmax (F := F) (V (Proc.devRef .tc main_v65)) ∧
    StableHlo.after (opsBest (F := F)) V (Proc.devRef .tc main_v68) = Cert.Pre_admissible.fn_argmax_0 (F := F) (V (Proc.devRef .tc main_v65)) := by
  unfold opsBest
  refine ⟨?_, ?_, ?_, ?_, ?_, ?_, ?_, ?_, ?_⟩ <;> after_reads_simp <;> rfl

/-- Each prior's object. -/
theorem pair_reads :
    StableHlo.after (opsPair (F := F)) V (Proc.devRef .tc main_arg0) = V (Proc.devRef .tc main_arg0) ∧
    StableHlo.after (opsPair (F := F)) V (Proc.devRef .tc main_arg1) = V (Proc.devRef .tc main_arg1) ∧
    StableHlo.after (opsPair (F := F)) V (Proc.devRef .tc main_arg2) = V (Proc.devRef .tc main_arg2) ∧
    StableHlo.after (opsPair (F := F)) V (Proc.devRef .tc main_arg3) = V (Proc.devRef .tc main_arg3) ∧
    StableHlo.after (opsPair (F := F)) V (Proc.devRef .tc main_arg4) = V (Proc.devRef .tc main_arg4) ∧
    StableHlo.after (opsPair (F := F)) V (Proc.devRef .tc main_v1) = V (Proc.devRef .tc main_v1) ∧
    StableHlo.after (opsPair (F := F)) V (Proc.devRef .tc main_v66) = V (Proc.devRef .tc main_v66) ∧
    StableHlo.after (opsPair (F := F)) V (Proc.devRef .tc main_v68) = V (Proc.devRef .tc main_v68) ∧
    StableHlo.after (opsPair (F := F)) V (Proc.devRef .tc main_v86) = Stages.objects (V (Proc.devRef .tc main_v1)) (V (Proc.devRef .tc main_v67)) (V (Proc.devRef .tc main_v68)) := by
  unfold opsPair
  refine ⟨?_, ?_, ?_, ?_, ?_, ?_, ?_, ?_, ?_⟩ <;> after_reads_simp <;> rfl

/-- Each prior's overlap. -/
theorem force_reads :
    StableHlo.after (opsForce (F := F)) V (Proc.devRef .tc main_arg0) = V (Proc.devRef .tc main_arg0) ∧
    StableHlo.after (opsForce (F := F)) V (Proc.devRef .tc main_arg1) = V (Proc.devRef .tc main_arg1) ∧
    StableHlo.after (opsForce (F := F)) V (Proc.devRef .tc main_arg2) = V (Proc.devRef .tc main_arg2) ∧
    StableHlo.after (opsForce (F := F)) V (Proc.devRef .tc main_arg3) = V (Proc.devRef .tc main_arg3) ∧
    StableHlo.after (opsForce (F := F)) V (Proc.devRef .tc main_arg4) = V (Proc.devRef .tc main_arg4) ∧
    StableHlo.after (opsForce (F := F)) V (Proc.devRef .tc main_v1) = V (Proc.devRef .tc main_v1) ∧
    StableHlo.after (opsForce (F := F)) V (Proc.devRef .tc main_v86) = V (Proc.devRef .tc main_v86) ∧
    StableHlo.after (opsForce (F := F)) V (Proc.devRef .tc main_v102) = Stages.overlaps (V (Proc.devRef .tc main_v1)) (V (Proc.devRef .tc main_v66)) (V (Proc.devRef .tc main_v68)) := by
  unfold opsForce
  refine ⟨?_, ?_, ?_, ?_, ?_, ?_, ?_, ?_⟩ <;> after_reads_simp <;> rfl

/-- Each prior's class. -/
theorem label_reads :
    StableHlo.after (opsLabel (F := F)) V (Proc.devRef .tc main_arg0) = V (Proc.devRef .tc main_arg0) ∧
    StableHlo.after (opsLabel (F := F)) V (Proc.devRef .tc main_arg1) = V (Proc.devRef .tc main_arg1) ∧
    StableHlo.after (opsLabel (F := F)) V (Proc.devRef .tc main_arg2) = V (Proc.devRef .tc main_arg2) ∧
    StableHlo.after (opsLabel (F := F)) V (Proc.devRef .tc main_arg3) = V (Proc.devRef .tc main_arg3) ∧
    StableHlo.after (opsLabel (F := F)) V (Proc.devRef .tc main_arg4) = V (Proc.devRef .tc main_arg4) ∧
    StableHlo.after (opsLabel (F := F)) V (Proc.devRef .tc main_v1) = V (Proc.devRef .tc main_v1) ∧
    StableHlo.after (opsLabel (F := F)) V (Proc.devRef .tc main_v86) = V (Proc.devRef .tc main_v86) ∧
    StableHlo.after (opsLabel (F := F)) V (Proc.devRef .tc main_v120) = Stages.classes (F := F) (V (Proc.devRef .tc main_v1)) (V (Proc.devRef .tc main_arg3)) (V (Proc.devRef .tc main_v86)) (V (Proc.devRef .tc main_v102)) := by
  unfold opsLabel
  refine ⟨?_, ?_, ?_, ?_, ?_, ?_, ?_, ?_⟩ <;> after_reads_simp <;> rfl

/-- The operations that take each prior's object's box. -/
def opsTake : List (HloOp τ sig (Elt F)) :=
  [StableHlo.nullary main_c_17 (constantI S_ 32 0#32),
   StableHlo.unary main_c_17 main_v121 (broadcastInDim S16x1 ![] bcast_S_S16x1 : (⟨S_, .i32⟩ : BufTy).Contents (Elt F) → (⟨S16x1, .i32⟩ : BufTy).Contents (Elt F)),
   StableHlo.binary main_v1 main_v121 main_v122 (cmpi .slt : (⟨S16x1, .i32⟩ : BufTy).Contents (Elt F) → (⟨S16x1, .i32⟩ : BufTy).Contents (Elt F) → (⟨S16x1, .i1⟩ : BufTy).Contents (Elt F)),
   StableHlo.nullary main_c_18 (constantI S_ 32 16#32),
   StableHlo.unary main_c_18 main_v123 (broadcastInDim S16x1 ![] bcast_S_S16x1 : (⟨S_, .i32⟩ : BufTy).Contents (Elt F) → (⟨S16x1, .i32⟩ : BufTy).Contents (Elt F)),
   StableHlo.binary main_v1 main_v123 main_v124 (addi : (⟨S16x1, .i32⟩ : BufTy).Contents (Elt F) → (⟨S16x1, .i32⟩ : BufTy).Contents (Elt F) → (⟨S16x1, .i32⟩ : BufTy).Contents (Elt F)),
   StableHlo.ternary main_v122 main_v124 main_v1 main_v125 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
   StableHlo.nullary main_c_19 (constantI S_ 32 0#32),
   StableHlo.unary main_c_19 main_v126 (broadcastInDim S16x24564 ![] bcast_S_S16x24564 : (⟨S_, .i32⟩ : BufTy).Contents (Elt F) → (⟨S16x24564, .i32⟩ : BufTy).Contents (Elt F)),
   StableHlo.binary main_v86 main_v126 main_v127 (cmpi .slt : (⟨S16x24564, .i32⟩ : BufTy).Contents (Elt F) → (⟨S16x24564, .i32⟩ : BufTy).Contents (Elt F) → (⟨S16x24564, .i1⟩ : BufTy).Contents (Elt F)),
   StableHlo.nullary main_c_20 (constantI S_ 32 16#32),
   StableHlo.unary main_c_20 main_v128 (broadcastInDim S16x24564 ![] bcast_S_S16x24564 : (⟨S_, .i32⟩ : BufTy).Contents (Elt F) → (⟨S16x24564, .i32⟩ : BufTy).Contents (Elt F)),
   StableHlo.binary main_v86 main_v128 main_v129 (addi : (⟨S16x24564, .i32⟩ : BufTy).Contents (Elt F) → (⟨S16x24564, .i32⟩ : BufTy).Contents (Elt F) → (⟨S16x24564, .i32⟩ : BufTy).Contents (Elt F)),
   StableHlo.ternary main_v127 main_v129 main_v86 main_v130 (select : (⟨S16x24564, .i1⟩ : BufTy).Contents (Elt F) → (⟨S16x24564, .i32⟩ : BufTy).Contents (Elt F) → (⟨S16x24564, .i32⟩ : BufTy).Contents (Elt F) → (⟨S16x24564, .i32⟩ : BufTy).Contents (Elt F)),
   StableHlo.unary main_v125 main_v131 (broadcastInDim S16x24564 ![0, 1] bcast_S16x1_S16x24564_0_1 : (⟨S16x1, .i32⟩ : BufTy).Contents (Elt F) → (⟨S16x24564, .i32⟩ : BufTy).Contents (Elt F)),
   StableHlo.unary main_v131 main_v132 (broadcastInDim S16x24564x1 ![0, 1] bcast_S16x24564_S16x24564x1_0_1 : (⟨S16x24564, .i32⟩ : BufTy).Contents (Elt F) → (⟨S16x24564x1, .i32⟩ : BufTy).Contents (Elt F)),
   StableHlo.unary main_v130 main_v133 (broadcastInDim S16x24564x1 ![0, 1] bcast_S16x24564_S16x24564x1_0_1 : (⟨S16x24564, .i32⟩ : BufTy).Contents (Elt F) → (⟨S16x24564x1, .i32⟩ : BufTy).Contents (Elt F)),
   StableHlo.binary main_v132 main_v133 main_v134 ((fun a b => concatenate S16x24564x2 2 [⟨S16x24564x1, a⟩, ⟨S16x24564x1, b⟩] concatenates_S16x24564x1_S16x24564x1_S16x24564x2_d2) : (⟨S16x24564x1, .i32⟩ : BufTy).Contents (Elt F) → (⟨S16x24564x1, .i32⟩ : BufTy).Contents (Elt F) → (⟨S16x24564x2, .i32⟩ : BufTy).Contents (Elt F)),
   StableHlo.binary main_arg2 main_v134 main_v135 ((fun x i => Host.gather gather_S16x16x4_S16x24564x2_S16x24564x4_2_01_n_n_01_2_114 x i) : (⟨S16x16x4, .f32⟩ : BufTy).Contents (Elt F) → (⟨S16x24564x2, .i32⟩ : BufTy).Contents (Elt F) → (⟨S16x24564x4, .f32⟩ : BufTy).Contents (Elt F))]

/-- The operations that turn boxes into centres and extents. -/
def opsCentre : List (HloOp τ sig (Elt F)) :=
  [StableHlo.unary main_v135 main_v136 ((extractStridedSlice S16x24564x2 ![0, 0, 0] · slices_S16x24564x4_S16x24564x2_0_0_0) : (⟨S16x24564x4, .f32⟩ : BufTy).Contents (Elt F) → (⟨S16x24564x2, .f32⟩ : BufTy).Contents (Elt F)),
   StableHlo.unary main_v135 main_v137 ((extractStridedSlice S16x24564x2 ![0, 0, 2] · slices_S16x24564x4_S16x24564x2_0_0_2) : (⟨S16x24564x4, .f32⟩ : BufTy).Contents (Elt F) → (⟨S16x24564x2, .f32⟩ : BufTy).Contents (Elt F)),
   StableHlo.binary main_v136 main_v137 main_v138 (addf : (⟨S16x24564x2, .f32⟩ : BufTy).Contents (Elt F) → (⟨S16x24564x2, .f32⟩ : BufTy).Contents (Elt F) → (⟨S16x24564x2, .f32⟩ : BufTy).Contents (Elt F)),
   StableHlo.nullary main_cst_21 (constant S_ .f32 0x40000000#32),
   StableHlo.unary main_cst_21 main_v139 (broadcastInDim S16x24564x2 ![] bcast_S_S16x24564x2 : (⟨S_, .f32⟩ : BufTy).Contents (Elt F) → (⟨S16x24564x2, .f32⟩ : BufTy).Contents (Elt F)),
   StableHlo.binary main_v138 main_v139 main_v140 (Host.divf : (⟨S16x24564x2, .f32⟩ : BufTy).Contents (Elt F) → (⟨S16x24564x2, .f32⟩ : BufTy).Contents (Elt F) → (⟨S16x24564x2, .f32⟩ : BufTy).Contents (Elt F)),
   StableHlo.unary main_v135 main_v141 ((extractStridedSlice S16x24564x2 ![0, 0, 2] · slices_S16x24564x4_S16x24564x2_0_0_2) : (⟨S16x24564x4, .f32⟩ : BufTy).Contents (Elt F) → (⟨S16x24564x2, .f32⟩ : BufTy).Contents (Elt F)),
   StableHlo.unary main_v135 main_v142 ((extractStridedSlice S16x24564x2 ![0, 0, 0] · slices_S16x24564x4_S16x24564x2_0_0_0) : (⟨S16x24564x4, .f32⟩ : BufTy).Contents (Elt F) → (⟨S16x24564x2, .f32⟩ : BufTy).Contents (Elt F)),
   StableHlo.binary main_v141 main_v142 main_v143 (subf : (⟨S16x24564x2, .f32⟩ : BufTy).Contents (Elt F) → (⟨S16x24564x2, .f32⟩ : BufTy).Contents (Elt F) → (⟨S16x24564x2, .f32⟩ : BufTy).Contents (Elt F)),
   StableHlo.binary main_v140 main_v143 main_v144 ((fun a b => concatenate S16x24564x4 2 [⟨S16x24564x2, a⟩, ⟨S16x24564x2, b⟩] concatenates_S16x24564x2_S16x24564x2_S16x24564x4_d2) : (⟨S16x24564x2, .f32⟩ : BufTy).Contents (Elt F) → (⟨S16x24564x2, .f32⟩ : BufTy).Contents (Elt F) → (⟨S16x24564x4, .f32⟩ : BufTy).Contents (Elt F))]

/-- The operations that make those relative to the priors'. -/
def opsLearn : List (HloOp τ sig (Elt F)) :=
  [StableHlo.unary main_v144 main_v145 ((extractStridedSlice S16x24564x2 ![0, 0, 0] · slices_S16x24564x4_S16x24564x2_0_0_0) : (⟨S16x24564x4, .f32⟩ : BufTy).Contents (Elt F) → (⟨S16x24564x2, .f32⟩ : BufTy).Contents (Elt F)),
   StableHlo.unary main_arg4 main_v146 ((extractStridedSlice S24564x2 ![0, 0] · slices_S24564x4_S24564x2_0_0) : (⟨S24564x4, .f32⟩ : BufTy).Contents (Elt F) → (⟨S24564x2, .f32⟩ : BufTy).Contents (Elt F)),
   StableHlo.unary main_v146 main_v147 (broadcastInDim S1x24564x2 ![1, 2] bcast_S24564x2_S1x24564x2_1_2 : (⟨S24564x2, .f32⟩ : BufTy).Contents (Elt F) → (⟨S1x24564x2, .f32⟩ : BufTy).Contents (Elt F)),
   StableHlo.unary main_v147 main_v148 (broadcastInDim S16x24564x2 ![0, 1, 2] bcast_S1x24564x2_S16x24564x2_0_1_2 : (⟨S1x24564x2, .f32⟩ : BufTy).Contents (Elt F) → (⟨S16x24564x2, .f32⟩ : BufTy).Contents (Elt F)),
   StableHlo.binary main_v145 main_v148 main_v149 (subf : (⟨S16x24564x2, .f32⟩ : BufTy).Contents (Elt F) → (⟨S16x24564x2, .f32⟩ : BufTy).Contents (Elt F) → (⟨S16x24564x2, .f32⟩ : BufTy).Contents (Elt F)),
   StableHlo.unary main_arg4 main_v150 ((extractStridedSlice S24564x2 ![0, 2] · slices_S24564x4_S24564x2_0_2) : (⟨S24564x4, .f32⟩ : BufTy).Contents (Elt F) → (⟨S24564x2, .f32⟩ : BufTy).Contents (Elt F)),
   StableHlo.nullary main_cst_22 (constant S_ .f32 0x41200000#32),
   StableHlo.unary main_cst_22 main_v151 (broadcastInDim S24564x2 ![] bcast_S_S24564x2 : (⟨S_, .f32⟩ : BufTy).Contents (Elt F) → (⟨S24564x2, .f32⟩ : BufTy).Contents (Elt F)),
   StableHlo.binary main_v150 main_v151 main_v152 (Host.divf : (⟨S24564x2, .f32⟩ : BufTy).Contents (Elt F) → (⟨S24564x2, .f32⟩ : BufTy).Contents (Elt F) → (⟨S24564x2, .f32⟩ : BufTy).Contents (Elt F)),
   StableHlo.unary main_v152 main_v153 (broadcastInDim S1x24564x2 ![1, 2] bcast_S24564x2_S1x24564x2_1_2 : (⟨S24564x2, .f32⟩ : BufTy).Contents (Elt F) → (⟨S1x24564x2, .f32⟩ : BufTy).Contents (Elt F)),
   StableHlo.unary main_v153 main_v154 (broadcastInDim S16x24564x2 ![0, 1, 2] bcast_S1x24564x2_S16x24564x2_0_1_2 : (⟨S1x24564x2, .f32⟩ : BufTy).Contents (Elt F) → (⟨S16x24564x2, .f32⟩ : BufTy).Contents (Elt F)),
   StableHlo.binary main_v149 main_v154 main_v155 (Host.divf : (⟨S16x24564x2, .f32⟩ : BufTy).Contents (Elt F) → (⟨S16x24564x2, .f32⟩ : BufTy).Contents (Elt F) → (⟨S16x24564x2, .f32⟩ : BufTy).Contents (Elt F)),
   StableHlo.unary main_v144 main_v156 ((extractStridedSlice S16x24564x2 ![0, 0, 2] · slices_S16x24564x4_S16x24564x2_0_0_2) : (⟨S16x24564x4, .f32⟩ : BufTy).Contents (Elt F) → (⟨S16x24564x2, .f32⟩ : BufTy).Contents (Elt F)),
   StableHlo.unary main_arg4 main_v157 ((extractStridedSlice S24564x2 ![0, 2] · slices_S24564x4_S24564x2_0_2) : (⟨S24564x4, .f32⟩ : BufTy).Contents (Elt F) → (⟨S24564x2, .f32⟩ : BufTy).Contents (Elt F)),
   StableHlo.unary main_v157 main_v158 (broadcastInDim S1x24564x2 ![1, 2] bcast_S24564x2_S1x24564x2_1_2 : (⟨S24564x2, .f32⟩ : BufTy).Contents (Elt F) → (⟨S1x24564x2, .f32⟩ : BufTy).Contents (Elt F)),
   StableHlo.unary main_v158 main_v159 (broadcastInDim S16x24564x2 ![0, 1, 2] bcast_S1x24564x2_S16x24564x2_0_1_2 : (⟨S1x24564x2, .f32⟩ : BufTy).Contents (Elt F) → (⟨S16x24564x2, .f32⟩ : BufTy).Contents (Elt F)),
   StableHlo.binary main_v156 main_v159 main_v160 (Host.divf : (⟨S16x24564x2, .f32⟩ : BufTy).Contents (Elt F) → (⟨S16x24564x2, .f32⟩ : BufTy).Contents (Elt F) → (⟨S16x24564x2, .f32⟩ : BufTy).Contents (Elt F)),
   StableHlo.unary main_v160 main_v161 (Host.log : (⟨S16x24564x2, .f32⟩ : BufTy).Contents (Elt F) → (⟨S16x24564x2, .f32⟩ : BufTy).Contents (Elt F)),
   StableHlo.nullary main_cst_23 (constant S_ .f32 0x40A00000#32),
   StableHlo.unary main_cst_23 main_v162 (broadcastInDim S16x24564x2 ![] bcast_S_S16x24564x2 : (⟨S_, .f32⟩ : BufTy).Contents (Elt F) → (⟨S16x24564x2, .f32⟩ : BufTy).Contents (Elt F)),
   StableHlo.binary main_v161 main_v162 main_v163 (mulf : (⟨S16x24564x2, .f32⟩ : BufTy).Contents (Elt F) → (⟨S16x24564x2, .f32⟩ : BufTy).Contents (Elt F) → (⟨S16x24564x2, .f32⟩ : BufTy).Contents (Elt F)),
   StableHlo.binary main_v155 main_v163 main_v164 ((fun a b => concatenate S16x24564x4 2 [⟨S16x24564x2, a⟩, ⟨S16x24564x2, b⟩] concatenates_S16x24564x2_S16x24564x2_S16x24564x4_d2) : (⟨S16x24564x2, .f32⟩ : BufTy).Contents (Elt F) → (⟨S16x24564x2, .f32⟩ : BufTy).Contents (Elt F) → (⟨S16x24564x4, .f32⟩ : BufTy).Contents (Elt F))]

/-- The stretch is those three. -/
theorem opsLocs_eq : opsLocs (F := F) = opsTake ++ (opsCentre ++ opsLearn) := rfl

/-- Each prior's object's box. -/
theorem take_reads :
    StableHlo.after (opsTake (F := F)) V (Proc.devRef .tc main_arg0) = V (Proc.devRef .tc main_arg0) ∧
    StableHlo.after (opsTake (F := F)) V (Proc.devRef .tc main_arg1) = V (Proc.devRef .tc main_arg1) ∧
    StableHlo.after (opsTake (F := F)) V (Proc.devRef .tc main_arg2) = V (Proc.devRef .tc main_arg2) ∧
    StableHlo.after (opsTake (F := F)) V (Proc.devRef .tc main_arg3) = V (Proc.devRef .tc main_arg3) ∧
    StableHlo.after (opsTake (F := F)) V (Proc.devRef .tc main_arg4) = V (Proc.devRef .tc main_arg4) ∧
    StableHlo.after (opsTake (F := F)) V (Proc.devRef .tc main_v120) = V (Proc.devRef .tc main_v120) ∧
    StableHlo.after (opsTake (F := F)) V (Proc.devRef .tc main_v135) = Stages.chosen (V (Proc.devRef .tc main_v1)) (V (Proc.devRef .tc main_arg2)) (V (Proc.devRef .tc main_v86)) := by
  unfold opsTake
  refine ⟨?_, ?_, ?_, ?_, ?_, ?_, ?_⟩ <;> after_reads_simp <;> rfl

/-- The boxes' centres and extents. -/
theorem centre_reads :
    StableHlo.after (opsCentre (F := F)) V (Proc.devRef .tc main_arg0) = V (Proc.devRef .tc main_arg0) ∧
    StableHlo.after (opsCentre (F := F)) V (Proc.devRef .tc main_arg1) = V (Proc.devRef .tc main_arg1) ∧
    StableHlo.after (opsCentre (F := F)) V (Proc.devRef .tc main_arg2) = V (Proc.devRef .tc main_arg2) ∧
    StableHlo.after (opsCentre (F := F)) V (Proc.devRef .tc main_arg3) = V (Proc.devRef .tc main_arg3) ∧
    StableHlo.after (opsCentre (F := F)) V (Proc.devRef .tc main_arg4) = V (Proc.devRef .tc main_arg4) ∧
    StableHlo.after (opsCentre (F := F)) V (Proc.devRef .tc main_v120) = V (Proc.devRef .tc main_v120) ∧
    StableHlo.after (opsCentre (F := F)) V (Proc.devRef .tc main_v144) = Stages.centred (V (Proc.devRef .tc main_v135)) := by
  unfold opsCentre
  refine ⟨?_, ?_, ?_, ?_, ?_, ?_, ?_⟩ <;> after_reads_simp <;> rfl

/-- Those relative to the priors'. -/
theorem learn_reads :
    StableHlo.after (opsLearn (F := F)) V (Proc.devRef .tc main_arg0) = V (Proc.devRef .tc main_arg0) ∧
    StableHlo.after (opsLearn (F := F)) V (Proc.devRef .tc main_arg1) = V (Proc.devRef .tc main_arg1) ∧
    StableHlo.after (opsLearn (F := F)) V (Proc.devRef .tc main_arg2) = V (Proc.devRef .tc main_arg2) ∧
    StableHlo.after (opsLearn (F := F)) V (Proc.devRef .tc main_arg3) = V (Proc.devRef .tc main_arg3) ∧
    StableHlo.after (opsLearn (F := F)) V (Proc.devRef .tc main_arg4) = V (Proc.devRef .tc main_arg4) ∧
    StableHlo.after (opsLearn (F := F)) V (Proc.devRef .tc main_v120) = V (Proc.devRef .tc main_v120) ∧
    StableHlo.after (opsLearn (F := F)) V (Proc.devRef .tc main_v164) = Stages.relative (V (Proc.devRef .tc main_arg4)) (V (Proc.devRef .tc main_v144)) := by
  unfold opsLearn
  refine ⟨?_, ?_, ?_, ?_, ?_, ?_, ?_⟩ <;> after_reads_simp <;> rfl

/-- The offsets to learn. -/
theorem locs_reads :
    StableHlo.after (opsLocs (F := F)) V (Proc.devRef .tc main_arg0) = V (Proc.devRef .tc main_arg0) ∧
    StableHlo.after (opsLocs (F := F)) V (Proc.devRef .tc main_arg1) = V (Proc.devRef .tc main_arg1) ∧
    StableHlo.after (opsLocs (F := F)) V (Proc.devRef .tc main_arg2) = V (Proc.devRef .tc main_arg2) ∧
    StableHlo.after (opsLocs (F := F)) V (Proc.devRef .tc main_arg3) = V (Proc.devRef .tc main_arg3) ∧
    StableHlo.after (opsLocs (F := F)) V (Proc.devRef .tc main_arg4) = V (Proc.devRef .tc main_arg4) ∧
    StableHlo.after (opsLocs (F := F)) V (Proc.devRef .tc main_v120) = V (Proc.devRef .tc main_v120) ∧
    StableHlo.after (opsLocs (F := F)) V (Proc.devRef .tc main_v164) = Stages.offsets (V (Proc.devRef .tc main_v1)) (V (Proc.devRef .tc main_arg2)) (V (Proc.devRef .tc main_arg4)) (V (Proc.devRef .tc main_v86)) := by
  obtain ⟨t0, t1, t2, t3, t4, t5, t6⟩ := take_reads V
  obtain ⟨c0, c1, c2, c3, c4, c5, c6⟩ := centre_reads (StableHlo.after (opsTake (F := F)) V)
  obtain ⟨l0, l1, l2, l3, l4, l5, l6⟩ := learn_reads (StableHlo.after (opsCentre (F := F)) (StableHlo.after (opsTake (F := F)) V))
  rw [opsLocs_eq, after_append, after_append, l0, l1, l2, l3, l4, l5, l6, c0, c1, c2, c3, c4, c5, c6, t0, t1, t2, t3, t4, t5, t6]
  exact ⟨rfl, rfl, rfl, rfl, rfl, rfl, rfl⟩

/-- The location loss and the cross entropy. -/
theorem ce_reads :
    StableHlo.after (opsCe (F := F)) V (Proc.devRef .tc main_arg0) = V (Proc.devRef .tc main_arg0) ∧
    StableHlo.after (opsCe (F := F)) V (Proc.devRef .tc main_arg1) = V (Proc.devRef .tc main_arg1) ∧
    StableHlo.after (opsCe (F := F)) V (Proc.devRef .tc main_arg2) = V (Proc.devRef .tc main_arg2) ∧
    StableHlo.after (opsCe (F := F)) V (Proc.devRef .tc main_arg3) = V (Proc.devRef .tc main_arg3) ∧
    StableHlo.after (opsCe (F := F)) V (Proc.devRef .tc main_arg4) = V (Proc.devRef .tc main_arg4) ∧
    StableHlo.after (opsCe (F := F)) V (Proc.devRef .tc main_v166) = Stages.positive (V (Proc.devRef .tc main_v120)) ∧
    StableHlo.after (opsCe (F := F)) V (Proc.devRef .tc main_v168) = Stages.counts (Stages.positive (V (Proc.devRef .tc main_v120))) ∧
    StableHlo.after (opsCe (F := F)) V (Proc.devRef .tc main_v170) = posTotal (Stages.counts (Stages.positive (V (Proc.devRef .tc main_v120)))) ∧
    StableHlo.after (opsCe (F := F)) V (Proc.devRef .tc main_v179) = locLoss (V (Proc.devRef .tc main_arg0)) (V (Proc.devRef .tc main_v164)) (Stages.positive (V (Proc.devRef .tc main_v120))) (posTotal (Stages.counts (Stages.positive (V (Proc.devRef .tc main_v120))))) ∧
    StableHlo.after (opsCe (F := F)) V (Proc.devRef .tc main_v191) = Stages.losses (V (Proc.devRef .tc main_arg1)) (V (Proc.devRef .tc main_v120)) := by
  unfold opsCe
  refine ⟨?_, ?_, ?_, ?_, ?_, ?_, ?_, ?_, ?_, ?_⟩ <;> after_reads_simp <;> rfl

/-- The total. -/
theorem rest_reads :
    StableHlo.after (opsRest (F := F)) V (Proc.devRef .tc main_arg0) = V (Proc.devRef .tc main_arg0) ∧
    StableHlo.after (opsRest (F := F)) V (Proc.devRef .tc main_arg1) = V (Proc.devRef .tc main_arg1) ∧
    StableHlo.after (opsRest (F := F)) V (Proc.devRef .tc main_arg2) = V (Proc.devRef .tc main_arg2) ∧
    StableHlo.after (opsRest (F := F)) V (Proc.devRef .tc main_arg3) = V (Proc.devRef .tc main_arg3) ∧
    StableHlo.after (opsRest (F := F)) V (Proc.devRef .tc main_arg4) = V (Proc.devRef .tc main_arg4) ∧
    StableHlo.after (opsRest (F := F)) V (Proc.devRef .tc main_v213) = addf (Host.divf (addf (hardLoss (F := F) (Stages.ranked (V (Proc.devRef .tc main_v166)) (V (Proc.devRef .tc main_v191))) (V (Proc.devRef .tc main_v168))) (posLoss (V (Proc.devRef .tc main_v191)) (V (Proc.devRef .tc main_v166)))) (V (Proc.devRef .tc main_v170))) (mulf (constant S_ .f32 0x3F800000#32) (V (Proc.devRef .tc main_v179))) := by
  unfold opsRest
  refine ⟨?_, ?_, ?_, ?_, ?_, ?_⟩ <;> after_reads_simp <;> rfl

/-- The whole line leaves the reference's result, as a function of its arguments. -/
theorem all_reads :
    StableHlo.after (opsAll (F := F)) V (Proc.devRef .tc main_v213) = result (V (Proc.devRef .tc main_arg0)) (V (Proc.devRef .tc main_arg1))
      (Stages.offsets Stages.images (V (Proc.devRef .tc main_arg2)) (V (Proc.devRef .tc main_arg4)) (Stages.objs (V (Proc.devRef .tc main_arg2)) (V (Proc.devRef .tc main_arg4))))
      (Stages.cls (V (Proc.devRef .tc main_arg2)) (V (Proc.devRef .tc main_arg3)) (V (Proc.devRef .tc main_arg4))) := by
  unfold opsAll
  simp only [after_append]
  obtain ⟨a0, a1, a2, a3, a4, a5, a6⟩ := iou_reads V
  obtain ⟨b0, b1, b2, b3, b4, b5, b6, b7, b8⟩ := best_reads (StableHlo.after (opsIou (F := F)) V)
  obtain ⟨c0, c1, c2, c3, c4, c5, c6, c7, c8⟩ := pair_reads (StableHlo.after (opsBest (F := F)) (StableHlo.after (opsIou (F := F)) V))
  obtain ⟨d0, d1, d2, d3, d4, d5, d6, d7⟩ := force_reads (StableHlo.after (opsPair (F := F)) (StableHlo.after (opsBest (F := F)) (StableHlo.after (opsIou (F := F)) V)))
  obtain ⟨e0, e1, e2, e3, e4, e5, e6, e7⟩ := label_reads (StableHlo.after (opsForce (F := F)) (StableHlo.after (opsPair (F := F)) (StableHlo.after (opsBest (F := F)) (StableHlo.after (opsIou (F := F)) V))))
  obtain ⟨f0, f1, f2, f3, f4, f5, f6⟩ := locs_reads (StableHlo.after (opsLabel (F := F)) (StableHlo.after (opsForce (F := F)) (StableHlo.after (opsPair (F := F)) (StableHlo.after (opsBest (F := F)) (StableHlo.after (opsIou (F := F)) V)))))
  obtain ⟨g0, g1, g2, g3, g4, g5, g6, g7, g8, g9⟩ := ce_reads (StableHlo.after (opsLocs (F := F)) (StableHlo.after (opsLabel (F := F)) (StableHlo.after (opsForce (F := F)) (StableHlo.after (opsPair (F := F)) (StableHlo.after (opsBest (F := F)) (StableHlo.after (opsIou (F := F)) V))))))
  obtain ⟨-, -, -, -, -, h5⟩ := rest_reads (StableHlo.after (opsCe (F := F)) (StableHlo.after (opsLocs (F := F)) (StableHlo.after (opsLabel (F := F)) (StableHlo.after (opsForce (F := F)) (StableHlo.after (opsPair (F := F)) (StableHlo.after (opsBest (F := F)) (StableHlo.after (opsIou (F := F)) V)))))))
  rw [h5, g5, g6, g7, g8, g9, f0, f1, f5, f6, e0, e1, e2, e4, e5, e6, e7, d0, d1, d2, d3, d4, d5, d6, d7, c0, c1, c2, c3, c4, c5, c6, c7, c8, b0, b1, b2, b3, b4,
    b5, b6, b7, b8, a0, a1, a2, a3, a4, a5, a6]
  rfl

end Stretches

end Cert.ReferenceIdeal.Run
end
-- ==== Proof.Spec.lean ====
/- The problem's matching in plain terms: the first greatest entry of a row, the object of a prior, its class and its
   offsets, and the facts about folds and bit vectors by which the programs compute them. -/
module

public import Idealize.ShloMosaic.Lib.Pointwise
public import Mathlib.Tactic.Linarith
public import Mathlib.Data.EReal.Operations

@[expose] public section

noncomputable section

namespace Cert.Spec

open Idealize.ShloMosaic

section First

variable {m : ℕ}

/-- `i` is the first place at which `f` is greatest. -/
def IsFirst (f : Fin m → EReal) (i : Fin m) : Prop := (∀ j, f j ≤ f i) ∧ ∀ j, j < i → f j < f i

theorem IsFirst.unique {f : Fin m → EReal} {i j : Fin m} (hi : IsFirst f i) (hj : IsFirst f j) : i = j := by
  rcases lt_trichotomy i j with h | h | h
  · exact absurd (hi.1 j) (not_le.2 (hj.2 i h))
  · exact h
  · exact absurd (hj.1 i) (not_le.2 (hi.2 j h))

theorem exists_first [NeZero m] (f : Fin m → EReal) : ∃ i, IsFirst f i := by
  obtain ⟨i, -, hi⟩ := Finset.exists_max_image Finset.univ f ⟨0, Finset.mem_univ _⟩
  have hs : (Finset.univ.filter fun j => f j = f i).Nonempty := ⟨i, by simp⟩
  have hk := Finset.min'_mem _ hs
  have hk' : f ((Finset.univ.filter fun j => f j = f i).min' hs) = f i := (Finset.mem_filter.1 hk).2
  refine ⟨_, fun j => by rw [hk']; exact hi j (Finset.mem_univ _), fun j hj => ?_⟩
  rw [hk']
  refine lt_of_le_of_ne (hi j (Finset.mem_univ _)) fun h => ?_
  exact absurd (Finset.min'_le _ j (by simp [h])) (not_le.2 hj)

/-- The first place at which `f` is greatest. -/
def first [NeZero m] (f : Fin m → EReal) : Fin m := (exists_first f).choose

theorem first_spec [NeZero m] (f : Fin m → EReal) : IsFirst f (first f) := (exists_first f).choose_spec

/-- The greatest entry is the one at the first place where it is met. -/
theorem fold_max_eq [NeZero m] (f : Fin m → EReal) : Finset.univ.fold max ⊥ f = f (first f) := by
  refine le_antisymm ?_ ?_
  · exact (Finset.fold_max_le _).2 ⟨bot_le, fun x _ => (first_spec f).1 x⟩
  · exact (Finset.le_fold_max _).2 (Or.inr ⟨_, Finset.mem_univ _, le_rfl⟩)

end First

section Words

theorem toInt_small {a : ℕ} (h : a < 2 ^ 31) : (BitVec.ofNat 32 a).toInt = a := by
  rw [BitVec.toInt_eq_toNat_of_lt (by rw [BitVec.toNat_ofNat]; omega), BitVec.toNat_ofNat]
  omega

theorem toInt_minsi (x y : BitVec 32) : (IntOp.minsi x y).toInt = min x.toInt y.toInt := by
  simp only [IntOp.minsi, BitVec.slt, decide_eq_true_eq]
  split_ifs <;> omega

theorem toInt_maxsi (x y : BitVec 32) : (IntOp.maxsi x y).toInt = max x.toInt y.toInt := by
  simp only [IntOp.maxsi, BitVec.slt, decide_eq_true_eq]
  split_ifs <;> omega

theorem fold_minsi {ι : Type} [Fintype ι] (b : BitVec 32) (f : ι → BitVec 32) :
    (Finset.univ.fold IntOp.minsi b f).toInt = Finset.univ.fold min b.toInt fun i => (f i).toInt :=
  (Finset.fold_hom (m := BitVec.toInt) (op := IntOp.minsi) (op' := min) toInt_minsi).symm

theorem fold_maxsi {ι : Type} [Fintype ι] (b : BitVec 32) (f : ι → BitVec 32) :
    (Finset.univ.fold IntOp.maxsi b f).toInt = Finset.univ.fold max b.toInt fun i => (f i).toInt :=
  (Finset.fold_hom (m := BitVec.toInt) (op := IntOp.maxsi) (op' := max) toInt_maxsi).symm

/-- The least number among the places of a property, the others counting as a number past the end. -/
theorem fold_minsi_place {m : ℕ} (hm : m < 2 ^ 31) (p : Fin m → Prop) [DecidablePred p] (i : Fin m) (hi : p i) (hl : ∀ j, p j → i ≤ j) :
    Finset.univ.fold IntOp.minsi 2147483647#32 (fun x => if p x then BitVec.ofNat 32 x.val else BitVec.ofNat 32 m)
      = BitVec.ofNat 32 i.val := by
  refine BitVec.eq_of_toInt_eq ?_
  rw [fold_minsi, toInt_small (a := i.val) (by omega)]
  refine le_antisymm ?_ ?_
  · refine (Finset.fold_min_le _).2 (Or.inr ⟨i, Finset.mem_univ _, ?_⟩)
    rw [if_pos hi, toInt_small (a := i.val) (by omega)]
  · refine (Finset.le_fold_min _).2 ⟨?_, fun x _ => ?_⟩
    · rw [show (2147483647#32 : BitVec 32).toInt = 2147483647 by decide]; omega
    · split_ifs with h
      · rw [toInt_small (a := x.val) (by omega)]; have := hl x h; exact_mod_cast this
      · rw [toInt_small (a := m) hm]; omega

/-- The greatest number among the places of a property, the others counting as −1. -/
theorem fold_maxsi_place {m : ℕ} (hm : m < 2 ^ 31) (p : Fin m → Prop) [DecidablePred p] (i : Fin m) (hi : p i) (hl : ∀ j, p j → j ≤ i) :
    Finset.univ.fold IntOp.maxsi 2147483648#32 (fun x => if p x then BitVec.ofNat 32 x.val else 4294967295#32)
      = BitVec.ofNat 32 i.val := by
  refine BitVec.eq_of_toInt_eq ?_
  rw [fold_maxsi, toInt_small (a := i.val) (by omega)]
  have hn : (4294967295#32 : BitVec 32).toInt = -1 := by decide
  refine le_antisymm ?_ ?_
  · refine (Finset.fold_max_le _).2 ⟨?_, fun x _ => ?_⟩
    · rw [show (2147483648#32 : BitVec 32).toInt = -2147483648 by decide]; omega
    · split_ifs with h
      · rw [toInt_small (a := x.val) (by omega)]; have := hl x h; exact_mod_cast this
      · rw [hn]; omega
  · refine (Finset.le_fold_max _).2 (Or.inr ⟨i, Finset.mem_univ _, ?_⟩)
    rw [if_pos hi, toInt_small (a := i.val) (by omega)]

/-- Where no place has the property the greatest number is −1. -/
theorem fold_maxsi_none {m : ℕ} [NeZero m] (p : Fin m → Prop) [DecidablePred p] (h : ∀ j, ¬ p j) :
    Finset.univ.fold IntOp.maxsi 2147483648#32 (fun x => if p x then BitVec.ofNat 32 x.val else 4294967295#32) = 4294967295#32 := by
  refine BitVec.eq_of_toInt_eq ?_
  rw [fold_maxsi]
  have hn : (4294967295#32 : BitVec 32).toInt = -1 := by decide
  simp only [if_neg (h _), hn]
  refine le_antisymm ?_ ?_
  · refine (Finset.fold_max_le _).2 ⟨?_, fun x _ => le_rfl⟩
    rw [show (2147483648#32 : BitVec 32).toInt = -2147483648 by decide]; omega
  · exact (Finset.le_fold_max _).2 (Or.inr ⟨0, Finset.mem_univ _, le_rfl⟩)

end Words

section Match

variable (bx : Fin 16 → Fin 4 → EReal) (lb : Fin 16 → BitVec 32) (pr : Fin 24564 → Fin 4 → EReal)

/-- The overlap of the intervals `[a, b]` and `[c, d]`, at least 0. -/
def meet (a b c d : EReal) : EReal := max (min b d - max a c) 0

/-- A prior's lower and upper ends along an axis, from its centre and its extent. -/
def lo (c w : EReal) : EReal := c - Ideal.div w (Ideal.ofBits FTy.f32 1073741824#32)
def hi (c w : EReal) : EReal := c + Ideal.div w (Ideal.ofBits FTy.f32 1073741824#32)

/-- The area common to object `o` and prior `n`. -/
def inter (o : Fin 16) (n : Fin 24564) : EReal :=
  meet (bx o 0) (bx o 2) (lo (pr n 0) (pr n 2)) (hi (pr n 0) (pr n 2)) * meet (bx o 1) (bx o 3) (lo (pr n 1) (pr n 3)) (hi (pr n 1) (pr n 3))

/-- Intersection over union of object `o` and prior `n`. -/
def iou (o : Fin 16) (n : Fin 24564) : EReal :=
  Ideal.div (inter bx pr o n)
    ((bx o 2 - bx o 0) * (bx o 3 - bx o 1)
      + (hi (pr n 0) (pr n 2) - lo (pr n 0) (pr n 2)) * (hi (pr n 1) (pr n 3) - lo (pr n 1) (pr n 3)) - inter bx pr o n)

/-- The prior an object overlaps best. -/
def bestPrior (o : Fin 16) : Fin 24564 := first fun n => iou bx pr o n

/-- The object that overlaps a prior best. -/
def bestObj (n : Fin 24564) : Fin 16 := first fun o => iou bx pr o n

/-- A prior is some object's best. -/
def Hit (n : Fin 24564) : Prop := ∃ o, bestPrior bx pr o = n

/-- `o` is the last object whose best prior is `n`. -/
def IsLast (n : Fin 24564) (o : Fin 16) : Prop := bestPrior bx pr o = n ∧ ∀ o', bestPrior bx pr o' = n → o' ≤ o

theorem exists_last {n : Fin 24564} (h : Hit bx pr n) : ∃ o, IsLast bx pr n o := by
  classical
  obtain ⟨o, ho⟩ := h
  have hs : (Finset.univ.filter fun o => bestPrior bx pr o = n).Nonempty := ⟨o, by simp [ho]⟩
  exact ⟨_, (Finset.mem_filter.1 (Finset.max'_mem _ hs)).2, fun o' ho' => Finset.le_max' _ o' (by simp [ho'])⟩

open Classical in
/-- A prior's object: the last whose best prior it is, or else the one that overlaps it best. -/
def obj (n : Fin 24564) : Fin 16 := if h : Hit bx pr n then (exists_last bx pr h).choose else bestObj bx pr n

theorem obj_last {n : Fin 24564} (h : Hit bx pr n) : IsLast bx pr n (obj bx pr n) := by
  rw [obj, dif_pos h]; exact (exists_last bx pr h).choose_spec

theorem obj_best {n : Fin 24564} (h : ¬ Hit bx pr n) : obj bx pr n = bestObj bx pr n := by
  rw [obj, dif_neg h]

open Classical in
/-- A prior's overlap: 1 if it is some object's best, else the greatest with an object. -/
def cover (n : Fin 24564) : EReal := if Hit bx pr n then 1 else iou bx pr (bestObj bx pr n) n

/-- A prior's class: 0 where the overlap is below one half, else its object's. -/
def cls (n : Fin 24564) : BitVec 32 :=
  if cover bx pr n < Ideal.ofBits FTy.f32 1056964608#32 then 0#32 else lb (obj bx pr n)

/-- What is to be learnt of a prior's box: centre and extent relative to the prior's. -/
def offset (n : Fin 24564) (c : Fin 4) : EReal :=
  let b := bx (obj bx pr n)
  let two := Ideal.ofBits FTy.f32 1073741824#32
  let ten := Ideal.ofBits FTy.f32 1092616192#32
  let five := Ideal.ofBits FTy.f32 1084227584#32
  match c with
  | 0 => Ideal.div (Ideal.div (b 0 + b 2) two - pr n 0) (Ideal.div (pr n 2) ten)
  | 1 => Ideal.div (Ideal.div (b 1 + b 3) two - pr n 1) (Ideal.div (pr n 3) ten)
  | 2 => Ideal.log (Ideal.div (b 2 - b 0) (pr n 2)) * five
  | 3 => Ideal.log (Ideal.div (b 3 - b 1) (pr n 3)) * five

end Match

end Cert.Spec
end
-- ==== Proof.MatchRead.lean ====
/- The kernel's first call: what it leaves for one image, from the blocks it reads. -/
module

public import proofs.«01_k».proof.Proof.Gen.KernelIdeal.Frame
public import proofs.«01_k».proof.Proof.Spec
public import Idealize.ShloMosaic.Lib.Pointwise

@[expose] public section

noncomputable section

namespace Cert.KernelIdeal.MatchRead

open Idealize.ShloMosaic Cert.KernelIdeal Cert.KernelIdeal.Gen Cert.Spec

theorem ofBits_bot : Ideal.ofBits FTy.f32 4286578688#32 = ⊥ := by simp [Ideal.ofBits, Ideal.ieee]

/-- The places of the greatest value, and the first of them. -/
theorem first_of_eq {m : ℕ} [NeZero m] (hm : m < 2 ^ 31) (f : Fin m → EReal) :
    (Finset.fold IntOp.minsi (2147483647#32) (fun x => if f x = f (first f) then BitVec.ofNat 32 x.val else BitVec.ofNat 32 m) Finset.univ)
      = BitVec.ofNat 32 (first f).val := by
  refine fold_minsi_place hm (fun x => f x = f (first f)) (first f) rfl fun j hj => ?_
  by_contra h
  exact absurd ((first_spec f).2 j (not_le.1 h)) (by rw [hj]; exact lt_irrefl _)

theorem cmpi_eq_self (a : BitVec 32) : IntOp.cmpi CmpIPredicate.eq a a = 1#1 := by simp [IntOp.cmpi]

theorem cmpi_eq_ne {a b : BitVec 32} (h : a ≠ b) : IntOp.cmpi CmpIPredicate.eq a b = 0#1 := by
  simp [IntOp.cmpi, beq_eq_false_iff_ne.2 h]

/-- A word read as a float and rounded back is the word. -/
theorem fptosi_toInt (w : BitVec 32) : Ideal.fptosi 32 ((w.toInt : ℝ) : EReal) = w := by
  have h1 := BitVec.toInt_lt (x := w)
  have h2 := BitVec.le_toInt (x := w)
  rw [Ideal.fptosi, Ideal.toIntClamped_coe, Int.floor_intCast, Int.ceil_intCast, ite_self, min_eq_right (by norm_num at h1 ⊢; omega), max_eq_right (by norm_num at h2 ⊢; omega),
    BitVec.ofInt_toInt]

section Scores

variable (v10 v13 v16 v19 : FVec Ideal S1x24564 .f32) (v22 v23 v24 v25 : FVec Ideal S16x1 .f32) (v34 v41 : FVec Ideal S16x24564 .f32) (z : Ideal .f32)
variable (bx : Fin 16 → Fin 4 → EReal) (pr : Fin 24564 → Fin 4 → EReal)
variable (h18 : ∀ (o : Fin 16) (n : Fin 24564), k0_pay18 (F := Ideal) v10 v13 v16 v19 v22 v23 v24 v25 v34 v41 z (ix2 o n) = iou bx pr o n)

include h18

theorem best_at (n : Fin 24564) : k0_pay19 (F := Ideal) v10 v13 v16 v19 v22 v23 v24 v25 v34 v41 z (ix2 (0 : Fin 1) n) = iou bx pr (bestObj bx pr n) n := by
  pointwise [k0_pay19]
  simp only [h18]
  rw [ofBits_bot, fold_max_eq]
  rfl

theorem forced_at (n : Fin 24564) [Decidable (Hit bx pr n)] :
    k0_pay20 (F := Ideal) v10 v13 v16 v19 v22 v23 v24 v25 v34 v41 z (ix2 (0 : Fin 1) n)
      = if Hit bx pr n then BitVec.ofNat 32 (obj bx pr n).val else 4294967295#32 := by
  have hb : ∀ o : Fin 16, (Finset.fold IntOp.minsi (2147483647#32)
      (fun x : Fin 24564 => if iou bx pr o x = Finset.fold max ⊥ (fun x : Fin 24564 => iou bx pr o x) Finset.univ then BitVec.ofNat 32 x.val else 24564#32) Finset.univ)
      = BitVec.ofNat 32 (bestPrior bx pr o).val := by
    intro o
    rw [fold_max_eq]
    exact first_of_eq (by norm_num) fun x : Fin 24564 => iou bx pr o x
  pointwise [k0_pay20]
  simp only [h18, ofBits_bot, hb]
  have hs : ∀ o : Fin 16, Scalar.select (IntOp.cmpi CmpIPredicate.eq (BitVec.ofNat 32 n.val) (BitVec.ofNat 32 (bestPrior bx pr o).val)) (BitVec.ofNat 32 o.val) 4294967295#32
      = if bestPrior bx pr o = n then BitVec.ofNat 32 o.val else 4294967295#32 := by
    intro o
    have he : (BitVec.ofNat 32 n.val = BitVec.ofNat 32 (bestPrior bx pr o).val) ↔ bestPrior bx pr o = n := by
      constructor
      · intro h
        have := congrArg BitVec.toNat h
        rw [BitVec.toNat_ofNat, BitVec.toNat_ofNat] at this
        exact Fin.ext (by omega)
      · intro h; rw [h]
    by_cases h : bestPrior bx pr o = n
    · rw [he.2 h, cmpi_eq_self, if_pos h]; rfl
    · rw [cmpi_eq_ne (mt he.1 h), if_neg h]; rfl
  simp only [hs]
  by_cases hh : Hit bx pr n
  · rw [if_pos hh]
    have hl := obj_last bx pr hh
    exact fold_maxsi_place (by norm_num) (fun o : Fin 16 => bestPrior bx pr o = n) _ hl.1 hl.2
  · rw [if_neg hh]
    exact fold_maxsi_none (fun o : Fin 16 => bestPrior bx pr o = n) fun o ho => hh ⟨o, ho⟩

theorem sge_forced (n : Fin 24564) [Decidable (Hit bx pr n)] {α : Type} (x y : α) :
    Scalar.select (IntOp.cmpi CmpIPredicate.sge (k0_pay20 (F := Ideal) v10 v13 v16 v19 v22 v23 v24 v25 v34 v41 z (ix2 (0 : Fin 1) n)) 0#32) x y
      = if Hit bx pr n then x else y := by
  rw [forced_at v10 v13 v16 v19 v22 v23 v24 v25 v34 v41 z bx pr h18]
  by_cases hh : Hit bx pr n
  · rw [if_pos hh, if_pos hh]
    have : (0#32 : BitVec 32).sle (BitVec.ofNat 32 (obj bx pr n).val) = true := by
      rw [BitVec.sle, toInt_small (a := (obj bx pr n).val) (by omega)]
      simp
    simp [IntOp.cmpi, Scalar.select, this]
  · rw [if_neg hh, if_neg hh]
    rfl

theorem cover_at (n : Fin 24564) : k0_pay22 (F := Ideal) v10 v13 v16 v19 v22 v23 v24 v25 v34 v41 z (ix2 (0 : Fin 1) n) = cover bx pr n := by
  classical
  pointwise [k0_pay22, k0_pay21]
  rw [sge_forced v10 v13 v16 v19 v22 v23 v24 v25 v34 v41 z bx pr h18, best_at v10 v13 v16 v19 v22 v23 v24 v25 v34 v41 z bx pr h18, cover]

theorem chosen_at (o : Fin 16) (n : Fin 24564) : k0_pay23 (F := Ideal) v10 v13 v16 v19 v22 v23 v24 v25 v34 v41 z (ix2 o n)
    = if o = obj bx pr n then (1 : EReal) else 0 := by
  classical
  have hb : (Finset.fold IntOp.minsi (2147483647#32)
      (fun x : Fin 16 => if iou bx pr x n = iou bx pr (bestObj bx pr n) n then BitVec.ofNat 32 x.val else 16#32) Finset.univ)
      = BitVec.ofNat 32 (bestObj bx pr n).val := first_of_eq (by norm_num) fun x : Fin 16 => iou bx pr x n
  pointwise [k0_pay23, k0_pay21]
  rw [sge_forced v10 v13 v16 v19 v22 v23 v24 v25 v34 v41 z bx pr h18]
  simp only [h18, best_at v10 v13 v16 v19 v22 v23 v24 v25 v34 v41 z bx pr h18, hb]
  have hw : (if Hit bx pr n then k0_pay20 (F := Ideal) v10 v13 v16 v19 v22 v23 v24 v25 v34 v41 z (ix2 (0 : Fin 1) n) else BitVec.ofNat 32 (bestObj bx pr n).val)
      = BitVec.ofNat 32 (obj bx pr n).val := by
    rw [forced_at v10 v13 v16 v19 v22 v23 v24 v25 v34 v41 z bx pr h18]
    by_cases hh : Hit bx pr n
    · rw [if_pos hh, if_pos hh]
    · rw [if_neg hh, obj_best bx pr hh]
  rw [hw]
  have he : (BitVec.ofNat 32 o.val = BitVec.ofNat 32 (obj bx pr n).val) ↔ o = obj bx pr n := by
    constructor
    · intro h
      have := congrArg BitVec.toNat h
      rw [BitVec.toNat_ofNat, BitVec.toNat_ofNat] at this
      exact Fin.ext (by omega)
    · intro h; rw [h]
  by_cases h : o = obj bx pr n
  · have : IntOp.cmpi CmpIPredicate.eq (BitVec.ofNat 32 o.val) (BitVec.ofNat 32 (obj bx pr n).val) = 1#1 := by rw [he.2 h, cmpi_eq_self]
    rw [this, if_pos h]
    show (((BitVec.setWidth 32 (1#1)).toInt : ℝ) : EReal) = 1
    norm_num
  · have : IntOp.cmpi CmpIPredicate.eq (BitVec.ofNat 32 o.val) (BitVec.ofNat 32 (obj bx pr n).val) = 0#1 := cmpi_eq_ne (mt he.1 h)
    rw [this, if_neg h]
    show (((BitVec.setWidth 32 (0#1)).toInt : ℝ) : EReal) = 0
    norm_num

end Scores

section Blocks

variable (x0 : Vec Ideal S1x16x4 .f32) (x1 : Vec Ideal S1x4x16 .f32) (x2 : Vec Ideal S1x1x16 .f32) (x3 : Vec Ideal S4x24564 .f32) (x4 : Vec Ideal S1x4x24564 .f32)
variable (bx : Fin 16 → Fin 4 → EReal) (pr : Fin 24564 → Fin 4 → EReal) (lb : Fin 16 → BitVec 32) (pl : Fin 24564 → Fin 4 → EReal)

section
variable (hx0 : ∀ (o : Fin 16) (c : Fin 4), x0 (ix3 (0 : Fin 1) o c) = bx o c) (hx3 : ∀ (n : Fin 24564) (c : Fin 4), x3 (ix2 c n) = pr n c)
include hx0 hx3

theorem iou_at (o : Fin 16) (n : Fin 24564) :
    k0_pay18 (F := Ideal) (k0_pay28 x0 x1 x2 x3 x4) (k0_pay29 x0 x1 x2 x3 x4) (k0_pay30 x0 x1 x2 x3 x4) (k0_pay31 x0 x1 x2 x3 x4) (k0_pay32 x0 x1 x2 x3 x4)
      (k0_pay33 x0 x1 x2 x3 x4) (k0_pay34 x0 x1 x2 x3 x4) (k0_pay35 x0 x1 x2 x3 x4) (k0_pay36 x0 x1 x2 x3 x4) (k0_pay37 x0 x1 x2 x3 x4)
      (Scalar.ofBits .f32 0x00000000#32) (ix2 o n) = iou bx pr o n := by
  pointwise [k0_pay37, k0_pay36, k0_pay35, k0_pay34, k0_pay33, k0_pay32, k0_pay31, k0_pay30, k0_pay29, k0_pay28, k0_pay18, k0_pay17, k0_pay16, k0_pay15,
    k0_pay14, k0_pay13, k0_pay12, k0_pay11, k0_pay10, k0_pay9, k0_pay8, k0_pay7, k0_pay6, k0_pay5, k0_pay4, k0_pay3]
  simp only [hx0, hx3]
  rfl

theorem cov_at (n : Fin 24564) : k0_pay38 (F := Ideal) x0 x1 x2 x3 x4 (ix2 (0 : Fin 1) n) = cover bx pr n :=
  cover_at _ _ _ _ _ _ _ _ _ _ _ bx pr (iou_at x0 x1 x2 x3 x4 bx pr hx0 hx3) n

theorem one_at (o : Fin 16) (n : Fin 24564) : k0_pay39 (F := Ideal) x0 x1 x2 x3 x4 (ix2 o n) = if o = obj bx pr n then (1 : EReal) else 0 :=
  chosen_at _ _ _ _ _ _ _ _ _ _ _ bx pr (iou_at x0 x1 x2 x3 x4 bx pr hx0 hx3) o n

/-- A sum against the chosen object's mark is the chosen object's entry. -/
theorem sum_one (f : Fin 16 → EReal) (n : Fin 24564) :
    ∑ o : Fin 16, f o * k0_pay39 (F := Ideal) x0 x1 x2 x3 x4 (ix2 o n) = f (obj bx pr n) := by
  simp only [one_at x0 x1 x2 x3 x4 bx pr hx0 hx3]
  rw [Finset.sum_eq_single (obj bx pr n)]
  · rw [if_pos rfl, mul_one]
  · intro o _ ho; rw [if_neg ho, mul_zero]
  · intro h; exact absurd (Finset.mem_univ _) h

variable (hx1 : ∀ (o : Fin 16) (c : Fin 4), x1 (ix3 (0 : Fin 1) c o) = bx o c) (hx2 : ∀ o : Fin 16, x2 (ix3 (0 : Fin 1) (0 : Fin 1) o) = (((lb o).toInt : ℝ) : EReal))
  (hx4 : ∀ (n : Fin 24564) (c : Fin 4), x4 (ix3 (0 : Fin 1) c n) = pl n c)

section
include hx2

theorem word_at (n : Fin 24564) :
    k0_pay25 (F := Ideal) (k0_pay38 x0 x1 x2 x3 x4) (k0_pay39 x0 x1 x2 x3 x4) (View.ld x2 r0_5) (View.ld x1 r0_6) (ix2 (0 : Fin 1) n) = cls bx lb pr n := by
  pointwise [k0_pay25, k0_pay24]
  rw [cov_at x0 x1 x2 x3 x4 bx pr hx0 hx3, sum_one x0 x1 x2 x3 x4 bx pr hx0 hx3 (fun o => x2 (ix3 (0 : Fin 1) (0 : Fin 1) o)), hx2, cls]
  refine if_congr Iff.rfl rfl ?_
  exact fptosi_toInt _

theorem labels_at (n : Fin 24564) : out0_5 (F := Ideal) x0 x1 x2 x3 x4 (ix3 (0 : Fin 1) (0 : Fin 1) n) = cls bx lb pr n := by
  have h : ∀ a : IVec S1x24564 32, k0_pay1 a (ix3 (0 : Fin 1) (0 : Fin 1) n) = a (ix2 (0 : Fin 1) n) := by
    intro a
    pointwise [k0_pay1]
  rw [out0_5, View.canon_unit_zero (by funext a; match a with | ⟨0, _⟩ => rfl | ⟨1, _⟩ => rfl | ⟨2, _⟩ => rfl), h, word_at x0 x1 x2 x3 x4 bx pr lb hx0 hx3 hx2]

theorem pos_at (n : Fin 24564) {α : Type} (x y : α) :
    Scalar.select (k0_pay26 (F := Ideal) (k0_pay38 x0 x1 x2 x3 x4) (k0_pay39 x0 x1 x2 x3 x4) (View.ld x2 r0_5) (View.ld x1 r0_6) (ix2 (0 : Fin 1) n)) x y
      = if cls bx lb pr n = 0#32 then y else x := by
  pointwise [k0_pay26]
  rw [word_at x0 x1 x2 x3 x4 bx pr lb hx0 hx3 hx2]
  by_cases h : cls bx lb pr n = 0#32
  · rw [if_pos h, h]; rfl
  · rw [if_neg h]; simp [IntOp.cmpi, Scalar.select, bne_iff_ne.2 h]

theorem positives_at : out0_6 (F := Ideal) x0 x1 x2 x3 x4 (ix3 (0 : Fin 1) (0 : Fin 1) (0 : Fin 128))
    = ∑ n : Fin 24564, if cls bx lb pr n = 0#32 then (0 : EReal) else 1 := by
  have h : ∀ (a : IVec S1x24564 1) (b : FVec Ideal S4x24564 .f32), k0_pay2 (F := Ideal) a b (View.ld x4 r0_7) (ix3 (0 : Fin 1) (0 : Fin 1) (0 : Fin 128))
      = ∑ n : Fin 24564, Scalar.select (a (ix2 (0 : Fin 1) n)) (1 : EReal) 0 := by
    intro a b
    pointwise [k0_pay2]
    simp only [Finset.univ_unique, Finset.sum_singleton]
  rw [out0_6, View.canon_unit_zero (by funext a; match a with | ⟨0, _⟩ => rfl | ⟨1, _⟩ => rfl | ⟨2, _⟩ => rfl), h]
  simp only [pos_at x0 x1 x2 x3 x4 bx pr lb hx0 hx3 hx2]

end

section
include hx1

theorem offset_at (n : Fin 24564) (c : Fin 4) :
    k0_pay27 (F := Ideal) (k0_pay3 (View.ld x3 r0_0)) (k0_pay4 (View.ld x3 r0_1)) (k0_pay5 (View.ld x3 r0_2)) (k0_pay6 (View.ld x3 r0_3))
      (k0_pay39 x0 x1 x2 x3 x4) (View.ld x2 r0_5) (View.ld x1 r0_6) (ix2 c n) = offset bx pr n c := by
  have hs : ∀ c : Fin 4, ∑ o : Fin 16, x1 (ix3 (0 : Fin 1) c o) * k0_pay39 (F := Ideal) x0 x1 x2 x3 x4 (ix2 o n) = bx (obj bx pr n) c := by
    intro c
    rw [sum_one x0 x1 x2 x3 x4 bx pr hx0 hx3 (fun o => x1 (ix3 (0 : Fin 1) c o)), hx1]
  match c with
  | 0 =>
    pointwise [k0_pay27, k0_pay24, k0_pay3, k0_pay4, k0_pay5, k0_pay6]
    rw [hs, hs, hx3, hx3]; rfl
  | 1 =>
    pointwise [k0_pay27, k0_pay24, k0_pay3, k0_pay4, k0_pay5, k0_pay6]
    rw [hs, hs, hx3, hx3]; rfl
  | 2 =>
    pointwise [k0_pay27, k0_pay24, k0_pay3, k0_pay4, k0_pay5, k0_pay6]
    rw [hs, hs, hx3]; rfl
  | 3 =>
    pointwise [k0_pay27, k0_pay24, k0_pay3, k0_pay4, k0_pay5, k0_pay6]
    rw [hs, hs, hx3]; rfl

include hx2 hx4

theorem distance_at : out0_6 (F := Ideal) x0 x1 x2 x3 x4 (ix3 (0 : Fin 1) (0 : Fin 1) (1 : Fin 128))
    = ∑ c : Fin 4, ∑ n : Fin 24564, if cls bx lb pr n = 0#32 then (0 : EReal)
        else max (pl n c - offset bx pr n c) (-(pl n c - offset bx pr n c)) := by
  have h : ∀ (a : IVec S1x24564 1) (b : FVec Ideal S4x24564 .f32), k0_pay2 (F := Ideal) a b (View.ld x4 r0_7) (ix3 (0 : Fin 1) (0 : Fin 1) (1 : Fin 128))
      = ∑ c : Fin 4, ∑ n : Fin 24564, Scalar.select (a (ix2 (0 : Fin 1) n))
          (max (x4 (ix3 (0 : Fin 1) c n) - b (ix2 c n)) (-(x4 (ix3 (0 : Fin 1) c n) - b (ix2 c n)))) (0 : EReal) := by
    intro a b
    pointwise [k0_pay2]
    rfl
  rw [out0_6, View.canon_unit_zero (by funext a; match a with | ⟨0, _⟩ => rfl | ⟨1, _⟩ => rfl | ⟨2, _⟩ => rfl), h]
  simp only [pos_at x0 x1 x2 x3 x4 bx pr lb hx0 hx3 hx2, offset_at x0 x1 x2 x3 x4 bx pr hx0 hx3 hx1, hx4]

end

end

end Blocks

end Cert.KernelIdeal.MatchRead
end
-- ==== Proof.Reads.lean ====
/- The overlaps, the best priors and objects, and the lookups of the reference and of the precondition, read at an index. -/
module

public import proofs.«01_k».proof.Proof.Stages
public import proofs.«01_k».proof.Proof.Spec
public import Idealize.ShloMosaic.Lib.Routing.OpsPair

@[expose] public section

noncomputable section

namespace Cert.Stages

open Idealize.ShloMosaic Cert.Spec
open Cert.Pre_admissible Cert.Pre_admissible.Facts

variable [Cert.Pre_admissible.Facts]

theorem ofBits_bot : Ideal.ofBits FTy.f32 4286578688#32 = ⊥ := by simp [Ideal.ofBits, Ideal.ieee]

section Lookups

/-- A number below the extent is read as itself by a lookup. -/
theorem clamp_small {N a : ℕ} (hN : N ≤ 2 ^ 31) (ha : a < N) {x : BitVec 32} (hx : x = BitVec.ofNat 32 a) :
    min x.toInt.toNat (N - 1) = a := by
  rw [hx, toInt_small (by omega)]
  simp only [Int.toNat_natCast]
  omega

theorem gather_labels {α : Type} (x : S16x16.Idx → α) (idx : IVec S16x24564x2 32) (b : Fin 16) (n : Fin 24564) (r c : Fin 16)
    (h0 : idx (ix3 b n 0) = BitVec.ofNat 32 r.val) (h1 : idx (ix3 b n 1) = BitVec.ofNat 32 c.val) :
    Host.gather gather_S16x16_S16x24564x2_S16x24564_n_01_n_n_01_2_11 x idx (ix2 b n) = x (ix2 r c) := by
  have hsi : ∀ q h, gather_S16x16_S16x24564x2_S16x24564_n_01_n_n_01_2_11.siIdx (ix2 b n) ⟨q, h⟩
      = ix3 b n ⟨q, by exact h⟩ := by
    intro q h
    funext a
    refine Fin.ext ?_
    match a with
    | ⟨0, _⟩ => rfl
    | ⟨1, _⟩ => rfl
    | ⟨2, _⟩ => rfl
  unfold Host.gather
  refine congrArg x (funext fun a => ?_)
  refine Fin.ext ?_
  show GatherDims.start _ _ _ a + GatherDims.batchCoord _ _ a + GatherDims.offCoord _ _ a = _
  have ha : a = 0 ∨ a = 1 := by
    match a with
    | ⟨0, _⟩ => simp
    | ⟨1, _⟩ => simp
  rcases ha with rfl | rfl
  · rw [GatherDims.batchCoord_eq_zero _ _ _ (show (0 : Fin 2) ∉ ([] : List (Fin 2)) from by decide), GatherDims.offCoord_eq_zero _ _ _ (fun h => ((GatherDims.mem_sKept _ _).mp h).1 (show (0 : Fin 2) ∈ ([0, 1] : List (Fin 2)) from by decide))]
    unfold GatherDims.start
    rw [dif_pos (show (0 : Fin 2) ∈ gather_S16x16_S16x24564x2_S16x24564_n_01_n_n_01_2_11.startIndexMap from (show (0 : Fin 2) ∈ ([0, 1] : List (Fin 2)) from by decide)), hsi]
    exact clamp_small (N := 16) (by omega) r.isLt h0
  · rw [GatherDims.batchCoord_eq_zero _ _ _ (show (1 : Fin 2) ∉ ([] : List (Fin 2)) from by decide), GatherDims.offCoord_eq_zero _ _ _ (fun h => ((GatherDims.mem_sKept _ _).mp h).1 (show (1 : Fin 2) ∈ ([0, 1] : List (Fin 2)) from by decide))]
    unfold GatherDims.start
    rw [dif_pos (show (1 : Fin 2) ∈ gather_S16x16_S16x24564x2_S16x24564_n_01_n_n_01_2_11.startIndexMap from (show (1 : Fin 2) ∈ ([0, 1] : List (Fin 2)) from by decide)), hsi]
    exact clamp_small (N := 16) (by omega) c.isLt h1

theorem gather_boxes {α : Type} (x : S16x16x4.Idx → α) (idx : IVec S16x24564x2 32) (b : Fin 16) (n : Fin 24564) (k : Fin 4) (r c : Fin 16)
    (h0 : idx (ix3 b n 0) = BitVec.ofNat 32 r.val) (h1 : idx (ix3 b n 1) = BitVec.ofNat 32 c.val) :
    Host.gather gather_S16x16x4_S16x24564x2_S16x24564x4_2_01_n_n_01_2_114 x idx (ix3 b n k) = x (ix3 r c k) := by
  have hsi : ∀ q h, gather_S16x16x4_S16x24564x2_S16x24564x4_2_01_n_n_01_2_114.siIdx (ix3 b n k) ⟨q, h⟩
      = ix3 b n ⟨q, by exact h⟩ := by
    intro q h
    funext a
    refine Fin.ext ?_
    match a with
    | ⟨0, _⟩ => rfl
    | ⟨1, _⟩ => rfl
    | ⟨2, _⟩ => rfl
  unfold Host.gather
  refine congrArg x (funext fun a => ?_)
  refine Fin.ext ?_
  show GatherDims.start _ _ _ a + GatherDims.batchCoord _ _ a + GatherDims.offCoord _ _ a = _
  have ha : a = 0 ∨ a = 1 ∨ a = 2 := by
    match a with
    | ⟨0, _⟩ => simp
    | ⟨1, _⟩ => simp
    | ⟨2, _⟩ => simp
  rcases ha with rfl | rfl | rfl
  · rw [GatherDims.batchCoord_eq_zero _ _ _ (show (0 : Fin 3) ∉ ([] : List (Fin 3)) from by decide), GatherDims.offCoord_eq_zero _ _ _ (fun h => ((GatherDims.mem_sKept _ _).mp h).1 (show (0 : Fin 3) ∈ ([0, 1] : List (Fin 3)) from by decide))]
    unfold GatherDims.start
    rw [dif_pos (show (0 : Fin 3) ∈ gather_S16x16x4_S16x24564x2_S16x24564x4_2_01_n_n_01_2_114.startIndexMap from (show (0 : Fin 3) ∈ ([0, 1] : List (Fin 3)) from by decide)), hsi]
    exact clamp_small (N := 16) (by omega) r.isLt h0
  · rw [GatherDims.batchCoord_eq_zero _ _ _ (show (1 : Fin 3) ∉ ([] : List (Fin 3)) from by decide), GatherDims.offCoord_eq_zero _ _ _ (fun h => ((GatherDims.mem_sKept _ _).mp h).1 (show (1 : Fin 3) ∈ ([0, 1] : List (Fin 3)) from by decide))]
    unfold GatherDims.start
    rw [dif_pos (show (1 : Fin 3) ∈ gather_S16x16x4_S16x24564x2_S16x24564x4_2_01_n_n_01_2_114.startIndexMap from (show (1 : Fin 3) ∈ ([0, 1] : List (Fin 3)) from by decide)), hsi]
    exact clamp_small (N := 16) (by omega) c.isLt h1
  · rw [GatherDims.batchCoord_eq_zero _ _ _ (show (2 : Fin 3) ∉ ([] : List (Fin 3)) from by decide)]
    unfold GatherDims.start GatherDims.offCoord
    rw [dif_neg (show (2 : Fin 3) ∉ gather_S16x16x4_S16x24564x2_S16x24564x4_2_01_n_n_01_2_114.startIndexMap from (show (2 : Fin 3) ∉ ([0, 1] : List (Fin 3)) from by decide)),
      dif_pos ((GatherDims.mem_sKept gather_S16x16x4_S16x24564x2_S16x24564x4_2_01_n_n_01_2_114 _).mpr ⟨show (2 : Fin 3) ∉ ([0, 1] : List (Fin 3)) from by decide, show (2 : Fin 3) ∉ ([] : List (Fin 3)) from by decide⟩)]
    simp only [Nat.zero_add]
    rfl

theorem gather_logits {α : Type} (x : S16x24564x81.Idx → α) (idx : IVec S16x24564x1x1 32) (b : Fin 16) (n : Fin 24564) (c : Fin 81)
    (h0 : idx (ix4 b n 0 0) = BitVec.ofNat 32 c.val) :
    Host.gather gather_S16x24564x81_S16x24564x1x1_S16x24564x1_n_2_01_01_2_3_111 x idx (ix3 b n 0) = x (ix3 b n c) := by
  have hsi : ∀ q h, gather_S16x24564x81_S16x24564x1x1_S16x24564x1_n_2_01_01_2_3_111.siIdx (ix3 b n 0) ⟨q, h⟩
      = ix4 b n 0 ⟨q, by exact h⟩ := by
    intro q h
    funext a
    refine Fin.ext ?_
    match a with
    | ⟨0, _⟩ => rfl
    | ⟨1, _⟩ => rfl
    | ⟨2, _⟩ => rfl
    | ⟨3, _⟩ => rfl
  unfold Host.gather
  refine congrArg x (funext fun a => ?_)
  refine Fin.ext ?_
  show GatherDims.start _ _ _ a + GatherDims.batchCoord _ _ a + GatherDims.offCoord _ _ a = _
  have ha : a = 0 ∨ a = 1 ∨ a = 2 := by
    match a with
    | ⟨0, _⟩ => simp
    | ⟨1, _⟩ => simp
    | ⟨2, _⟩ => simp
  rcases ha with rfl | rfl | rfl
  · rw [GatherDims.start_batching _ _ _ _ (show (0 : Fin 3) ∈ ([0, 1] : List (Fin 3)) from by decide), GatherDims.offCoord_eq_zero _ _ _ (fun h => ((GatherDims.mem_sKept _ _).mp h).2 (show (0 : Fin 3) ∈ ([0, 1] : List (Fin 3)) from by decide))]
    unfold GatherDims.batchCoord
    rw [dif_pos (show (0 : Fin 3) ∈ gather_S16x24564x81_S16x24564x1x1_S16x24564x1_n_2_01_01_2_3_111.operandBatchingDims from (show (0 : Fin 3) ∈ ([0, 1] : List (Fin 3)) from by decide))]
    simp only [Nat.zero_add, Nat.add_zero]
    rfl
  · rw [GatherDims.start_batching _ _ _ _ (show (1 : Fin 3) ∈ ([0, 1] : List (Fin 3)) from by decide), GatherDims.offCoord_eq_zero _ _ _ (fun h => ((GatherDims.mem_sKept _ _).mp h).2 (show (1 : Fin 3) ∈ ([0, 1] : List (Fin 3)) from by decide))]
    unfold GatherDims.batchCoord
    rw [dif_pos (show (1 : Fin 3) ∈ gather_S16x24564x81_S16x24564x1x1_S16x24564x1_n_2_01_01_2_3_111.operandBatchingDims from (show (1 : Fin 3) ∈ ([0, 1] : List (Fin 3)) from by decide))]
    simp only [Nat.zero_add, Nat.add_zero]
    rfl
  · rw [GatherDims.batchCoord_eq_zero _ _ _ (show (2 : Fin 3) ∉ ([0, 1] : List (Fin 3)) from by decide), GatherDims.offCoord_eq_zero _ _ _ (fun h => ((GatherDims.mem_sKept _ _).mp h).1 (show (2 : Fin 3) ∈ ([2] : List (Fin 3)) from by decide))]
    unfold GatherDims.start
    rw [dif_pos (show (2 : Fin 3) ∈ gather_S16x24564x81_S16x24564x1x1_S16x24564x1_n_2_01_01_2_3_111.startIndexMap from (show (2 : Fin 3) ∈ ([2] : List (Fin 3)) from by decide)), hsi]
    exact clamp_small (N := 81) (by omega) c.isLt h0

end Lookups

section Overlap

variable (a2 : FVec Ideal S16x16x4 .f32) (a4 : FVec Ideal S24564x4 .f32)

/-- The boxes of image `b` by object and coordinate. -/
def box (b : Fin 16) : Fin 16 → Fin 4 → EReal := fun o c => a2 (ix3 b o c)

/-- The priors by coordinate. -/
def prior : Fin 24564 → Fin 4 → EReal := fun n c => a4 (ix2 n c)

theorem overlap_at (b o : Fin 16) (n : Fin 24564) :
    overlap (F := Ideal) a2 a4 (ix3 b o n) = iou (box a2 b) (prior a4) o n := by
  pointwise [overlap, fn_clip]
  have h0 : (id (constant S_ FTy.f32 0#32) : FVec Ideal S_ .f32) ix0 = (0 : EReal) := Ideal.ofBits_zero_f32
  simp only [h0, iou, inter, meet, lo, hi, box, prior, max_comm]

end Overlap

section ArgMax

/-- One pair is at least another: greater in value, or equal with a smaller place. -/
def Wins (p q : EReal × BitVec 32) : Prop := q.1 ≤ p.1 ∧ (q.1 = p.1 → p.2.toInt ≤ q.2.toInt)

theorem Wins.refl (p : EReal × BitVec 32) : Wins p p := ⟨le_rfl, fun _ => le_rfl⟩

theorem Wins.trans {p q r : EReal × BitVec 32} (h : Wins p q) (h' : Wins q r) : Wins p r :=
  ⟨h'.1.trans h.1, fun e => by
    have e1 : q.1 = p.1 := le_antisymm h.1 (e ▸ h'.1)
    exact (h.2 e1).trans (h'.2 (e.trans e1.symm))⟩

theorem reducer_wins (p q : EReal × BitVec 32) :
    (reducer_argmax_f32_i32 (F := Ideal) p q = p ∨ reducer_argmax_f32_i32 (F := Ideal) p q = q)
      ∧ Wins (reducer_argmax_f32_i32 (F := Ideal) p q) p ∧ Wins (reducer_argmax_f32_i32 (F := Ideal) p q) q := by
  obtain ⟨v, i⟩ := p
  obtain ⟨w, j⟩ := q
  have hr : reducer_argmax_f32_i32 (F := Ideal) (v, i) (w, j)
      = (if w < v then v else w, if w < v ∨ (v = w ∧ i.toInt < j.toInt) then i else j) := by
    unfold reducer_argmax_f32_i32
    simp only [Ideal.cmpf_def, Ideal.cmp, Scalar.select, IntOp.ori, IntOp.andi, IntOp.cmpi, BitVec.slt]
    by_cases h1 : w < v <;> by_cases h2 : v = w <;> by_cases h3 : i.toInt < j.toInt <;> simp [h1, h2, h3]
  rw [hr]
  by_cases h1 : w < v
  · simp only [h1, if_true, true_or]
    exact ⟨trivial, Wins.refl _, h1.le, fun e => absurd e h1.ne⟩
  · simp only [h1, if_false, false_or]
    by_cases h2 : v = w
    · subst h2
      by_cases h3 : i.toInt < j.toInt
      · simp only [h3, and_self, if_true, true_or]
        exact ⟨trivial, Wins.refl _, le_rfl, fun _ => h3.le⟩
      · simp only [h3, and_false, if_false, or_true]
        exact ⟨trivial, ⟨le_rfl, fun _ => not_lt.1 h3⟩, Wins.refl _⟩
    · simp only [h2, false_and, if_false, or_true]
      exact ⟨trivial, ⟨not_lt.1 h1, fun e => absurd e h2⟩, Wins.refl _⟩

theorem foldl_wins (l : List (EReal × BitVec 32)) (p : EReal × BitVec 32) :
    l.foldl (reducer_argmax_f32_i32 (F := Ideal)) p ∈ p :: l
      ∧ ∀ q ∈ p :: l, Wins (l.foldl (reducer_argmax_f32_i32 (F := Ideal)) p) q := by
  induction l generalizing p with
  | nil => exact ⟨List.mem_cons_self, fun q hq => by rw [List.mem_singleton.1 hq]; exact Wins.refl _⟩
  | cons a l ih =>
    obtain ⟨hm, hw⟩ := ih (reducer_argmax_f32_i32 (F := Ideal) p a)
    obtain ⟨hc, hp, ha⟩ := reducer_wins p a
    rw [List.foldl_cons]
    refine ⟨?_, fun q hq => ?_⟩
    · rcases List.mem_cons.1 hm with h | h
      · rw [h]
        rcases hc with h' | h' <;> rw [h'] <;> simp
      · exact List.mem_cons_of_mem _ (List.mem_cons_of_mem _ h)
    · rcases List.mem_cons.1 hq with h | h
      · rw [h]; exact (hw _ List.mem_cons_self).trans hp
      · rcases List.mem_cons.1 h with h | h
        · rw [h]; exact (hw _ List.mem_cons_self).trans ha
        · exact hw _ (List.mem_cons_of_mem _ h)

/-- A fold over the pairs of the entries of `f` with their places gives the first place of the greatest. -/
theorem foldl_first {m : ℕ} [NeZero m] (hm : m < 2 ^ 31) (f : Fin m → EReal) (l : List (EReal × BitVec 32))
    (hl : ∀ p, p ∈ l ↔ ∃ i : Fin m, p = (f i, BitVec.ofNat 32 i.val)) :
    (l.foldl (reducer_argmax_f32_i32 (F := Ideal)) (⊥, 0#32)).2 = BitVec.ofNat 32 (first f).val := by
  obtain ⟨hmem, hw⟩ := foldl_wins l (⊥, 0#32)
  generalize l.foldl (reducer_argmax_f32_i32 (F := Ideal)) (⊥, 0#32) = r at hmem hw
  have hall : ∀ j : Fin m, Wins r (f j, BitVec.ofNat 32 j.val) := fun j => hw _ (List.mem_cons_of_mem _ ((hl _).2 ⟨j, rfl⟩))
  obtain ⟨i, hi⟩ : ∃ i : Fin m, r = (f i, BitVec.ofNat 32 i.val) := by
    rcases List.mem_cons.1 hmem with h | h
    · refine ⟨0, ?_⟩
      have h0 := (hall 0).1
      rw [h] at h0
      rw [h]
      exact Prod.ext (le_bot_iff.1 h0).symm (by simp)
    · exact (hl r).1 h
  have hf : IsFirst f i := by
    refine ⟨fun j => by have := (hall j).1; rwa [hi] at this, fun j hj => ?_⟩
    have h1 := hall j
    rw [hi] at h1
    refine lt_of_le_of_ne h1.1 fun e => ?_
    have h2 := h1.2 e
    dsimp only at h2
    rw [toInt_small (by omega), toInt_small (by omega)] at h2
    have : i.val ≤ j.val := by exact_mod_cast h2
    exact absurd hj (not_lt.2 this)
  rw [hi, hf.unique (first_spec f)]

theorem drop_d1 (b o : Fin 16) (n : Fin 24564) :
    reducesTo_S16x16x24564_S16x24564_d1.drop (ix3 b o n) = ix2 b n := by
  funext a
  match a with
  | ⟨0, _⟩ => rfl
  | ⟨1, _⟩ => rfl

theorem drop_d2 (b o : Fin 16) (n : Fin 24564) :
    reducesTo_S16x16x24564_S16x16_d2.drop (ix3 b o n) = ix2 b o := by
  funext a
  match a with
  | ⟨0, _⟩ => rfl
  | ⟨1, _⟩ => rfl

theorem eq_ix3 (i : S16x16x24564.Idx) : ∃ (b o : Fin 16) (n : Fin 24564), i = ix3 b o n := by
  refine ⟨i 0, i 1, i 2, ?_⟩
  funext a
  match a with
  | ⟨0, _⟩ => rfl
  | ⟨1, _⟩ => rfl
  | ⟨2, _⟩ => rfl

theorem ix2_inj {m n : ℕ} {a a' : Fin m} {b b' : Fin n} (h : ix2 a b = ix2 a' b') : a = a' ∧ b = b' :=
  ⟨congrFun h 0, congrFun h 1⟩

/-- The place an arg-max returns, where the entries folded over are those of `f`. -/
theorem argReduce_first {m : ℕ} [NeZero m] (hm : m < 2 ^ 31) {s t u : Shape} {axes : List (Fin s.rank)} (x : FVec Ideal s .f32)
    (y : s.Idx → BitVec 32) (ix : FVec Ideal u .f32) (iy : u.Idx → BitVec 32) (h : s.ReducesTo axes t) (hu : 0 < u.numel) (j : t.Idx)
    (f : Fin m → EReal) (e : Fin m → s.Idx) (hix : ix (Shape.Idx.first hu) = (⊥ : EReal)) (hiy : iy (Shape.Idx.first hu) = 0#32)
    (he : ∀ i, h.drop i = j ↔ ∃ o, i = e o) (hx : ∀ o, x (e o) = f o) (hy : ∀ o, y (e o) = BitVec.ofNat 32 o.val) :
    (Host.argReduce (reducer_argmax_f32_i32 (F := Ideal)) x y ix iy h hu j).2 = BitVec.ofNat 32 (first f).val := by
  rw [Ideal.argReduce_eq_reduce2, Host.reduce2_eq_foldl_fiber, hix, hiy]
  refine foldl_first hm f _ fun p => ?_
  simp only [Host.argReduceFiber, List.mem_map, List.mem_filter, List.mem_finRange, true_and, decide_eq_true_eq]
  constructor
  · rintro ⟨k, hk, rfl⟩
    obtain ⟨o, ho⟩ := (he _).1 hk
    exact ⟨o, by rw [ho, hx, hy]⟩
  · rintro ⟨o, rfl⟩
    exact ⟨s.rowMajor (e o), by rw [Equiv.symm_apply_apply]; exact (he _).2 ⟨o, rfl⟩, by rw [Equiv.symm_apply_apply, hx, hy]⟩

theorem argmax_eq {F : FTy → Type} [FloatOps F] (v : FVec F S16x16x24564 .f32) :
    fn_argmax (F := F) v = fun j => (Host.argReduce (reducer_argmax_f32_i32 (F := F)) v (iotaInDim S16x16x24564 32 1)
      (constant S_ .f32 0xFF800000#32) (constantI S_ 32 0#32) reducesTo_S16x16x24564_S16x24564_d1 h_S_ j).2 := rfl

theorem argmax_0_eq {F : FTy → Type} [FloatOps F] (v : FVec F S16x16x24564 .f32) :
    fn_argmax_0 (F := F) v = fun j => (Host.argReduce (reducer_argmax_f32_i32 (F := F)) v (iotaInDim S16x16x24564 32 2)
      (constant S_ .f32 0xFF800000#32) (constantI S_ 32 0#32) reducesTo_S16x16x24564_S16x16_d2 h_S_ j).2 := rfl

theorem argmax_at (v : FVec Ideal S16x16x24564 .f32) (b : Fin 16) (n : Fin 24564) :
    fn_argmax (F := Ideal) v (ix2 b n) = BitVec.ofNat 32 (first fun o : Fin 16 => v (ix3 b o n)).val := by
  refine (congrFun (argmax_eq v) (ix2 b n)).trans (argReduce_first (m := 16) (by norm_num) _ _ _ _ _ _ _ (fun o : Fin 16 => v (ix3 b o n)) (fun o => ix3 b o n) ofBits_bot rfl (fun i => ?_) (fun o => rfl) (fun o => rfl))
  obtain ⟨b', o, n', rfl⟩ := eq_ix3 i
  rw [drop_d1]
  constructor
  · intro h
    obtain ⟨rfl, rfl⟩ := ix2_inj h
    exact ⟨o, rfl⟩
  · rintro ⟨o', h⟩
    rw [show b' = b from congrFun h 0, show n' = n from congrFun h 2]

theorem argmax_0_at (v : FVec Ideal S16x16x24564 .f32) (b o : Fin 16) :
    fn_argmax_0 (F := Ideal) v (ix2 b o) = BitVec.ofNat 32 (first fun n : Fin 24564 => v (ix3 b o n)).val := by
  refine (congrFun (argmax_0_eq v) (ix2 b o)).trans (argReduce_first (m := 24564) (by norm_num) _ _ _ _ _ _ _ (fun n : Fin 24564 => v (ix3 b o n)) (fun n => ix3 b o n) ofBits_bot rfl (fun i => ?_) (fun o => rfl) (fun o => rfl))
  obtain ⟨b', o', n, rfl⟩ := eq_ix3 i
  rw [drop_d2]
  constructor
  · intro h
    obtain ⟨rfl, rfl⟩ := ix2_inj h
    exact ⟨n, rfl⟩
  · rintro ⟨n', h⟩
    rw [show b' = b from congrFun h 0, show o' = o from congrFun h 1]

end ArgMax

end Cert.Stages
end
-- ==== Proof.Region0.lean ====
/- What the kernel's first call leaves in its arrays, from the arrays it finds. -/
module

public import proofs.«01_k».proof.Proof.MatchRead
public import proofs.«01_k».proof.Proof.Reads
public import Idealize.ShloMosaic.Lib.Pipeline.ValueKit

@[expose] public section

noncomputable section

namespace Cert.KernelIdeal.Region0

open Idealize.ShloMosaic Idealize.SL Idealize.SL.Sem Cert.KernelIdeal Cert.KernelIdeal.Gen Cert.Spec

variable (V : (c : Dev nD) → (b : Ref sig .tc) → Buf (Elt Ideal) ((c.tc : Thread nD τ).loc b)) (c : Dev nD)

/-- Image `b`'s grid point. -/
def pt (b : Fin 16) : Fin cfg0.N := ⟨b.val, b.isLt⟩

theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![t.val, 0, 0] ∧ win0_5.index t = ![t.val, 0, 0] ∧ win0_6.index t = ![t.val, 0, 0] :=
  (by decide +kernel : ∀ t : Fin grid0.N, _)

theorem idxb (b : Fin 16) : win0_0.index (pt b) = ![b.val, 0, 0] ∧ win0_1.index (pt b) = ![b.val, 0, 0] ∧ win0_2.index (pt b) = ![b.val, 0, 0]
    ∧ win0_3.index (pt b) = ![0, 0] ∧ win0_4.index (pt b) = ![b.val, 0, 0] := by
  obtain ⟨h0, h1, h2, h3, h4, -⟩ := idx (pt b)
  exact ⟨h0, h1, h2, h3, h4⟩

theorem boxes_at (b : Fin 16) (o : Fin 16) (k : Fin 4) :
    (iblk0 V c 0 (pt b) : Vec Ideal S1x16x4 .f32) (ix3 (0 : Fin 1) o k) = (V c main_arg2 : Vec Ideal S16x16x4 .f32) (ix3 b o k) := by
  blk_ext [iblk0, idxb b]

theorem boxes_t_at (b : Fin 16) (o : Fin 16) (k : Fin 4) :
    (iblk0 V c 1 (pt b) : Vec Ideal S1x4x16 .f32) (ix3 (0 : Fin 1) k o) = (V c main_v2 : Vec Ideal S16x4x16 .f32) (ix3 b k o) := by
  blk_ext [iblk0, idxb b]

theorem labels_in (b : Fin 16) (o : Fin 16) :
    (iblk0 V c 2 (pt b) : Vec Ideal S1x1x16 .f32) (ix3 (0 : Fin 1) (0 : Fin 1) o) = (V c main_v4 : Vec Ideal S16x1x16 .f32) (ix3 b (0 : Fin 1) o) := by
  blk_ext [iblk0, idxb b]

theorem priors_at (b : Fin 16) (k : Fin 4) (n : Fin 24564) :
    (iblk0 V c 3 (pt b) : Vec Ideal S4x24564 .f32) (ix2 k n) = (V c main_v0 : Vec Ideal S4x24564 .f32) (ix2 k n) := by
  blk_ext [iblk0, idxb b]

theorem locs_at (b : Fin 16) (k : Fin 4) (n : Fin 24564) :
    (iblk0 V c 4 (pt b) : Vec Ideal S1x4x24564 .f32) (ix3 (0 : Fin 1) k n) = (V c main_v1 : Vec Ideal S16x4x24564 .f32) (ix3 b k n) := by
  blk_ext [iblk0, idxb b]

theorem classes_final : (dat0 V c).arrAt 5 cfg0.N
    = fun i : S16x1x24564.Idx => out0_5 (iblk0 V c 0 (pt (i 0))) (iblk0 V c 1 (pt (i 0))) (iblk0 V c 2 (pt (i 0))) (iblk0 V c 3 (pt (i 0))) (iblk0 V c 4 (pt (i 0)))
        (ix3 (0 : Fin 1) (0 : Fin 1) (i 2 : Fin 24564)) := by
  refine (dat0 V c).arrAt_eq_of_covers 5 _ (by decide +kernel) fun t hf y => ?_
  have hp : pt (((cfg0.win 5).blk t).view.emb y 0) = t := Fin.ext (by
    show (((cfg0.win 5).blk t).view.emb y 0 : ℕ) = t.val
    blk_simp [idx t])
  have hy : (y : S1x1x24564.Idx) = ix3 (0 : Fin 1) (0 : Fin 1) (((cfg0.win 5).blk t).view.emb y 2) := by
    blk_ext [idx t]
  blk_simp
  rw [after0_5]
  exact (congrArg _ hy).trans (by rw [hp]; rfl)

theorem sums_final : (dat0 V c).arrAt 6 cfg0.N
    = fun i : S16x1x128.Idx => out0_6 (iblk0 V c 0 (pt (i 0))) (iblk0 V c 1 (pt (i 0))) (iblk0 V c 2 (pt (i 0))) (iblk0 V c 3 (pt (i 0))) (iblk0 V c 4 (pt (i 0)))
        (ix3 (0 : Fin 1) (0 : Fin 1) (i 2 : Fin 128)) := by
  refine (dat0 V c).arrAt_eq_of_covers 6 _ (by decide +kernel) fun t hf y => ?_
  have hp : pt (((cfg0.win 6).blk t).view.emb y 0) = t := Fin.ext (by
    show (((cfg0.win 6).blk t).view.emb y 0 : ℕ) = t.val
    blk_simp [idx t])
  have hy : (y : S1x1x128.Idx) = ix3 (0 : Fin 1) (0 : Fin 1) (((cfg0.win 6).blk t).view.emb y 2) := by
    blk_ext [idx t]
  blk_simp
  rw [after0_6]
  exact (congrArg _ hy).trans (by rw [hp]; rfl)

section Values

variable (a0 : FVec Ideal S16x24564x4 .f32) (a2 : FVec Ideal S16x16x4 .f32) (a3 : IVec S16x16 32) (a4 : FVec Ideal S24564x4 .f32)
  (e2 : ∀ b o k, (V c main_arg2 : Vec Ideal S16x16x4 .f32) (ix3 b o k) = a2 (ix3 b o k))
  (e0 : ∀ k n, (V c main_v0 : Vec Ideal S4x24564 .f32) (ix2 k n) = a4 (ix2 n k))
  (e1 : ∀ b k n, (V c main_v1 : Vec Ideal S16x4x24564 .f32) (ix3 b k n) = a0 (ix3 b n k))
  (e3 : ∀ b k o, (V c main_v2 : Vec Ideal S16x4x16 .f32) (ix3 b k o) = a2 (ix3 b o k))
  (e4 : ∀ b o, (V c main_v4 : Vec Ideal S16x1x16 .f32) (ix3 b (0 : Fin 1) o) = (((a3 (ix2 b o)).toInt : ℝ) : EReal))

include e2 e0 e4 in
/-- The classes the first call leaves. -/
theorem classes_at (b : Fin 16) (n : Fin 24564) : ((dat0 V c).arrAt 5 cfg0.N : Vec Ideal S16x1x24564 .i32) (ix3 b (0 : Fin 1) n)
    = cls (Stages.box a2 b) (fun o => a3 (ix2 b o)) (Stages.prior a4) n := by
  refine (congrFun (classes_final V c) (ix3 b (0 : Fin 1) n)).trans ?_
  exact MatchRead.labels_at (iblk0 V c 0 (pt b)) (iblk0 V c 1 (pt b)) (iblk0 V c 2 (pt b)) (iblk0 V c 3 (pt b)) (iblk0 V c 4 (pt b))
    (Stages.box a2 b) (Stages.prior a4) (fun o => a3 (ix2 b o))
    (fun o k => (boxes_at V c b o k).trans (e2 b o k)) (fun n k => (priors_at V c b k n).trans (e0 k n))
    (fun o => (labels_in V c b o).trans (e4 b o)) n

include e2 e0 e4 in
/-- How many priors it finds positive. -/
theorem positives_at (b : Fin 16) : ((dat0 V c).arrAt 6 cfg0.N : Vec Ideal S16x1x128 .f32) (ix3 b (0 : Fin 1) (0 : Fin 128))
    = ∑ n : Fin 24564, if cls (Stages.box a2 b) (fun o => a3 (ix2 b o)) (Stages.prior a4) n = 0#32 then (0 : EReal) else 1 := by
  refine (congrFun (sums_final V c) (ix3 b (0 : Fin 1) (0 : Fin 128))).trans ?_
  exact MatchRead.positives_at (iblk0 V c 0 (pt b)) (iblk0 V c 1 (pt b)) (iblk0 V c 2 (pt b)) (iblk0 V c 3 (pt b)) (iblk0 V c 4 (pt b))
    (Stages.box a2 b) (Stages.prior a4) (fun o => a3 (ix2 b o))
    (fun o k => (boxes_at V c b o k).trans (e2 b o k)) (fun n k => (priors_at V c b k n).trans (e0 k n))
    (fun o => (labels_in V c b o).trans (e4 b o))

include e2 e0 e1 e3 e4 in
/-- The positive priors' distances, added up. -/
theorem distance_at (b : Fin 16) : ((dat0 V c).arrAt 6 cfg0.N : Vec Ideal S16x1x128 .f32) (ix3 b (0 : Fin 1) (1 : Fin 128))
    = ∑ k : Fin 4, ∑ n : Fin 24564, if cls (Stages.box a2 b) (fun o => a3 (ix2 b o)) (Stages.prior a4) n = 0#32 then (0 : EReal)
        else max (a0 (ix3 b n k) - offset (Stages.box a2 b) (Stages.prior a4) n k) (-(a0 (ix3 b n k) - offset (Stages.box a2 b) (Stages.prior a4) n k)) := by
  refine (congrFun (sums_final V c) (ix3 b (0 : Fin 1) (1 : Fin 128))).trans ?_
  exact MatchRead.distance_at (iblk0 V c 0 (pt b)) (iblk0 V c 1 (pt b)) (iblk0 V c 2 (pt b)) (iblk0 V c 3 (pt b)) (iblk0 V c 4 (pt b))
    (Stages.box a2 b) (Stages.prior a4) (fun o => a3 (ix2 b o)) (fun n k => a0 (ix3 b n k))
    (fun o k => (boxes_at V c b o k).trans (e2 b o k)) (fun n k => (priors_at V c b k n).trans (e0 k n))
    (fun o k => (boxes_t_at V c b o k).trans (e3 b k o))
    (fun o => (labels_in V c b o).trans (e4 b o)) (fun n k => (locs_at V c b k n).trans (e1 b k n))

end Values

end Cert.KernelIdeal.Region0

end
-- ==== Proof.Select.lean ====
/- The arithmetic of float32 words and of the greedy bit search: which extended real a non-negative word denotes,
   that the words' order is the numbers' order, that the search finds the k-th largest value rounded down, and that
   the values above it, with it counted for the rest, add up to the k largest. -/
module

public import proofs.«01_k».proof.Defs
public import Mathlib.Tactic.Linarith
public import Mathlib.Tactic.Ring
public import Mathlib.Tactic.NormNum
public import Mathlib.Tactic.Positivity
public import Mathlib.Tactic.FieldSimp
public import Mathlib.Algebra.BigOperators.Fin
public import Mathlib.Algebra.BigOperators.Ring.Finset
public import Mathlib.Algebra.Order.Field.Power
public import Mathlib.Data.EReal.Operations

@[expose] public section

noncomputable section

namespace Cert.Select

open Idealize.ShloMosaic

/-! ## The numbers float32 words denote -/

/-- The real number of the non-negative finite float32 word `n`. -/
def num (n : ℕ) : ℝ :=
  ((if n / 2 ^ 23 = 0 then n % 2 ^ 23 else 2 ^ 23 + n % 2 ^ 23 : ℕ) : ℝ) * 2 ^ ((max (n / 2 ^ 23) 1 : ℕ) - 150 : ℤ)

/-- The word of +∞: every non-negative word below it is finite. -/
abbrev infWord : ℕ := 255 * 2 ^ 23

/-- A non-negative finite word denotes its `num`. -/
theorem ofBits_num (w : BitVec 32) (h : w.toNat < infWord) : Ideal.ofBits .f32 w = ((num w.toNat : ℝ) : EReal) := by
  have hneg : (w.extractLsb' (8 + 23) 1 == 1#1) = false := by
    rw [beq_eq_false_iff_ne]; intro he
    have := congrArg BitVec.toNat he
    rw [BitVec.extractLsb'_toNat, Nat.shiftRight_eq_div_pow] at this
    simp at this; simp only [infWord] at h; omega
  have hex : (w.extractLsb' 23 8).toNat = w.toNat / 2 ^ 23 := by
    rw [BitVec.extractLsb'_toNat, Nat.shiftRight_eq_div_pow]; simp only [infWord] at h; omega
  have hfr : (w.extractLsb' 0 23).toNat = w.toNat % 2 ^ 23 := by
    rw [BitVec.extractLsb'_toNat, Nat.shiftRight_eq_div_pow]; simp
  show Ideal.ieee 8 23 w = _
  unfold Ideal.ieee
  simp only [hneg, hex, hfr]
  have h1 : ¬ (w.toNat / 2 ^ 23 = 2 ^ 8 - 1) := by simp only [infWord] at h; omega
  rw [if_neg h1]
  unfold num
  by_cases h0 : w.toNat / 2 ^ 23 = 0
  · rw [if_pos h0, if_pos h0, h0]; norm_num
  · rw [if_neg h0, if_neg h0, max_eq_left (by omega)]
    congr 1
    have e : ((w.toNat / 2 ^ 23 : ℕ) : ℤ) - (2 ^ (8 - 1) - 1) - (23 : ℕ) = ((w.toNat / 2 ^ 23 : ℕ) : ℤ) - 150 := by
      norm_num; ring
    rw [e]; simp

/-- The word of +∞ denotes +∞. -/
theorem ofBits_inf (w : BitVec 32) (h : w.toNat = infWord) : Ideal.ofBits .f32 w = ⊤ := by
  have : w = 0x7F800000#32 := by apply BitVec.eq_of_toNat_eq; rw [h]; rfl
  subst this
  simp [Ideal.ofBits, Ideal.ieee]

/-- A greater word denotes a greater number. -/
theorem num_strictMono : StrictMono num := by
  apply strictMono_nat_of_lt_succ
  intro n
  unfold num
  by_cases hf : n % 2 ^ 23 = 2 ^ 23 - 1
  · have h1 : (n + 1) / 2 ^ 23 = n / 2 ^ 23 + 1 := by omega
    have h2 : (n + 1) % 2 ^ 23 = 0 := by omega
    rw [h1, h2, hf, if_neg (by omega : ¬ (n / 2 ^ 23 + 1 = 0))]
    by_cases h0 : n / 2 ^ 23 = 0
    · rw [h0]; norm_num
    · rw [if_neg h0, max_eq_left (by omega), max_eq_left (by omega)]
      have e : ((n / 2 ^ 23 + 1 : ℕ) : ℤ) - 150 = ((n / 2 ^ 23 : ℕ) : ℤ) - 150 + 1 := by push_cast; ring
      rw [e, zpow_add₀ (by norm_num)]
      have hp : (0 : ℝ) < 2 ^ (((n / 2 ^ 23 : ℕ) : ℤ) - 150) := by positivity
      generalize (2 : ℝ) ^ (((n / 2 ^ 23 : ℕ) : ℤ) - 150) = q at hp ⊢
      norm_num
      linarith
  · have h1 : (n + 1) / 2 ^ 23 = n / 2 ^ 23 := by omega
    have h2 : (n + 1) % 2 ^ 23 = n % 2 ^ 23 + 1 := by omega
    rw [h1, h2]
    apply mul_lt_mul_of_pos_right _ (by positivity)
    split <;> (push_cast; linarith)

theorem num_zero : num 0 = 0 := by unfold num; norm_num

/-- Every whole number below `2^24` times a power of two from `2^-149` on, up to the greatest float32 number, is the
    number of a word. -/
theorem exists_num (M : ℕ) (m : ℤ) (hM : M < 2 ^ 24) (hm : -149 ≤ m) (hx : (M : ℝ) * 2 ^ m < 2 ^ (128 : ℤ)) :
    ∃ n, n < infWord ∧ num n = M * 2 ^ m := by
  obtain ⟨d, hd⟩ : ∃ d : ℕ, (m + 149).toNat = d := ⟨_, rfl⟩
  induction d generalizing M m with
  | zero =>
    have hm' : m = -149 := by omega
    refine ⟨M, by simp only [infWord]; omega, ?_⟩
    subst hm'
    unfold num
    by_cases h0 : M / 2 ^ 23 = 0
    · rw [if_pos h0, h0, Nat.mod_eq_of_lt (by omega)]; norm_num
    · have h1 : M / 2 ^ 23 = 1 := by omega
      rw [if_neg h0, h1, show 2 ^ 23 + M % 2 ^ 23 = M by omega]; norm_num
  | succ d ih =>
    by_cases hs : M < 2 ^ 23
    · have e : ((2 * M : ℕ) : ℝ) * 2 ^ (m - 1) = M * 2 ^ m := by
        rw [zpow_sub₀ (by norm_num)]; push_cast; field_simp
      obtain ⟨n, hn, hv⟩ := ih (2 * M) (m - 1) (by omega) (by omega) (by rw [e]; exact hx) (by omega)
      exact ⟨n, hn, by rw [hv, e]⟩
    · have hlt : (2 : ℝ) ^ (23 + m) < 2 ^ (128 : ℤ) := by
        refine lt_of_le_of_lt ?_ hx
        rw [zpow_add₀ (by norm_num)]
        apply mul_le_mul_of_nonneg_right _ (by positivity)
        have : ((8388608 : ℕ) : ℝ) ≤ M := Nat.cast_le.mpr (by omega)
        refine le_trans (le_of_eq ?_) this
        norm_num
      have hb : 23 + m < 128 := (zpow_lt_zpow_iff_right₀ (by norm_num)).mp hlt
      obtain ⟨e, he⟩ : ∃ e : ℕ, (e : ℤ) = m + 150 := ⟨(m + 150).toNat, by omega⟩
      refine ⟨e * 2 ^ 23 + (M - 2 ^ 23), by simp only [infWord]; omega, ?_⟩
      unfold num
      have h1 : (e * 2 ^ 23 + (M - 2 ^ 23)) / 2 ^ 23 = e := by omega
      have h2 : (e * 2 ^ 23 + (M - 2 ^ 23)) % 2 ^ 23 = M - 2 ^ 23 := by omega
      rw [h1, h2, if_neg (by omega), max_eq_left (by omega), show 2 ^ 23 + (M - 2 ^ 23) = M by omega, he]
      rw [add_sub_cancel_right]

/-! ## The greedy search -/

/-- One step of the search: the bit is kept where `keep` says so of the word with the bit set. -/
def step (keep : BitVec 32 → Prop) [DecidablePred keep] (j : ℕ) (p : BitVec 32) : BitVec 32 :=
  if keep (p ||| BitVec.ofNat 32 (2 ^ j)) then p ||| BitVec.ofNat 32 (2 ^ j) else p

/-- The search over the bits `j - 1, …, 0`. -/
def search (keep : BitVec 32 → Prop) [DecidablePred keep] : ℕ → BitVec 32 → BitVec 32
  | 0, p => p
  | j + 1, p => search keep j (step keep j p)

/-- Setting a bit of a word whose bits up to it are clear adds its weight. -/
theorem toNat_or_bit (p : BitVec 32) (j : ℕ) (hj : j < 31) (hp : p.toNat % 2 ^ (j + 1) = 0) :
    (p ||| BitVec.ofNat 32 (2 ^ j)).toNat = p.toNat + 2 ^ j := by
  have hlt : 2 ^ j < 2 ^ 32 := Nat.pow_lt_pow_right (by norm_num) (by omega)
  rw [BitVec.toNat_or, BitVec.toNat_ofNat, Nat.mod_eq_of_lt hlt]
  obtain ⟨a, ha⟩ := Nat.dvd_of_mod_eq_zero hp
  rw [ha]
  exact (Nat.two_pow_add_eq_or_of_lt (Nat.pow_lt_pow_right (by norm_num) (by omega)) a).symm

/-- The search ends at the word `w` when the words kept are those whose number is at most `w`'s. -/
theorem search_eq (keep : BitVec 32 → Prop) [DecidablePred keep] (w : BitVec 32) (hw : w.toNat < infWord)
    (hkeep : ∀ c : BitVec 32, c.toNat ≤ infWord → (keep c ↔ Ideal.ofBits .f32 c ≤ Ideal.ofBits .f32 w)) (j : ℕ) (hj : j ≤ 31) (p : BitVec 32)
    (h0 : p.toNat % 2 ^ j = 0) (h1 : p.toNat ≤ w.toNat) (h2 : w.toNat < p.toNat + 2 ^ j) :
    search keep j p = w := by
  induction j generalizing p with
  | zero => exact BitVec.eq_of_toNat_eq (by simp at h2; show p.toNat = _; omega)
  | succ j ih =>
    have hc := toNat_or_bit p j (by omega) h0
    have hpow : 2 ^ (j + 1) = 2 * 2 ^ j := by rw [pow_succ]; ring
    have hmod : p.toNat % 2 ^ j = 0 := Nat.mod_eq_zero_of_dvd (Nat.dvd_trans (pow_dvd_pow 2 (by omega)) (Nat.dvd_of_mod_eq_zero h0))
    show search keep j (step keep j p) = w
    unfold step
    by_cases hle : p.toNat + 2 ^ j ≤ w.toNat
    · have hk : keep (p ||| BitVec.ofNat 32 (2 ^ j)) := by
        rw [hkeep _ (by omega), ofBits_num _ (by omega), ofBits_num _ hw, EReal.coe_le_coe_iff]
        exact num_strictMono.monotone (by omega)
      rw [if_pos hk]
      exact ih (by omega) _ (by rw [hc]; simp [hmod]) (by omega) (by omega)
    · have hk : ¬ keep (p ||| BitVec.ofNat 32 (2 ^ j)) := by
        have hcap : p.toNat + 2 ^ j ≤ infWord := by
          obtain ⟨a, ha⟩ := Nat.dvd_of_mod_eq_zero h0
          by_cases hj23 : j < 23
          · obtain ⟨b, hb⟩ : ∃ b, 2 ^ 23 = 2 ^ (j + 1) * b := pow_dvd_pow 2 (by omega)
            have e : infWord = 2 ^ (j + 1) * (255 * b) := by simp only [infWord]; rw [hb]; ring
            have : a < 255 * b := by
              by_contra hge
              have := Nat.mul_le_mul_left (2 ^ (j + 1)) (not_lt.mp hge)
              omega
            have := Nat.mul_le_mul_left (2 ^ (j + 1)) (Nat.succ_le_of_lt this)
            rw [Nat.mul_succ] at this
            omega
          · obtain ⟨b, hb⟩ : ∃ b, 2 ^ 31 = 2 ^ (j + 1) * b := pow_dvd_pow 2 (by omega)
            have : a < b := by
              by_contra hge
              have := Nat.mul_le_mul_left (2 ^ (j + 1)) (not_lt.mp hge)
              simp only [infWord] at hw
              omega
            have := Nat.mul_le_mul_left (2 ^ (j + 1)) (Nat.succ_le_of_lt this)
            rw [Nat.mul_succ] at this
            have : 2 ^ 23 ≤ 2 ^ j := Nat.pow_le_pow_right (by norm_num) (by omega)
            simp only [infWord]
            omega
        rw [hkeep _ (by omega), ofBits_num w hw, not_le]
        rcases hcap.eq_or_lt with h | h
        · rw [ofBits_inf _ (by omega)]; exact EReal.coe_lt_top _
        · rw [ofBits_num _ (by omega), EReal.coe_lt_coe_iff]
          exact num_strictMono (by omega)
      rw [if_neg hk]
      exact ih (by omega) _ hmod h1 (by omega)

/-- Among the first words there is a greatest whose number is at most a number that is not negative. -/
theorem exists_floor (x : ℝ) (h0 : 0 ≤ x) (N : ℕ) (hN : 0 < N) : ∃ g, g < N ∧ ∀ n, n < N → (num n ≤ x ↔ n ≤ g) := by
  classical
  refine ⟨Nat.findGreatest (fun n => num n ≤ x) (N - 1), ?_, fun n hn => ⟨fun h => Nat.le_findGreatest (by omega) h, fun h => ?_⟩⟩
  · have := Nat.findGreatest_le (P := fun n => num n ≤ x) (N - 1)
    omega
  · exact (num_strictMono.monotone h).trans (Nat.findGreatest_spec (P := fun n => num n ≤ x) (Nat.zero_le _) (by rw [num_zero]; exact h0))

/-- The search ends at the greatest float32 number at most `x` when the words kept are those whose number is at most `x`. -/
theorem search_floor (keep : BitVec 32 → Prop) [DecidablePred keep] (x : ℝ) (h0 : 0 ≤ x) (hkeep : ∀ c, keep c ↔ Ideal.ofBits .f32 c ≤ (x : EReal)) :
    ∃ t : ℝ, Ideal.ofBits .f32 (search keep 31 0#32) = (t : EReal) ∧ t ≤ x
      ∧ ∀ w : BitVec 32, w.toNat < infWord → Ideal.ofBits .f32 w ≤ (x : EReal) → Ideal.ofBits .f32 w ≤ (t : EReal) := by
  obtain ⟨g, hg, hmax⟩ := exists_floor x h0 infWord (by norm_num [infWord])
  have hword : (BitVec.ofNat 32 g).toNat = g := by
    rw [BitVec.toNat_ofNat]
    exact Nat.mod_eq_of_lt (hg.trans (by norm_num [infWord]))
  have hnum : Ideal.ofBits .f32 (BitVec.ofNat 32 g) = ((num g : ℝ) : EReal) := by rw [ofBits_num _ (by rw [hword]; exact hg), hword]
  have hs : search keep 31 0#32 = BitVec.ofNat 32 g := by
    refine search_eq keep _ (by rw [hword]; exact hg) (fun c hc => ?_) 31 (by omega) 0#32 (by decide) (Nat.zero_le _) ?_
    · rw [hkeep, hnum]
      rcases hc.eq_or_lt with h | h
      · rw [ofBits_inf c h]
        exact iff_of_false (not_le.2 (EReal.coe_lt_top _)) (not_le.2 (EReal.coe_lt_top _))
      · rw [ofBits_num c h, EReal.coe_le_coe_iff, EReal.coe_le_coe_iff, num_strictMono.le_iff_le]
        exact hmax _ h
    · have : infWord < 2 ^ 31 := by norm_num [infWord]
      rw [hword]
      show g < 0 + 2 ^ 31
      omega
  refine ⟨num g, by rw [hs, hnum], (hmax g hg).2 le_rfl, fun w hw h => ?_⟩
  rw [ofBits_num w hw, EReal.coe_le_coe_iff] at h ⊢
  exact num_strictMono.monotone ((hmax _ hw).1 h)

/-! ## The k largest values -/

section Top

variable {n : ℕ} (s : Fin n → ℝ) (hs : Antitone s) (k : ℕ) (hk : 0 < k) (hkn : k ≤ n)

include hs hk in
/-- At least `k` of the values are at least `c` exactly when the `k`-th largest is. -/
theorem count_ge_iff (c : EReal) :
    k ≤ (Finset.univ.filter fun i => c ≤ (s i : EReal)).card ↔ c ≤ (s ⟨k - 1, by omega⟩ : EReal) := by
  constructor
  · intro h
    by_contra hlt
    rw [not_le] at hlt
    have hsub : (Finset.univ.filter fun i => c ≤ (s i : EReal)) ⊆ Finset.univ.filter fun i : Fin n => i.val < k - 1 := by
      intro i hi
      simp only [Finset.mem_filter, Finset.mem_univ, true_and] at hi ⊢
      by_contra hge
      have : s i ≤ s ⟨k - 1, by omega⟩ := hs (by show k - 1 ≤ i.val; omega)
      exact absurd (lt_of_lt_of_le (lt_of_le_of_lt (EReal.coe_le_coe_iff.mpr this) hlt) hi) (lt_irrefl _)
    have hcard : (Finset.univ.filter fun i : Fin n => i.val < k - 1).card ≤ k - 1 := by
      calc _ = ((Finset.univ.filter fun i : Fin n => i.val < k - 1).map Fin.valEmbedding).card := (Finset.card_map _).symm
        _ ≤ (Finset.range (k - 1)).card := Finset.card_le_card fun x hx => by
            simp only [Finset.mem_map, Finset.mem_filter, Finset.mem_univ, true_and, Finset.mem_range] at hx ⊢
            obtain ⟨a, ha, rfl⟩ := hx; exact ha
        _ = k - 1 := Finset.card_range _
    have := Finset.card_le_card hsub
    omega
  · intro h
    have hsub : ((Finset.range k).attachFin fun i hi => lt_of_lt_of_le (Finset.mem_range.mp hi) hkn)
        ⊆ Finset.univ.filter fun i => c ≤ (s i : EReal) := by
      intro i hi
      rw [Finset.mem_attachFin, Finset.mem_range] at hi
      simp only [Finset.mem_filter, Finset.mem_univ, true_and]
      exact h.trans (EReal.coe_le_coe_iff.mpr (hs (by show i.val ≤ k - 1; omega)))
    have := Finset.card_le_card hsub
    rwa [Finset.card_attachFin, Finset.card_range] at this

include hs hk in
/-- The values above a number that parts the `k` largest from the rest, with it counted for what is missing to `k`, add up
    to the `k` largest. -/
theorem sum_top (t : ℝ) (h1 : t ≤ s ⟨k - 1, by omega⟩) (h2 : ∀ i : Fin n, k ≤ i.val → s i ≤ t) :
    (∑ i, if t < s i then s i else 0) + ((k : ℝ) - ∑ i, if t < s i then (1 : ℝ) else 0) * t
      = ∑ i : Fin n, if i.val < k then s i else 0 := by
  have hcount : (k : ℝ) = ∑ i : Fin n, if i.val < k then (1 : ℝ) else 0 := by
    have := Fin.sum_univ_eq_sum_range (fun i => if i < k then (1 : ℝ) else 0) n
    rw [this, Finset.sum_ite, Finset.sum_const_zero, add_zero, Finset.sum_const, nsmul_eq_mul, mul_one]
    congr 1
    have : (Finset.range n).filter (fun i => i < k) = Finset.range k := by
      ext i; simp only [Finset.mem_filter, Finset.mem_range]; omega
    rw [this, Finset.card_range]
  rw [hcount, ← Finset.sum_sub_distrib, Finset.sum_mul, ← Finset.sum_add_distrib]
  refine Finset.sum_congr rfl fun i _ => ?_
  by_cases hi : i.val < k
  · have hge : t ≤ s i := h1.trans (hs (by show i.val ≤ k - 1; omega))
    rcases hge.eq_or_lt with h | h
    · rw [if_neg (by rw [h]; exact lt_irrefl _), if_pos hi, if_neg (by rw [h]; exact lt_irrefl _), if_pos hi, h]; ring
    · rw [if_pos h, if_pos hi, if_pos h, if_pos hi]; ring
  · have hle : s i ≤ t := h2 i (by omega)
    rw [if_neg (not_lt.mpr hle), if_neg hi, if_neg (not_lt.mpr hle), if_neg hi]; ring

end Top

/-! ## Sums of real numbers, read as extended reals -/

/-- A finite sum of real numbers is the same in the extended reals. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Ones counted in the extended reals are the number of them. -/
theorem sum_ones {ι : Type*} [Fintype ι] (p : ι → Prop) [DecidablePred p] :
    (∑ i, if p i then (1 : EReal) else 0) = (((Finset.univ.filter p).card : ℝ) : EReal) := by
  have : ∀ i, (if p i then (1 : EReal) else 0) = (((if p i then 1 else 0 : ℝ)) : EReal) := fun i => by split <;> simp
  simp only [this]
  rw [← coe_sum, Finset.sum_boole]

end Cert.Select
-- ==== Proof.Entropy.lean ====
/- The level of a row of finite logits, the log of the sum of their exponentials. -/
module

public import Idealize.ShloMosaic.PureOps.Ideal
public import proofs.«01_k».proof.Proof.Select

@[expose] public section

noncomputable section

namespace Cert.Entropy

open Idealize.ShloMosaic

/-- The level of a row of logits. -/
def level (r : Fin 81 → ℝ) : ℝ := Real.log (∑ k, Real.exp (r k))

theorem sum_pos (r : Fin 81 → ℝ) : 0 < ∑ k, Real.exp (r k) :=
  Finset.sum_pos (fun k _ => Real.exp_pos _) ⟨0, Finset.mem_univ _⟩

/-- No logit is above the level. -/
theorem le_level (r : Fin 81 → ℝ) (k : Fin 81) : r k ≤ level r := by
  rw [level, Real.le_log_iff_exp_le (sum_pos r)]
  exact Finset.single_le_sum (f := fun k => Real.exp (r k)) (fun k _ => (Real.exp_pos _).le) (Finset.mem_univ k)

/-- Taken off every logit, a number comes off the level. -/
theorem log_sum (r : Fin 81 → ℝ) (c : ℝ) :
    Ideal.log (∑ k, Ideal.exp ((r k : EReal) - (c : EReal))) = ((level r - c : ℝ) : EReal) := by
  have h : ∑ k, Ideal.exp ((r k : EReal) - (c : EReal)) = ((∑ k, Real.exp (r k - c) : ℝ) : EReal) := by
    rw [Cert.Select.coe_sum]
    refine Finset.sum_congr rfl fun k _ => ?_
    rw [← EReal.coe_sub, Ideal.exp_coe]
  have e : ∑ k, Real.exp (r k - c) = (∑ k, Real.exp (r k)) * Real.exp (-c) := by
    rw [Finset.sum_mul]
    exact Finset.sum_congr rfl fun k _ => by rw [← Real.exp_add, sub_eq_add_neg]
  rw [h, Ideal.log_coe, if_neg (not_le.2 (sum_pos fun k => r k - c)), e, Real.log_mul (sum_pos r).ne' (Real.exp_pos _).ne', Real.log_exp,
    level, sub_eq_add_neg]

/-- A prior's loss, from its logits and its class: the level less the class's logit. -/
def loss (r : Fin 81 → ℝ) (w : BitVec 32) : ℝ := level r - r (Fin.ofNat 81 w.toNat)

theorem loss_nonneg (r : Fin 81 → ℝ) (w : BitVec 32) : 0 ≤ loss r w := sub_nonneg.2 (le_level r _)

end Cert.Entropy

end
-- ==== Proof.EntropyRead.lean ====
/- The kernel's second call: what it leaves for a block, read from the block of logits and the classes. -/
module

public import proofs.«01_k».proof.Proof.Gen.KernelIdeal.Frame
public import proofs.«01_k».proof.Proof.Entropy
public import proofs.«01_k».proof.Proof.Spec
public import Idealize.ShloMosaic.Lib.VecWindow
public import Idealize.ShloMosaic.Lib.Pointwise

@[expose] public section

noncomputable section

namespace Cert.KernelIdeal.EntropyRead

open Idealize.ShloMosaic Cert.KernelIdeal Cert.KernelIdeal.Gen Cert.Entropy Cert.Spec

theorem load_whole {s : Shape} {e : EltTy} (arg : Memref sig .tc .vmem s e) (h : arg.IsWhole) (x : s.Idx → Elt Ideal e) {off : Fin s.rank → ℕ}
    (inb : ∀ a, off a + s.size a ≤ s.size a) :
    View.readAt (Elt Ideal) arg.view (Rect.unit off s.size inb).toLoadRect (h.unread x) = x := by
  rw [View.readAt_full, h.read_unread]

theorem load_logits (arg : Memref sig .tc .vmem S1x24564x81 .f32) (h : arg.IsWhole) (x : Vec Ideal S1x24564x81 .f32) :
    View.readAt (Elt Ideal) arg.view (Rect.unit ![0, 0, 0] S1x24564x81.size inb_S1x24564x81_S1x24564x81_0_0_0).toLoadRect (h.unread x) = x :=
  load_whole arg h x _

theorem load_classes (arg : Memref sig .tc .vmem S1x1x24564 .i32) (h : arg.IsWhole) (x : Vec Ideal S1x1x24564 .i32) :
    View.readAt (Elt Ideal) arg.view (Rect.unit ![0, 0, 0] S1x1x24564.size inb_S1x1x24564_S1x1x24564_0_0_0).toLoadRect (h.unread x) = x :=
  load_whole arg h x _

section Pieces

variable (c : Dev nD) (i : grid1.Coords) (arg2 : Memref sig .tc .vmem S1x24564x81 .f32) (harg2 : arg2.IsWhole) (arg3 : Memref sig .tc .vmem S1x1x24564 .i32) (harg3 : arg3.IsWhole)
  (arg4 : Memref sig .tc .vmem S1x1x24564 .f32) (harg4 : arg4.IsWhole) (arg5 : Memref sig .tc .vmem S1x1x128 .f32) (harg5 : arg5.IsWhole) (hc0 : cond1_0 i)
  (x0 : Vec Ideal S1x24564x81 .f32) (x1 : Vec Ideal S1x1x24564 .i32)

theorem negatives_eq : out1_A_2 (F := Ideal) c i arg2 harg2 arg3 harg3 arg4 harg4 arg5 harg5 hc0 x0 x1 = k1_pay7 i x0 x1 := by
  rw [out1_A_2, View.read_writes_eq_canon _ _ _ (cover1_A_2 c i arg2 harg2 arg3 harg3 arg4 harg4 arg5 harg5 hc0 x0 x1)]
  unfold kernelRun1_A
  dsimp only
  rw [View.canon_unit_zero (by funext a; match a with | ⟨0, _⟩ => rfl | ⟨1, _⟩ => rfl | ⟨2, _⟩ => rfl)]
  exact congrArg₂ (k1_pay7 i) (load_logits arg2 harg2 x0) (load_classes arg3 harg3 x1)

theorem totals_eq : out1_A_3 (F := Ideal) c i arg2 harg2 arg3 harg3 arg4 harg4 arg5 harg5 hc0 x0 x1
    = k1_pay2 (F := Ideal) (k1_pay5 x0) (k1_pay6 (F := Ideal) i x1) (k1_pay8 i x0 x1) (k1_pay1 (F := Ideal)) := by
  have h1 : kernelRun1_A.sl.r (F := Ideal) c arg2 harg2 x0 = k1_pay5 x0 := congrArg k1_pay5 (load_logits arg2 harg2 x0)
  have h2 : kernelRun1_A.sl.r_1 (F := Ideal) c i arg3 harg3 x1 = k1_pay6 (F := Ideal) i x1 := congrArg (k1_pay6 (F := Ideal) i) (load_classes arg3 harg3 x1)
  have h3 : kernelRun1_A.sl.r_2 (F := Ideal) c i arg2 harg2 arg3 harg3 x0 x1 = k1_pay8 i x0 x1 := congrArg₂ (k1_pay8 i) (load_logits arg2 harg2 x0) (load_classes arg3 harg3 x1)
  have h4 : kernelRun1_A.sl.v54 (F := Ideal) c arg5 = k1_pay1 (F := Ideal) := by
    unfold kernelRun1_A.sl.v54 kernelRun1_A.sl.H3_1
    exact View.readCov_unit_zero _ (by funext a; match a with | ⟨0, _⟩ => rfl | ⟨1, _⟩ => rfl | ⟨2, _⟩ => rfl) _ _
  rw [out1_A_3, View.read_writes_eq_canon _ _ _ (cover1_A_3 c i arg2 harg2 arg3 harg3 arg4 harg4 arg5 harg5 hc0 x0 x1)]
  unfold kernelRun1_A
  dsimp only
  rw [View.canon_cons_unit_zero (by funext a; match a with | ⟨0, _⟩ => rfl | ⟨1, _⟩ => rfl | ⟨2, _⟩ => rfl), h1, h2, h3, h4]

end Pieces

section Values

variable (i : grid1.Coords) (x0 : Vec Ideal S1x24564x81 .f32) (x1 : Vec Ideal S1x1x24564 .i32)
  (r : Fin 24564 → Fin 81 → ℝ) (lb : Fin 24564 → BitVec 32)
  (hx0 : ∀ n k, x0 (ix3 (0 : Fin 1) n k) = (r n k : EReal)) (hx1 : ∀ n, x1 (ix3 (0 : Fin 1) (0 : Fin 1) n) = lb n)

/-- Every prior of the block is within the array. -/
theorem within (n : Fin 24564) {α : Type} (x y : α) :
    Scalar.select (IntOp.cmpi CmpIPredicate.slt (IntOp.addi (BitVec.ofNat 32 n.val) (Scalar.muli 0#32 24564#32)) 24564#32) x y = x := by
  have h : IntOp.addi (BitVec.ofNat 32 n.val) (Scalar.muli 0#32 24564#32) = BitVec.ofNat 32 n.val := by
    rw [show Scalar.muli 0#32 24564#32 = 0#32 from by decide, IntOp.addi, BitVec.add_zero]
  have h' : (BitVec.ofNat 32 n.val).slt 24564#32 = true := by
    rw [BitVec.slt, decide_eq_true_eq, toInt_small (a := n.val) (by omega), show (24564#32 : BitVec 32).toInt = 24564 from by decide]
    omega
  rw [h]
  simp [IntOp.cmpi, h', Scalar.select]

theorem ne_select (w : BitVec 32) {α : Type} (x y : α) : Scalar.select (IntOp.cmpi CmpIPredicate.ne w 0#32) x y = if w = 0#32 then y else x := by
  by_cases h : w = 0#32
  · rw [if_pos h, h]; rfl
  · rw [if_neg h]; simp [IntOp.cmpi, Scalar.select, bne_iff_ne.2 h]

include hx0 in
theorem logs_at (n : Fin 24564) : k1_pay5 (F := Ideal) x0 (ix2 (0 : Fin 1) n) = ((level (r n) - r n 0 : ℝ) : EReal) := by
  pointwise [k1_pay5, k1_pay4]
  simp only [hx0]
  rw [show FloatOps.sitofp (F := Ideal) FTy.f32 (BitVec.setWidth 32 1#1) = 1 from by
    show ((((BitVec.setWidth 32 1#1).toInt : ℝ)) : EReal) = 1
    rw [show (BitVec.setWidth 32 1#1).toInt = 1 from by decide]; norm_num]
  simp only [one_mul]
  exact log_sum (r n) (r n 0)

include hx1 in
theorem pos_at (n : Fin 24564) {α : Type} (x y : α) : Scalar.select (k1_pay6 (F := Ideal) i x1 (ix2 (0 : Fin 1) n)) x y = if lb n = 0#32 then y else x := by
  pointwise [k1_pay6, k1_pay3]
  rw [within, ne_select, hx1]

include hx0 hx1

theorem negatives_at (n : Fin 24564) :
    k1_pay7 (F := Ideal) i x0 x1 (ix3 (0 : Fin 1) (0 : Fin 1) n) = if lb n = 0#32 then ((loss (r n) 0#32 : ℝ) : EReal) else 0 := by
  have h : k1_pay7 (F := Ideal) i x0 x1 (ix3 (0 : Fin 1) (0 : Fin 1) n)
      = Scalar.select (k1_pay6 (F := Ideal) i x1 (ix2 (0 : Fin 1) n)) (0 : EReal) (k1_pay5 (F := Ideal) x0 (ix2 (0 : Fin 1) n)) := by
    pointwise [k1_pay7]
  rw [h, pos_at i x1 lb hx1, logs_at x0 r hx0]
  rfl

/-- The entry picked among the logits of a prior. -/
theorem pick_at (hl : ∀ n, (lb n).toNat < 81) (n : Fin 24564) :
    ∑ k : Fin 81, k1_pay8 (F := Ideal) i x0 x1 (ix2 n k)
      = if lb n = 0#32 then 0 else ((r n (Fin.ofNat 81 (lb n).toNat) - r n 0 : ℝ) : EReal) := by
  have h : ∀ k : Fin 81, k1_pay8 (F := Ideal) i x0 x1 (ix2 n k)
      = if k = Fin.ofNat 81 (lb n).toNat then (if lb n = 0#32 then 0 else ((r n (Fin.ofNat 81 (lb n).toNat) - r n 0 : ℝ) : EReal)) else 0 := by
    intro k
    have hk : BitVec.ofNat 32 k.val = lb n ↔ k = Fin.ofNat 81 (lb n).toNat := by
      rw [Fin.ext_iff, ← BitVec.toNat_inj, BitVec.toNat_ofNat, Nat.mod_eq_of_lt (by omega), Fin.val_ofNat, Nat.mod_eq_of_lt (hl n)]
    pointwise [k1_pay8, k1_pay4, k1_pay3]
    rw [within, hx1, hx0, hx0]
    by_cases he : k = Fin.ofNat 81 (lb n).toNat
    · rw [if_pos he, hk.2 he, ← he]
      by_cases h0 : lb n = 0#32
      · rw [if_pos h0, h0]; rfl
      · have hs : (0#32 : BitVec 32).slt (lb n) = true := by
          rw [BitVec.slt, decide_eq_true_eq, BitVec.toInt_eq_toNat_of_lt (x := lb n) (by have := hl n; omega)]
          have : (lb n).toNat ≠ 0 := fun e => h0 (BitVec.eq_of_toNat_eq e)
          show (0 : ℤ) < _
          omega
        rw [if_neg h0, EReal.coe_sub]
        simp [IntOp.cmpi, IntOp.andi, hs, Scalar.select]
    · rw [if_neg he]
      simp [IntOp.cmpi, IntOp.andi, beq_eq_false_iff_ne.2 (mt hk.1 he), Scalar.select]
  rw [Finset.sum_congr rfl fun k _ => h k, Finset.sum_ite_eq' Finset.univ, if_pos (Finset.mem_univ _)]

theorem total_at (hl : ∀ n, (lb n).toNat < 81) :
    k1_pay2 (F := Ideal) (k1_pay5 x0) (k1_pay6 (F := Ideal) i x1) (k1_pay8 i x0 x1) (k1_pay1 (F := Ideal)) (ix3 (0 : Fin 1) (0 : Fin 1) (0 : Fin 128))
      = ((∑ n, if lb n = 0#32 then 0 else loss (r n) (lb n) : ℝ) : EReal) := by
  have h : ∀ (a : FVec Ideal S1x24564 .f32) (b : IVec S1x24564 1) (d : FVec Ideal S24564x81 .f32),
      k1_pay2 (F := Ideal) a b d (k1_pay1 (F := Ideal)) (ix3 (0 : Fin 1) (0 : Fin 1) (0 : Fin 128))
        = (∑ n : Fin 24564, Scalar.select (b (ix2 (0 : Fin 1) n)) (a (ix2 (0 : Fin 1) n)) 0) - ∑ n : Fin 24564, ∑ k : Fin 81, d (ix2 n k) := by
    intro a b d
    pointwise [k1_pay2, k1_pay1]
    simp only [Finset.univ_unique, Finset.sum_singleton]
  rw [h]
  simp only [pos_at i x1 lb hx1, logs_at x0 r hx0, pick_at i x0 x1 r lb hx0 hx1 hl]
  have e1 : ∀ n, (if lb n = 0#32 then (0 : EReal) else ((level (r n) - r n 0 : ℝ) : EReal)) = ((if lb n = 0#32 then 0 else level (r n) - r n 0 : ℝ) : EReal) := by
    intro n; split <;> rfl
  have e2 : ∀ n, (if lb n = 0#32 then (0 : EReal) else ((r n (Fin.ofNat 81 (lb n).toNat) - r n 0 : ℝ) : EReal)) = ((if lb n = 0#32 then 0 else r n (Fin.ofNat 81 (lb n).toNat) - r n 0 : ℝ) : EReal) := by
    intro n; split <;> rfl
  simp only [e1, e2, ← Cert.Select.coe_sum]
  rw [← EReal.coe_sub, ← Finset.sum_sub_distrib]
  refine congrArg _ (Finset.sum_congr rfl fun n _ => ?_)
  split
  · exact sub_zero _
  · rw [loss]; ring

end Values

end Cert.KernelIdeal.EntropyRead

end
-- ==== Proof.Region1.lean ====
/- What the kernel's second call leaves in its arrays, from the arrays it finds. -/
module

public import proofs.«01_k».proof.Proof.EntropyRead
public import Idealize.ShloMosaic.Lib.Pipeline.ValueKit

@[expose] public section

noncomputable section

namespace Cert.KernelIdeal.Region1

open Idealize.ShloMosaic Idealize.SL Idealize.SL.Sem Cert.KernelIdeal Cert.KernelIdeal.Gen Cert.Entropy

variable (V : (c : Dev nD) → (b : Ref sig .tc) → Buf (Elt Ideal) ((c.tc : Thread nD τ).loc b)) (c : Dev nD)

/-- Image `b`'s grid point. -/
def pt (b : Fin 16) : Fin cfg1.N := ⟨b.val, b.isLt⟩

theorem idx : ∀ t : Fin cfg1.N, win1_0.index t = ![t.val, 0, 0] ∧ win1_1.index t = ![t.val, 0, 0] ∧ win1_2.index t = ![t.val, 0, 0] ∧ win1_3.index t = ![t.val, 0, 0] :=
  (by decide +kernel : ∀ t : Fin grid1.N, _)

theorem idxb (b : Fin 16) : win1_0.index (pt b) = ![b.val, 0, 0] ∧ win1_1.index (pt b) = ![b.val, 0, 0] := by
  obtain ⟨h0, h1, -⟩ := idx (pt b)
  exact ⟨h0, h1⟩

theorem logits_at (b : Fin 16) (n : Fin 24564) (k : Fin 81) :
    (iblk1 V c 0 (pt b) : Vec Ideal S1x24564x81 .f32) (ix3 (0 : Fin 1) n k) = (V c main_arg1 : Vec Ideal S16x24564x81 .f32) (ix3 b n k) := by
  blk_ext [iblk1, idxb b]

theorem classes_at (b : Fin 16) (n : Fin 24564) :
    (iblk1 V c 1 (pt b) : Vec Ideal S1x1x24564 .i32) (ix3 (0 : Fin 1) (0 : Fin 1) n) = (V c main_v5_0 : Vec Ideal S16x1x24564 .i32) (ix3 b (0 : Fin 1) n) := by
  blk_ext [iblk1, idxb b]

theorem negatives_final : (dat1 V c).arrAt 2 cfg1.N
    = fun i : S16x1x24564.Idx => (outsAt1 V c (pt (i 0))).1 (ix3 (0 : Fin 1) (0 : Fin 1) (i 2 : Fin 24564)) := by
  refine (dat1 V c).arrAt_eq_of_covers 2 _ (by decide +kernel) fun t hf y => ?_
  have hp : pt (((cfg1.win 2).blk t).view.emb y 0) = t := Fin.ext (by
    show (((cfg1.win 2).blk t).view.emb y 0 : ℕ) = t.val
    blk_simp [idx t])
  have hy : (y : S1x1x24564.Idx) = ix3 (0 : Fin 1) (0 : Fin 1) (((cfg1.win 2).blk t).view.emb y 2) := by
    blk_ext [idx t]
  blk_simp
  rw [after1_2]
  exact (congrArg _ hy).trans (by rw [hp]; rfl)

theorem totals_final : (dat1 V c).arrAt 3 cfg1.N
    = fun i : S16x1x128.Idx => (outsAt1 V c (pt (i 0))).2 (ix3 (0 : Fin 1) (0 : Fin 1) (i 2 : Fin 128)) := by
  refine (dat1 V c).arrAt_eq_of_covers 3 _ (by decide +kernel) fun t hf y => ?_
  have hp : pt (((cfg1.win 3).blk t).view.emb y 0) = t := Fin.ext (by
    show (((cfg1.win 3).blk t).view.emb y 0 : ℕ) = t.val
    blk_simp [idx t])
  have hy : (y : S1x1x128.Idx) = ix3 (0 : Fin 1) (0 : Fin 1) (((cfg1.win 3).blk t).view.emb y 2) := by
    blk_ext [idx t]
  blk_simp
  rw [after1_3]
  exact (congrArg _ hy).trans (by rw [hp]; rfl)

theorem negatives_out (t : Fin cfg1.N) : (outsAt1 V c t).1 = k1_pay7 (grid1.coords t) (iblk1 V c 0 t) (iblk1 V c 1 t) := by
  unfold outsAt1
  dsimp only
  rw [EntropyRead.negatives_eq]

theorem totals_out (t : Fin cfg1.N) : (outsAt1 V c t).2
    = k1_pay2 (F := Ideal) (k1_pay5 (iblk1 V c 0 t)) (k1_pay6 (F := Ideal) (grid1.coords t) (iblk1 V c 1 t))
        (k1_pay8 (grid1.coords t) (iblk1 V c 0 t) (iblk1 V c 1 t)) (k1_pay1 (F := Ideal)) := by
  unfold outsAt1
  dsimp only
  rw [EntropyRead.totals_eq]

section Values

variable (r : Fin 16 → Fin 24564 → Fin 81 → ℝ) (lb : Fin 16 → Fin 24564 → BitVec 32)
  (e1 : ∀ b n k, (V c main_arg1 : Vec Ideal S16x24564x81 .f32) (ix3 b n k) = (r b n k : EReal))
  (e5 : ∀ b n, (V c main_v5_0 : Vec Ideal S16x1x24564 .i32) (ix3 b (0 : Fin 1) n) = lb b n)

include e1 e5

/-- The negative priors' losses. -/
theorem negatives_at (b : Fin 16) (n : Fin 24564) : ((dat1 V c).arrAt 2 cfg1.N : Vec Ideal S16x1x24564 .f32) (ix3 b (0 : Fin 1) n)
    = if lb b n = 0#32 then ((loss (r b n) 0#32 : ℝ) : EReal) else 0 := by
  refine (congrFun (negatives_final V c) (ix3 b (0 : Fin 1) n)).trans ?_
  refine (congrFun (negatives_out V c (pt b)) (ix3 (0 : Fin 1) (0 : Fin 1) n)).trans ?_
  exact EntropyRead.negatives_at (grid1.coords (pt b)) (iblk1 V c 0 (pt b)) (iblk1 V c 1 (pt b)) (r b) (lb b)
    (fun n k => (logits_at V c b n k).trans (e1 b n k)) (fun n => (classes_at V c b n).trans (e5 b n)) n

/-- The positive priors' losses, added up. -/
theorem total_at (hl : ∀ b n, (lb b n).toNat < 81) (b : Fin 16) : ((dat1 V c).arrAt 3 cfg1.N : Vec Ideal S16x1x128 .f32) (ix3 b (0 : Fin 1) (0 : Fin 128))
    = ((∑ n : Fin 24564, if lb b n = 0#32 then 0 else loss (r b n) (lb b n) : ℝ) : EReal) := by
  refine (congrFun (totals_final V c) (ix3 b (0 : Fin 1) (0 : Fin 128))).trans ?_
  refine (congrFun (totals_out V c (pt b)) (ix3 (0 : Fin 1) (0 : Fin 1) (0 : Fin 128))).trans ?_
  exact EntropyRead.total_at (grid1.coords (pt b)) (iblk1 V c 0 (pt b)) (iblk1 V c 1 (pt b)) (r b) (lb b)
    (fun n k => (logits_at V c b n k).trans (e1 b n k)) (fun n => (classes_at V c b n).trans (e5 b n)) (hl b)

end Values

end Cert.KernelIdeal.Region1

end
-- ==== Proof.Region2.lean ====
/- What the kernel's last call leaves in its array, from the arrays it finds. -/
module

public import proofs.«01_k».proof.Proof.Gen.KernelIdeal.Frame
public import Idealize.ShloMosaic.Lib.Pointwise
public import Idealize.ShloMosaic.Lib.Pipeline.ValueKit

@[expose] public section

noncomputable section

namespace Cert.KernelIdeal.Region2

open Idealize.ShloMosaic Idealize.SL Idealize.SL.Sem Cert.KernelIdeal Cert.KernelIdeal.Gen

variable (V : (c : Dev nD) → (b : Ref sig .tc) → Buf (Elt Ideal) ((c.tc : Thread nD τ).loc b)) (c : Dev nD)

theorem idx : ∀ t : Fin cfg2.N, win2_0.index t = ![0, 0] ∧ win2_1.index t = ![0, 0, 0] ∧ win2_2.index t = ![0, 0, 0] ∧ win2_3.index t = ![0, 0] :=
  (by decide +kernel : ∀ t : Fin grid2.N, _)

theorem losses_at (t : Fin cfg2.N) (b : Fin 16) (n : Fin 24564) :
    (iblk2 V c 0 t : Vec Ideal S16x24564 .f32) (ix2 b n) = (V c main_v7 : Vec Ideal S16x24564 .f32) (ix2 b n) := by
  blk_ext [iblk2, idx t]

theorem sums_at (t : Fin cfg2.N) (b : Fin 16) (l : Fin 128) :
    (iblk2 V c 1 t : Vec Ideal S16x1x128 .f32) (ix3 b (0 : Fin 1) l) = (V c main_v5_1 : Vec Ideal S16x1x128 .f32) (ix3 b (0 : Fin 1) l) := by
  blk_ext [iblk2, idx t]

theorem totals_at (t : Fin cfg2.N) (b : Fin 16) (l : Fin 128) :
    (iblk2 V c 2 t : Vec Ideal S16x1x128 .f32) (ix3 b (0 : Fin 1) l) = (V c main_v6_1 : Vec Ideal S16x1x128 .f32) (ix3 b (0 : Fin 1) l) := by
  blk_ext [iblk2, idx t]

/-- The one point of the grid. -/
def pt : Fin cfg2.N := ⟨0, by decide⟩

theorem final : (dat2 V c).arrAt 3 cfg2.N = out2_3 (iblk2 V c 0 pt) (iblk2 V c 1 pt) (iblk2 V c 2 pt) := by
  refine (dat2 V c).arrAt_eq_of_covers 3 _ (by decide +kernel) fun t hf y => ?_
  have ht : t = pt := (by decide : ∀ t : Fin grid2.N, t = ⟨0, by decide⟩) t
  have hy : (y : S8x128.Idx) = ((cfg2.win 3).blk t).view.emb y := by
    blk_ext [idx t]
  blk_simp
  rw [after2_3, ht]
  subst ht
  exact congrArg _ hy

end Cert.KernelIdeal.Region2

end
-- ==== Proof.RefSum.lean ====
/- The reference's losses, counts and ranked losses at a place, where the logits are finite and the classes in range. -/
module

public import proofs.«01_k».proof.Proof.Reads
public import proofs.«01_k».proof.Proof.Entropy
public import Idealize.ShloMosaic.Lib.SortFacts
public import Idealize.ShloMosaic.Lib.Pointwise

@[expose] public section

noncomputable section

namespace Cert.Stages

open Idealize.ShloMosaic Cert.Spec Cert.Entropy
open Cert.Pre_admissible Cert.Pre_admissible.Facts

section Folds

/-- A conjunction of bits holds of every one of them. -/
theorem fold_andi {ι : Type} [Fintype ι] (f : ι → BitVec 1) (h : Finset.univ.fold IntOp.andi 1#1 f = 1#1) (i : ι) : f i = 1#1 := by
  classical
  have hand : ∀ x y : BitVec 1, IntOp.andi x y = 1#1 → x = 1#1 ∧ y = 1#1 := by decide
  have : ∀ s : Finset ι, s.fold IntOp.andi 1#1 f = 1#1 → ∀ i ∈ s, f i = 1#1 := by
    intro s
    induction s using Finset.induction_on with
    | empty => intro _ i hi; exact absurd hi (Finset.notMem_empty i)
    | insert a t ha ih =>
      intro hs i hi
      rw [Finset.fold_insert ha] at hs
      obtain ⟨h1, h2⟩ := hand _ _ hs
      rcases Finset.mem_insert.1 hi with rfl | hi
      · exact h1
      · exact ih h2 i hi
  exact this Finset.univ h i (Finset.mem_univ i)

/-- Words added up are the word of the sum. -/
theorem fold_addi {ι : Type} [Fintype ι] (f : ι → BitVec 32) (g : ι → ℕ) (h : ∀ i, f i = BitVec.ofNat 32 (g i)) :
    Finset.univ.fold IntOp.addi 0#32 f = BitVec.ofNat 32 (∑ i, g i) := by
  classical
  have : ∀ s : Finset ι, s.fold IntOp.addi 0#32 f = BitVec.ofNat 32 (∑ i ∈ s, g i) := by
    intro s
    induction s using Finset.induction_on with
    | empty => rfl
    | insert a t ha ih =>
      rw [Finset.fold_insert ha, Finset.sum_insert ha, ih, h, BitVec.ofNat_add]
      rfl
  exact this Finset.univ

end Folds

/-- How many priors of an image are positive. -/
def positives (cl : IVec S16x24564 32) (b : Fin 16) : ℕ := ∑ n : Fin 24564, if cl (ix2 b n) = 0#32 then 0 else 1

theorem positives_le (cl : IVec S16x24564 32) (b : Fin 16) : positives cl b ≤ 24564 := by
  refine (Finset.sum_le_card_nsmul _ _ 1 fun n _ => by split <;> omega).trans ?_
  simp

/-- A negative prior's loss, 0 at a positive one. -/
def negative (r : Fin 16 → Fin 24564 → Fin 81 → ℝ) (cl : IVec S16x24564 32) (b : Fin 16) (n : Fin 24564) : ℝ :=
  if cl (ix2 b n) = 0#32 then loss (r b n) 0#32 else 0

theorem negative_nonneg (r : Fin 16 → Fin 24564 → Fin 81 → ℝ) (cl : IVec S16x24564 32) (b : Fin 16) (n : Fin 24564) : 0 ≤ negative r cl b n := by
  rw [negative]; split
  · exact loss_nonneg _ _
  · exact le_rfl

variable [Cert.Pre_admissible.Facts]

theorem positive_bit (cl : IVec S16x24564 32) (b : Fin 16) (n : Fin 24564) :
    positive cl (ix2 b n) = if cl (ix2 b n) = 0#32 then 0#1 else 1#1 := by
  pointwise [positive]
  by_cases h : cl (ix2 b n) = 0#32
  · rw [if_pos h, h]; rfl
  · rw [if_neg h]; simp [IntOp.cmpi, bne_iff_ne.2 h]

theorem counts_at (cl : IVec S16x24564 32) (b : Fin 16) : counts (positive cl) (ix1 b) = BitVec.ofNat 32 (positives cl b) := by
  have h : counts (positive cl) (ix1 b) = Finset.univ.fold IntOp.addi 0#32 fun n : Fin 24564 => BitVec.setWidth 32 (positive cl (ix2 b n)) := by
    pointwise [counts]
  rw [h]
  refine fold_addi _ _ fun n => ?_
  rw [positive_bit]
  split <;> rfl

section Losses

variable (a1 : FVec Ideal S16x24564x81 .f32) (r : Fin 16 → Fin 24564 → Fin 81 → ℝ) (hx : ∀ b n k, a1 (ix3 b n k) = (r b n k : EReal))
  (cl : IVec S16x24564 32) (hcl : ∀ b n, (cl (ix2 b n)).toNat < 81)

include hcl in
theorem taken_at (b : Fin 16) (n : Fin 24564) :
    fn_take_along_axis (F := Ideal) a1 (broadcastInDim S16x24564x1 ![0, 1] bcast_S16x24564_S16x24564x1_0_1 cl) (ix3 b n (0 : Fin 1))
      = a1 (ix3 b n (Fin.ofNat 81 (cl (ix2 b n)).toNat)) := by
  have hn : (cl (ix2 b n)).slt 0#32 = false := by
    rw [BitVec.slt, decide_eq_false_iff_not, BitVec.toInt_eq_toNat_of_lt (x := cl (ix2 b n)) (by have := hcl b n; omega)]
    show ¬ ((cl (ix2 b n)).toNat : ℤ) < 0
    omega
  rw [fn_take_along_axis]
  refine gather_logits a1 _ b n _ ?_
  pointwise []
  rw [show IntOp.cmpi CmpIPredicate.slt (cl (ix2 b n)) 0#32 = 0#1 from by simp [IntOp.cmpi, hn]]
  refine BitVec.eq_of_toNat_eq ?_
  show (cl (ix2 b n)).toNat = _
  rw [BitVec.toNat_ofNat, Fin.val_ofNat, Nat.mod_eq_of_lt (hcl b n), Nat.mod_eq_of_lt (by have := hcl b n; omega)]

include hx hcl

theorem losses_at (b : Fin 16) (n : Fin 24564) : losses (F := Ideal) a1 cl (ix2 b n) = ((loss (r b n) (cl (ix2 b n)) : ℝ) : EReal) := by
  have h : losses (F := Ideal) a1 cl (ix2 b n)
      = Ideal.log (∑ k : Fin 81, Ideal.exp (a1 (ix3 b n k) - Finset.univ.fold max (Ideal.ofBits FTy.f32 4286578688#32) fun k : Fin 81 => a1 (ix3 b n k)))
        + Finset.univ.fold max (Ideal.ofBits FTy.f32 4286578688#32) (fun k : Fin 81 => a1 (ix3 b n k))
        - fn_take_along_axis (F := Ideal) a1 (broadcastInDim S16x24564x1 ![0, 1] bcast_S16x24564_S16x24564x1_0_1 cl) (ix3 b n (0 : Fin 1)) := by
    pointwise [losses]
  rw [h, taken_at a1 cl hcl, ofBits_bot, fold_max_eq]
  simp only [hx]
  rw [log_sum, ← EReal.coe_add, ← EReal.coe_sub, loss]
  have hr : ∀ p q t : ℝ, p - q + q - t = p - t := fun p q t => by ring
  rw [hr]

end Losses

section Order

/-- A list sorted the least first has no later entry below an earlier one. -/
theorem sorted_le {m : ℕ} (y : Fin m → EReal) (i j : Fin m) (hij : i < j) :
    ¬ y (sortedFrom (fun k k' => decide (y k < y k')) j) < y (sortedFrom (fun k k' => decide (y k < y k')) i) :=
  of_decide_eq_false (sortedFrom_noInversion (fun k k' => decide (y k < y k')) (fun k k' => decide (y k < y k'))
    (fun _ _ h => decide_eq_false (not_lt.2 (le_of_lt (of_decide_eq_true h)))) (fun _ _ h => h)
    (fun _ _ _ h1 h2 => decide_eq_false (not_lt.2 ((not_lt.1 (of_decide_eq_false h2)).trans (not_lt.1 (of_decide_eq_false h1))))) i j hij)

theorem before_eq (l r : EReal) : (comparator_f32_d1 (F := Ideal) l r == 1#1) = decide (l < r) := by
  have hz : ∀ x y : EReal, Scalar.select (Ideal.cmp .une x x) y (Scalar.select (Ideal.cmp .oeq x (Ideal.ofBits .f32 0x00000000#32)) (Ideal.ofBits .f32 0x00000000#32) x) = x := by
    intro x y
    have h1 : Ideal.cmp .une x x = 0#1 := by simp [Ideal.cmp]
    rw [h1]
    by_cases h0 : x = Ideal.ofBits .f32 0x00000000#32
    · rw [← h0]
      show Scalar.select _ x x = x
      unfold Scalar.select
      split <;> rfl
    · have h2 : Ideal.cmp .oeq x (Ideal.ofBits .f32 0x00000000#32) = 0#1 := by
        unfold Ideal.cmp; simp only [h0, decide_false]; rfl
      rw [h2]; rfl
  have e : comparator_f32_d1 (F := Ideal) l r
      = Ideal.cmp .olt (Scalar.select (Ideal.cmp .une l l) (Ideal.ofBits .f32 0x7FC00000#32) (Scalar.select (Ideal.cmp .oeq l (Ideal.ofBits .f32 0x00000000#32)) (Ideal.ofBits .f32 0x00000000#32) l))
          (Scalar.select (Ideal.cmp .une r r) (Ideal.ofBits .f32 0x7FC00000#32) (Scalar.select (Ideal.cmp .oeq r (Ideal.ofBits .f32 0x00000000#32)) (Ideal.ofBits .f32 0x00000000#32) r)) := rfl
  rw [e, hz, hz]
  by_cases h : l < r
  · simp [Ideal.cmp, h]
  · simp [Ideal.cmp, h]

/-- A list sorted the least first is the list taken in another order. -/
theorem exists_order {m : ℕ} (y z : Fin m → EReal)
    (h : ∀ n, z n = y (sortedFrom (fun k k' => decide (y k < y k')) n)) :
    ∃ σ : Fin m ≃ Fin m, (∀ n, z n = y (σ n)) ∧ ∀ i j, i < j → ¬ y (σ j) < y (σ i) :=
  ⟨Equiv.ofBijective _ ⟨sortedFrom_injective _, sortedFrom_surjective _⟩, h, fun i j hij => sorted_le y i j hij⟩

theorem sort_at (x : FVec Ideal S16x24564 .f32) (b : Fin 16) :
    ∃ σ : Fin 24564 ≃ Fin 24564, (∀ n, fn_sort (F := Ideal) x (ix2 b n) = x (ix2 b (σ n))) ∧ ∀ i j, i < j → ¬ x (ix2 b (σ j)) < x (ix2 b (σ i)) := by
  refine exists_order (fun k => x (ix2 b k)) (fun n => fn_sort (F := Ideal) x (ix2 b n)) fun n => ?_
  have ha : ∀ k : Fin 24564, (ix2 b n : S16x24564.Idx).along (1 : Fin 2) k = ix2 b k := by
    intro k
    funext a
    match a with
    | ⟨0, _⟩ => rfl
    | ⟨1, _⟩ => rfl
  have key : ∀ g : Fin 24564 → S16x24564.Idx, (∀ k, g k = ix2 b k) →
      x (g (sortedFrom (fun k k' => comparator_f32_d1 (F := Ideal) (x (g k)) (x (g k')) == 1#1) n))
        = x (ix2 b (sortedFrom (fun k k' => decide (x (ix2 b k) < x (ix2 b k'))) n)) := by
    intro g hg
    obtain rfl : g = fun k => ix2 b k := funext hg
    simp only [before_eq]
  exact key (fun k => (ix2 b n : S16x24564.Idx).along (1 : Fin 2) k) ha

end Order

section Ranked

variable (a1 : FVec Ideal S16x24564x81 .f32) (r : Fin 16 → Fin 24564 → Fin 81 → ℝ) (hx : ∀ b n k, a1 (ix3 b n k) = (r b n k : EReal))
  (cl : IVec S16x24564 32) (hcl : ∀ b n, (cl (ix2 b n)).toNat < 81)

include hx hcl

/-- The ranked losses are the negative priors' losses, the greatest first. -/
theorem rank_at (b : Fin 16) : ∃ (s : Fin 24564 → ℝ) (σ : Fin 24564 ≃ Fin 24564), Antitone s ∧ (∀ i, s i = negative r cl b (σ i))
    ∧ ∀ n, rank (F := Ideal) a1 cl (ix2 b n) = (s n : EReal) := by
  let y : FVec Ideal S16x24564 .f32 := Host.negf (fn_where_1 (F := Ideal) (positive cl) (constant S_ .f32 0x00000000#32) (losses (F := Ideal) a1 cl))
  have hy : ∀ n, y (ix2 b n) = ((-(negative r cl b n) : ℝ) : EReal) := by
    intro n
    have e : y (ix2 b n) = -(Scalar.select (positive cl (ix2 b n)) (0 : EReal) (losses (F := Ideal) a1 cl (ix2 b n))) := by
      show (Host.negf _ : FVec Ideal S16x24564 .f32) (ix2 b n) = _
      pointwise [fn_where_1]
      rw [id_eq]
      pointwise []
    rw [e, positive_bit, losses_at a1 r hx cl hcl, EReal.coe_neg, negative]
    by_cases h : cl (ix2 b n) = 0#32
    · rw [if_pos h, if_pos h, h]; rfl
    · rw [if_neg h, if_neg h]; rfl
  obtain ⟨σ, h1, h2⟩ := sort_at y b
  refine ⟨fun i => negative r cl b (σ i), σ, fun i j hij => ?_, fun _ => rfl, fun n => ?_⟩
  · rcases hij.lt_or_eq with h | rfl
    · have := h2 i j h
      rw [hy, hy, EReal.coe_lt_coe_iff] at this
      show negative r cl b (σ j) ≤ negative r cl b (σ i)
      linarith
    · exact le_rfl
  · have e : rank (F := Ideal) a1 cl (ix2 b n) = -(fn_sort (F := Ideal) y (ix2 b n)) := rfl
    rw [e, h1, hy, ← EReal.coe_neg, neg_neg]

end Ranked

end Cert.Stages

end
-- ==== Proof.Answer.lean ====
/- The loss the reference and the kernel both come to, and that the reference comes to it. -/
module

public import proofs.«01_k».proof.Proof.RefSum
public import proofs.«01_k».proof.Proof.RefValue
public import proofs.«01_k».proof.Proof.Select

@[expose] public section

noncomputable section

namespace Cert.Stages

open Idealize.ShloMosaic Cert.Spec Cert.Entropy Cert.Select
open Cert.Pre_admissible Cert.Pre_admissible.Facts

/-- How many losses are taken in an image. -/
def taken (cl : IVec S16x24564 32) (b : Fin 16) : ℕ := min (3 * positives cl b) 24564

/-- The losses taken, added up. -/
def hard (s : Fin 16 → Fin 24564 → ℝ) (cl : IVec S16x24564 32) (b : Fin 16) : EReal :=
  ((∑ i : Fin 24564, if i.val < taken cl b then s b i else 0 : ℝ) : EReal)

/-- The positive priors' losses, added up. -/
def conf (r : Fin 16 → Fin 24564 → Fin 81 → ℝ) (cl : IVec S16x24564 32) (b : Fin 16) : EReal :=
  ((∑ n : Fin 24564, if cl (ix2 b n) = 0#32 then 0 else loss (r b n) (cl (ix2 b n)) : ℝ) : EReal)

/-- The positive priors' distances between offsets, added up. -/
def dist (a0 locs : FVec Ideal S16x24564x4 .f32) (cl : IVec S16x24564 32) (b : Fin 16) : EReal :=
  ∑ c : Fin 4, ∑ n : Fin 24564, if cl (ix2 b n) = 0#32 then (0 : EReal)
    else max (a0 (ix3 b n c) - locs (ix3 b n c)) (-(a0 (ix3 b n c) - locs (ix3 b n c)))

/-- How many positive priors there are. -/
def total (cl : IVec S16x24564 32) : EReal := ∑ b : Fin 16, ((positives cl b : ℝ) : EReal)

/-- The loss. -/
def answer (a0 locs : FVec Ideal S16x24564x4 .f32) (r : Fin 16 → Fin 24564 → Fin 81 → ℝ) (s : Fin 16 → Fin 24564 → ℝ) (cl : IVec S16x24564 32) : EReal :=
  Ideal.div (∑ b : Fin 16, hard s cl b + ∑ b : Fin 16, conf r cl b) (total cl)
    + Ideal.div (∑ b : Fin 16, dist a0 locs cl b) (total cl * Ideal.ofBits .f32 1082130432#32)

variable [Cert.Pre_admissible.Facts]

open Cert.ReferenceIdeal.Run

theorem uitofp_one : (FloatOps.uitofp (F := Ideal) .f32 (1#1) : EReal) = 1 := by
  show (((1#1).toNat : ℝ) : EReal) = 1
  simp

theorem uitofp_zero : (FloatOps.uitofp (F := Ideal) .f32 (0#1) : EReal) = 0 := by
  show (((0#1).toNat : ℝ) : EReal) = 0
  simp

theorem total_eq (cl : IVec S16x24564 32) : posTotal (F := Ideal) (counts (positive cl)) ix0 = total cl := by
  have hr : posTotal (F := Ideal) (counts (positive cl)) ix0
      = (((Finset.univ.fold IntOp.addi 0#32 fun b : Fin 16 => counts (positive cl) (ix1 b)).toInt : ℝ) : EReal) := by
    generalize counts (positive cl) = q
    pointwise [posTotal]
    rfl
  have hle : ∑ b : Fin 16, positives cl b ≤ 16 * 24564 := by
    refine (Finset.sum_le_card_nsmul _ _ 24564 fun b _ => positives_le cl b).trans ?_
    simp
  rw [hr, fold_addi _ (fun b : Fin 16 => positives cl b) (counts_at cl), toInt_small (by omega), total, ← coe_sum, Int.cast_natCast, Nat.cast_sum]

section Parts

variable (a1 : FVec Ideal S16x24564x81 .f32) (r : Fin 16 → Fin 24564 → Fin 81 → ℝ) (hx : ∀ b n k, a1 (ix3 b n k) = (r b n k : EReal))
  (cl : IVec S16x24564 32) (hcl : ∀ b n, (cl (ix2 b n)).toNat < 81)

include hx hcl in
theorem conf_eq : posLoss (F := Ideal) (losses (F := Ideal) a1 cl) (positive cl) ix0 = ∑ b : Fin 16, conf r cl b := by
  have hr : posLoss (F := Ideal) (losses (F := Ideal) a1 cl) (positive cl) ix0
      = ∑ b : Fin 16, ∑ n : Fin 24564, losses (F := Ideal) a1 cl (ix2 b n) * FloatOps.uitofp (F := Ideal) .f32 (positive cl (ix2 b n)) := by
    generalize losses (F := Ideal) a1 cl = l
    generalize positive cl = p
    pointwise [posLoss]
  rw [hr]
  refine Finset.sum_congr rfl fun b _ => ?_
  rw [conf, coe_sum]
  refine Finset.sum_congr rfl fun n _ => ?_
  rw [losses_at a1 r hx cl hcl, positive_bit]
  by_cases h : cl (ix2 b n) = 0#32
  · rw [if_pos h, if_pos h, uitofp_zero, mul_zero]; rfl
  · rw [if_neg h, if_neg h, uitofp_one, mul_one]

theorem hard_eq (s : Fin 16 → Fin 24564 → ℝ) (hs : ∀ b n, rank (F := Ideal) a1 cl (ix2 b n) = (s b n : EReal)) :
    hardLoss (F := Ideal) (rank (F := Ideal) a1 cl) (counts (positive cl)) ix0 = ∑ b : Fin 16, hard s cl b := by
  have hr : hardLoss (F := Ideal) (rank (F := Ideal) a1 cl) (counts (positive cl)) ix0
      = ∑ b : Fin 16, ∑ n : Fin 24564, rank (F := Ideal) a1 cl (ix2 b n)
          * FloatOps.uitofp (F := Ideal) .f32 (IntOp.cmpi .slt (BitVec.ofNat 32 n.val) (IntOp.muli 3#32 (counts (positive cl) (ix1 b)))) := by
    generalize rank (F := Ideal) a1 cl = l
    generalize counts (positive cl) = p
    pointwise [hardLoss]
  rw [hr]
  refine Finset.sum_congr rfl fun b _ => ?_
  rw [hard, coe_sum]
  refine Finset.sum_congr rfl fun n _ => ?_
  have hle := positives_le cl b
  have hn := n.isLt
  have hlt : (BitVec.ofNat 32 n.val).slt (BitVec.ofNat 32 (3 * positives cl b)) = decide (n.val < taken cl b) := by
    rw [BitVec.slt, toInt_small (a := n.val) (by omega), toInt_small (a := 3 * positives cl b) (by omega), taken]
    refine decide_eq_decide.2 ?_
    omega
  rw [hs, counts_at, show IntOp.muli 3#32 (BitVec.ofNat 32 (positives cl b)) = BitVec.ofNat 32 (3 * positives cl b) from (BitVec.ofNat_mul ..).symm,
    show IntOp.cmpi .slt (BitVec.ofNat 32 n.val) (BitVec.ofNat 32 (3 * positives cl b)) = BitVec.ofBool ((BitVec.ofNat 32 n.val).slt (BitVec.ofNat 32 (3 * positives cl b))) from rfl, hlt]
  by_cases h : n.val < taken cl b
  · rw [if_pos h, decide_eq_true h, show BitVec.ofBool true = 1#1 from rfl, uitofp_one, mul_one]
  · rw [if_neg h, decide_eq_false h, show BitVec.ofBool false = 0#1 from rfl, uitofp_zero, mul_zero]; rfl

theorem dist_eq (a0 locs : FVec Ideal S16x24564x4 .f32) (t : FVec Ideal S_ .f32) :
    locLoss (F := Ideal) a0 locs (positive cl) t ix0 = Ideal.div (∑ b : Fin 16, dist a0 locs cl b) (t ix0 * Ideal.ofBits .f32 1082130432#32) := by
  have hr : locLoss (F := Ideal) a0 locs (positive cl) t ix0
      = Ideal.div (∑ b : Fin 16, ∑ n : Fin 24564, ∑ c : Fin 4, FloatOps.absf (F := Ideal) (a0 (ix3 b n c) - locs (ix3 b n c)) * FloatOps.uitofp (F := Ideal) .f32 (positive cl (ix2 b n)))
          (t ix0 * Ideal.ofBits .f32 1082130432#32) := by
    generalize positive cl = p
    pointwise [locLoss]
  rw [hr]
  refine congrArg (fun z => Ideal.div z (t ix0 * Ideal.ofBits .f32 1082130432#32)) ?_
  refine Finset.sum_congr rfl fun b _ => ?_
  rw [dist, Finset.sum_comm]
  refine Finset.sum_congr rfl fun c _ => Finset.sum_congr rfl fun n _ => ?_
  rw [positive_bit]
  by_cases h : cl (ix2 b n) = 0#32
  · rw [if_pos h, if_pos h, uitofp_zero, mul_zero]
  · rw [if_neg h, if_neg h, uitofp_one, mul_one]; rfl

include hx hcl in
/-- The reference's result. -/
theorem result_eq (a0 locs : FVec Ideal S16x24564x4 .f32) (s : Fin 16 → Fin 24564 → ℝ) (hs : ∀ b n, rank (F := Ideal) a1 cl (ix2 b n) = (s b n : EReal)) :
    result (F := Ideal) a0 a1 locs cl ix0 = answer a0 locs r s cl := by
  have hr : result (F := Ideal) a0 a1 locs cl ix0
      = Ideal.div (hardLoss (F := Ideal) (rank (F := Ideal) a1 cl) (counts (positive cl)) ix0 + posLoss (F := Ideal) (losses (F := Ideal) a1 cl) (positive cl) ix0)
          (posTotal (F := Ideal) (counts (positive cl)) ix0)
        + Ideal.ofBits .f32 0x3F800000#32 * locLoss (F := Ideal) a0 locs (positive cl) (posTotal (F := Ideal) (counts (positive cl))) ix0 := rfl
  have h1 : Ideal.ofBits .f32 0x3F800000#32 = 1 := by
    rw [ofBits_num _ (by decide), show (0x3F800000#32).toNat = 0x3F800000 from rfl]
    norm_num [num]
  rw [hr, hard_eq a1 cl s hs, conf_eq a1 r hx cl hcl, total_eq, dist_eq, total_eq, h1, one_mul, answer]

end Parts

end Cert.Stages

end
-- ==== Proof.Reduce.lean ====
/- The kernel's last call: its bit search as the search of `Select`, and its result from the three blocks it reads. -/
module

public import proofs.«01_k».proof.Proof.Gen.KernelIdeal.Frame
public import proofs.«01_k».proof.Proof.Select
public import Idealize.ShloMosaic.Lib.Pointwise

@[expose] public section

noncomputable section

namespace Cert.KernelIdeal.Red

open Idealize.ShloMosaic Cert.KernelIdeal Cert.KernelIdeal.Gen Cert.Select

section Chunks

variable {F : FTy → Type} [FloatOps F]

/-- The word tried at the bit of `w`. -/
def cand (w : BitVec 32) (p : IVec S16x1 32) : IVec S16x1 32 := ori p (broadcast S16x1 w)

/-- The number of a tried word, against which losses are compared. -/
def bound (p : IVec S16x1 32) : FVec F S16x1 .f32 := bitcastToFloat .f32 p

/-- Which losses are at least the number of a word. -/
def atLeast (v : FVec F S16x24564 .f32) (p : IVec S16x1 32) : IVec S16x24564 1 :=
  cmpf .oge v (broadcastTo S16x24564 (bound (F := F) p) broadcasts_S16x1_S16x24564)

/-- One for each of those, zero for the rest. -/
def marks (v : FVec F S16x24564 .f32) (p : IVec S16x1 32) : FVec F S16x24564 .f32 :=
  select (atLeast v p) (broadcast S16x24564 (Scalar.ofBits .f32 0x3F800000#32)) (broadcast S16x24564 (Scalar.ofBits .f32 0x00000000#32))

/-- Whether at least `k` losses are. -/
def enough (v : FVec F S16x24564 .f32) (k : FVec F S16x1 .f32) (p : IVec S16x1 32) : IVec S16x1 1 :=
  cmpf .oge (shapeCast S16x1 (multiReduction .add [1] S16 (marks v p) 0x00000000#32 reduces_S16x24564_S16 (.inl rfl) rfl) shapeCasts_S16_S16x1) k

/-- The word kept after the bit of `w`. -/
def keepV (v : FVec F S16x24564 .f32) (k : FVec F S16x1 .f32) (w : BitVec 32) (p : IVec S16x1 32) : IVec S16x1 32 :=
  select (enough v k (cand w p)) (cand w p) p

variable (v : FVec F S16x24564 .f32) (k : FVec F S16x1 .f32) (p : IVec S16x1 32)

theorem chunk1 (v0 : Vec F S16x24564 .f32) (v2 : Vec F S16x1x1 .f32) :
    k2_pay7 v0 v2 = keepV (k2_pay2 v0) (k2_pay6 v2) 536870912#32 (keepV (k2_pay2 v0) (k2_pay6 v2) 1073741824#32 (broadcast S16x1 0#32)) := rfl

theorem chunk2 : k2_pay8 v k p = keepV v k 67108864#32 (keepV v k 134217728#32 (keepV v k 268435456#32 p)) := rfl
theorem chunk2c : k2_pay9 v k p = cand 33554432#32 (k2_pay8 v k p) := rfl
theorem chunk2m : k2_pay10 v k p = marks v (k2_pay9 v k p) := rfl
theorem chunk3 : k2_pay11 v k p (cand 33554432#32 p) (marks v (cand 33554432#32 p))
    = keepV v k 4194304#32 (keepV v k 8388608#32 (keepV v k 16777216#32 (keepV v k 33554432#32 p))) := rfl
theorem chunk3c (a b : IVec S16x1 32) (m : FVec F S16x24564 .f32) : k2_pay12 v k a b m = cand 2097152#32 (k2_pay11 v k a b m) := rfl
theorem chunk3m (a b : IVec S16x1 32) (m : FVec F S16x24564 .f32) : k2_pay13 v k a b m = atLeast v (k2_pay12 v k a b m) := rfl
theorem chunk4 : k2_pay14 v k p (cand 2097152#32 p) (atLeast v (cand 2097152#32 p)) (Scalar.ofBits .f32 0x3F800000#32) (Scalar.ofBits .f32 0x00000000#32)
    = keepV v k 262144#32 (keepV v k 524288#32 (keepV v k 1048576#32 (keepV v k 2097152#32 p))) := rfl
theorem chunk4c (a b : IVec S16x1 32) (m : IVec S16x24564 1) (x y : F .f32) : k2_pay15 v k a b m x y = cand 131072#32 (k2_pay14 v k a b m x y) := rfl
theorem chunk4m (a b : IVec S16x1 32) (m : IVec S16x24564 1) (x y : F .f32) : k2_pay16 v k a b m x y = bound (k2_pay15 v k a b m x y) := rfl
theorem chunk5 : k2_pay17 v k p (cand 131072#32 p) (bound (cand 131072#32 p))
    = keepV v k 16384#32 (keepV v k 32768#32 (keepV v k 65536#32 (keepV v k 131072#32 p))) := rfl
theorem chunk6 : k2_pay18 v k p = keepV v k 2048#32 (keepV v k 4096#32 (keepV v k 8192#32 p)) := rfl
theorem chunk6c : k2_pay19 v k p = cand 1024#32 (k2_pay18 v k p) := rfl
theorem chunk6m : k2_pay20 v k p = marks v (k2_pay19 v k p) := rfl
theorem chunk7 : k2_pay21 v k p (cand 1024#32 p) (marks v (cand 1024#32 p))
    = keepV v k 128#32 (keepV v k 256#32 (keepV v k 512#32 (keepV v k 1024#32 p))) := rfl
theorem chunk7c (a b : IVec S16x1 32) (m : FVec F S16x24564 .f32) : k2_pay22 v k a b m = cand 64#32 (k2_pay21 v k a b m) := rfl
theorem chunk7m (a b : IVec S16x1 32) (m : FVec F S16x24564 .f32) : k2_pay23 v k a b m = atLeast v (k2_pay22 v k a b m) := rfl
theorem chunk8 : k2_pay24 v k p (cand 64#32 p) (atLeast v (cand 64#32 p)) (Scalar.ofBits .f32 0x3F800000#32) (Scalar.ofBits .f32 0x00000000#32)
    = keepV v k 8#32 (keepV v k 16#32 (keepV v k 32#32 (keepV v k 64#32 p))) := rfl
theorem chunk8c (a b : IVec S16x1 32) (m : IVec S16x24564 1) (x y : F .f32) : k2_pay25 v k a b m x y = cand 4#32 (k2_pay24 v k a b m x y) := rfl
theorem chunk8m (a b : IVec S16x1 32) (m : IVec S16x24564 1) (x y : F .f32) : k2_pay26 v k a b m x y = bound (k2_pay25 v k a b m x y) := rfl
theorem chunk9 : k2_pay27 v k p (cand 4#32 p) (bound (cand 4#32 p))
    = bound (keepV v k 1#32 (keepV v k 2#32 (keepV v k 4#32 p))) := rfl

/-- The losses above a number. -/
def above (t : FVec F S16x1 .f32) : IVec S16x24564 1 := cmpf .ogt v (broadcastTo S16x24564 t broadcasts_S16x1_S16x24564)

/-- How many losses are above a number. -/
def countAbove (t : FVec F S16x1 .f32) : FVec F S16x1 .f32 :=
  shapeCast S16x1 (multiReduction .add [1] S16 (select (above v t) (broadcast S16x24564 (Scalar.ofBits .f32 0x3F800000#32)) (broadcast S16x24564 (Scalar.ofBits .f32 0x00000000#32)))
    0x00000000#32 reduces_S16x24564_S16 (.inl rfl) rfl) shapeCasts_S16_S16x1

/-- The sum of those. -/
def sumAbove (t : FVec F S16x1 .f32) : FVec F S16 .f32 :=
  multiReduction .add [1] S16 (select (above v t) v (broadcast S16x24564 (Scalar.ofBits .f32 0x00000000#32))) 0x00000000#32 reduces_S16x24564_S16 (.inl rfl) rfl

theorem count_eq (a b : IVec S16x1 32) (x : FVec F S16x1 .f32) : k2_pay29 v k a b x = countAbove v (k2_pay27 v k a b x) := rfl
theorem sum_eq (a b : IVec S16x1 32) (x : FVec F S16x1 .f32) : k2_pay30 v k a b x = sumAbove v (k2_pay27 v k a b x) := rfl

/-- The word found. -/
def found : IVec S16x1 32 :=
  keepV v k 1#32 (keepV v k 2#32 (keepV v k 4#32 (keepV v k 8#32 (keepV v k 16#32 (keepV v k 32#32 (keepV v k 64#32 (keepV v k 128#32
  (keepV v k 256#32 (keepV v k 512#32 (keepV v k 1024#32 (keepV v k 2048#32 (keepV v k 4096#32 (keepV v k 8192#32 (keepV v k 16384#32
  (keepV v k 32768#32 (keepV v k 65536#32 (keepV v k 131072#32 (keepV v k 262144#32 (keepV v k 524288#32 (keepV v k 1048576#32
  (keepV v k 2097152#32 (keepV v k 4194304#32 (keepV v k 8388608#32 (keepV v k 16777216#32 (keepV v k 33554432#32 (keepV v k 67108864#32
  (keepV v k 134217728#32 (keepV v k 268435456#32 (keepV v k 536870912#32 (keepV v k 1073741824#32 (broadcast S16x1 0#32)
  ))))))))))))))))))))))))))))))

variable (x0 : Vec F S16x24564 .f32) (x1 x2 : Vec F S16x1x128 .f32)

theorem last_eq : k2_pay27 (k2_pay31 x0 x1 x2) (k2_pay32 x0 x1 x2) (k2_pay47 x0 x1 x2) (k2_pay48 x0 x1 x2) (k2_pay49 x0 x1 x2)
    = bound (found (k2_pay31 x0 x1 x2) (k2_pay32 x0 x1 x2)) := by
  have e33 : k2_pay33 x0 x1 x2 = keepV (k2_pay31 x0 x1 x2) (k2_pay32 x0 x1 x2) 536870912#32
      (keepV (k2_pay31 x0 x1 x2) (k2_pay32 x0 x1 x2) 1073741824#32 (broadcast S16x1 0#32)) := chunk1 _ _
  rw [k2_pay49, k2_pay48, k2_pay47, chunk8m, chunk8c, k2_pay46, k2_pay45, chunk7m, chunk7c, ← k2_pay44, chunk8, chunk9, k2_pay44, k2_pay43, k2_pay42,
    chunk6m, chunk6c, ← k2_pay41, chunk7, k2_pay41, chunk6, k2_pay40, chunk4m, chunk4c, k2_pay39, k2_pay38, chunk3m, chunk3c, ← k2_pay37, chunk4, chunk5,
    k2_pay37, k2_pay36, k2_pay35, chunk2m, chunk2c, ← k2_pay34, chunk3, k2_pay34, chunk2, e33]
  rfl

theorem out_eq : out2_3 x0 x1 x2 = View.canon [⟨r2_3, k2_pay1 (k2_pay3 (View.ld x1 r2_1)) (k2_pay4 (View.ld x1 r2_2)) (k2_pay5 (View.ld x2 r2_1)) (k2_pay32 x0 x1 x2)
    (bound (found (k2_pay31 x0 x1 x2) (k2_pay32 x0 x1 x2)))
    (countAbove (k2_pay31 x0 x1 x2) (bound (found (k2_pay31 x0 x1 x2) (k2_pay32 x0 x1 x2))))
    (sumAbove (k2_pay31 x0 x1 x2) (bound (found (k2_pay31 x0 x1 x2) (k2_pay32 x0 x1 x2))))⟩] := by
  rw [out2_3, count_eq, sum_eq, last_eq]

end Chunks

section Reads

variable (v : FVec Ideal S16x24564 .f32) (k : FVec Ideal S16x1 .f32) (p : IVec S16x1 32)

/-- Whether at least `k` losses of image `b` are at least the number of a word. -/
def Keep (b : Fin 16) (c : BitVec 32) : Prop :=
  k (ix2 b (0 : Fin 1)) ≤ ∑ n : Fin 24564, if Ideal.ofBits FTy.f32 c ≤ v (ix2 b n) then (1 : EReal) else 0

instance (b : Fin 16) : DecidablePred (Keep v k b) := fun _ => Classical.propDecidable _

theorem keepV_at (w : BitVec 32) (b : Fin 16) (j : ℕ) (hw : w = BitVec.ofNat 32 (2 ^ j)) :
    keepV (F := Ideal) v k w p (ix2 b (0 : Fin 1)) = step (Keep v k b) j (p (ix2 b (0 : Fin 1))) := by
  pointwise [keepV, enough, marks, atLeast, cand, bound]
  rw [step, hw]
  by_cases h : Keep v k b (p (ix2 b (0 : Fin 1)) ||| BitVec.ofNat 32 (2 ^ j))
  · rw [if_pos h]
    exact if_pos h
  · rw [if_neg h]
    exact if_neg h

theorem found_at (b : Fin 16) : found (F := Ideal) v k (ix2 b (0 : Fin 1)) = search (Keep v k b) 31 0#32 := by
  rw [found, keepV_at v k _ 1#32 b 0 rfl, keepV_at v k _ 2#32 b 1 rfl, keepV_at v k _ 4#32 b 2 rfl, keepV_at v k _ 8#32 b 3 rfl, keepV_at v k _ 16#32 b 4 rfl, keepV_at v k _ 32#32 b 5 rfl, keepV_at v k _ 64#32 b 6 rfl, keepV_at v k _ 128#32 b 7 rfl, keepV_at v k _ 256#32 b 8 rfl, keepV_at v k _ 512#32 b 9 rfl, keepV_at v k _ 1024#32 b 10 rfl, keepV_at v k _ 2048#32 b 11 rfl, keepV_at v k _ 4096#32 b 12 rfl, keepV_at v k _ 8192#32 b 13 rfl, keepV_at v k _ 16384#32 b 14 rfl, keepV_at v k _ 32768#32 b 15 rfl, keepV_at v k _ 65536#32 b 16 rfl, keepV_at v k _ 131072#32 b 17 rfl, keepV_at v k _ 262144#32 b 18 rfl, keepV_at v k _ 524288#32 b 19 rfl, keepV_at v k _ 1048576#32 b 20 rfl, keepV_at v k _ 2097152#32 b 21 rfl, keepV_at v k _ 4194304#32 b 22 rfl, keepV_at v k _ 8388608#32 b 23 rfl, keepV_at v k _ 16777216#32 b 24 rfl, keepV_at v k _ 33554432#32 b 25 rfl, keepV_at v k _ 67108864#32 b 26 rfl, keepV_at v k _ 134217728#32 b 27 rfl, keepV_at v k _ 268435456#32 b 28 rfl, keepV_at v k _ 536870912#32 b 29 rfl, keepV_at v k _ 1073741824#32 b 30 rfl]
  rfl

theorem count_at (t : FVec Ideal S16x1 .f32) (b : Fin 16) : countAbove (F := Ideal) v t (ix2 b (0 : Fin 1))
    = ∑ n : Fin 24564, if t (ix2 b (0 : Fin 1)) < v (ix2 b n) then (1 : EReal) else 0 := by
  pointwise [countAbove, above]

theorem sum_at (t : FVec Ideal S16x1 .f32) (b : Fin 16) : sumAbove (F := Ideal) v t (ix1 b)
    = ∑ n : Fin 24564, if t (ix2 b (0 : Fin 1)) < v (ix2 b n) then v (ix2 b n) else (0 : EReal) := by
  pointwise [sumAbove, above]

theorem final_at (v3 v5 v7 v11 v385 v392 : FVec Ideal S16x1 .f32) (v395 : FVec Ideal S16 .f32) :
    k2_pay1 (F := Ideal) v3 v5 v7 v11 v385 v392 v395 (ix2 (0 : Fin 8) (0 : Fin 128))
    = Ideal.div (∑ b : Fin 16, (v395 (ix1 b) + (v11 (ix2 b 0) - v392 (ix2 b 0)) * v385 (ix2 b 0)) + ∑ b : Fin 16, v7 (ix2 b 0)) (∑ b : Fin 16, v3 (ix2 b 0))
      + Ideal.div (∑ b : Fin 16, v5 (ix2 b 0)) ((∑ b : Fin 16, v3 (ix2 b 0)) * Ideal.ofBits FTy.f32 1082130432#32) := by
  pointwise [k2_pay1]
  simp only [Finset.univ_unique, Finset.sum_singleton]

variable (x0 : Vec Ideal S16x24564 .f32) (x1 x2 : Vec Ideal S16x1x128 .f32)

theorem v_at (b : Fin 16) (n : Fin 24564) : k2_pay31 (F := Ideal) x0 x1 x2 (ix2 b n) = x0 (ix2 b n) := by
  pointwise [k2_pay31, k2_pay2]

theorem k_at (b : Fin 16) : k2_pay32 (F := Ideal) x0 x1 x2 (ix2 b (0 : Fin 1))
    = min (x1 (ix3 b 0 0) * Ideal.ofBits FTy.f32 1077936128#32) (Ideal.ofBits FTy.f32 1186981888#32) := by
  pointwise [k2_pay32, k2_pay6, k2_pay3]

theorem positives_at (b : Fin 16) : k2_pay3 (F := Ideal) (View.ld x1 r2_1) (ix2 b (0 : Fin 1)) = x1 (ix3 b 0 0) := by
  pointwise [k2_pay3]

theorem distance_at (b : Fin 16) : k2_pay4 (F := Ideal) (View.ld x1 r2_2) (ix2 b (0 : Fin 1)) = x1 (ix3 b 0 1) := by
  pointwise [k2_pay4]

theorem entropy_at (b : Fin 16) : k2_pay5 (F := Ideal) (View.ld x2 r2_1) (ix2 b (0 : Fin 1)) = x2 (ix3 b 0 0) := by
  pointwise [k2_pay5]

end Reads

section Top

/-- The search ends at the `K`-th greatest loss rounded down. -/
theorem search_top {N : ℕ} (v s : Fin N → ℝ) (hs : Antitone s) (σ : Fin N ≃ Fin N) (hσ : ∀ i, s i = v (σ i)) (K : ℕ) (hK : 0 < K) (hKN : K ≤ N)
    (h0 : 0 ≤ s ⟨K - 1, by omega⟩) (keep : BitVec 32 → Prop) [DecidablePred keep]
    (hkeep : ∀ c, keep c ↔ ((K : ℝ) : EReal) ≤ ∑ n : Fin N, if Ideal.ofBits .f32 c ≤ (v n : EReal) then (1 : EReal) else 0) :
    ∃ t : ℝ, Ideal.ofBits .f32 (search keep 31 0#32) = (t : EReal) ∧ t ≤ s ⟨K - 1, by omega⟩
      ∧ ∀ w : BitVec 32, w.toNat < infWord → Ideal.ofBits .f32 w ≤ ((s ⟨K - 1, by omega⟩ : ℝ) : EReal) → Ideal.ofBits .f32 w ≤ (t : EReal) := by
  refine search_floor keep _ h0 fun c => ?_
  rw [hkeep, sum_ones, EReal.coe_le_coe_iff, Nat.cast_le, ← count_ge_iff s hs K hK hKN]
  have : (Finset.univ.filter fun n => Ideal.ofBits .f32 c ≤ (v n : EReal)).card
      = (Finset.univ.filter fun i => Ideal.ofBits .f32 c ≤ (s i : EReal)).card := by
    refine (Finset.card_bij (fun i _ => σ i) ?_ ?_ ?_).symm
    · intro i hi
      simp only [Finset.mem_filter, Finset.mem_univ, true_and] at hi ⊢
      rw [← hσ]; exact hi
    · intro i _ j _ h; exact σ.injective h
    · intro n hn
      refine ⟨σ.symm n, ?_, σ.apply_symm_apply n⟩
      simp only [Finset.mem_filter, Finset.mem_univ, true_and] at hn ⊢
      rw [hσ, σ.apply_symm_apply]; exact hn
  rw [this]

/-- The losses above a number that parts the `K` greatest from the rest, and that number as many times as are missing to `K`:
    the `K` greatest. -/
theorem sum_found {N : ℕ} (v s : Fin N → ℝ) (hs : Antitone s) (σ : Fin N ≃ Fin N) (hσ : ∀ i, s i = v (σ i)) (K : ℕ) (hK : 0 < K) (hKN : K ≤ N) (t : ℝ)
    (ht : t ≤ s ⟨K - 1, by omega⟩) (hrest : ∀ i : Fin N, K ≤ i.val → s i ≤ t) :
    (∑ n : Fin N, if (t : EReal) < (v n : EReal) then (v n : EReal) else 0)
      + (((K : ℝ) : EReal) - ∑ n : Fin N, if (t : EReal) < (v n : EReal) then (1 : EReal) else 0) * (t : EReal)
      = ((∑ i : Fin N, if i.val < K then s i else 0 : ℝ) : EReal) := by
  rw [← sum_top s hs K hK hKN t ht hrest]
  have h1 : (∑ n : Fin N, if (t : EReal) < (v n : EReal) then (v n : EReal) else 0) = ((∑ i, if t < s i then s i else 0 : ℝ) : EReal) := by
    rw [coe_sum, ← Equiv.sum_comp σ]
    refine Finset.sum_congr rfl fun i _ => ?_
    simp only [← hσ, EReal.coe_lt_coe_iff]
    split <;> simp
  have h2 : (∑ n : Fin N, if (t : EReal) < (v n : EReal) then (1 : EReal) else 0) = ((∑ i, if t < s i then (1 : ℝ) else 0 : ℝ) : EReal) := by
    rw [coe_sum, ← Equiv.sum_comp σ]
    refine Finset.sum_congr rfl fun i _ => ?_
    simp only [← hσ, EReal.coe_lt_coe_iff]
    split <;> simp
  rw [h1, h2, ← EReal.coe_sub, ← EReal.coe_mul, ← EReal.coe_add]

end Top

end Cert.KernelIdeal.Red
end
-- ==== Proof.Last.lean ====
/- The kernel's last call comes to the loss, where its blocks hold the negative priors' losses, the counts and the sums. -/
module

public import proofs.«01_k».proof.Proof.Answer
public import proofs.«01_k».proof.Proof.Reduce
public import Mathlib.Tactic.NormNum

@[expose] public section

noncomputable section

namespace Cert.KernelIdeal.Red

open Idealize.ShloMosaic Cert.KernelIdeal Cert.KernelIdeal.Gen Cert.Select
open Cert.Stages (positives taken negative hard conf dist total answer)

theorem three : Ideal.ofBits .f32 1077936128#32 = ((3 : ℝ) : EReal) := by
  rw [ofBits_num _ (by decide), show BitVec.toNat 1077936128#32 = 1077936128 from rfl]
  norm_num [num]

theorem many : Ideal.ofBits .f32 1186981888#32 = ((24564 : ℝ) : EReal) := by
  rw [ofBits_num _ (by decide), show BitVec.toNat 1186981888#32 = 1186981888 from rfl]
  norm_num [num]

theorem whole_zero : (![0, 0] : Fin S8x128.rank → ℕ) = fun _ => 0 := by
  funext a
  match a with
  | ⟨0, _⟩ => rfl
  | ⟨1, _⟩ => rfl

/-- Counting the positive priors in floats. -/
theorem sum_positives (cl : IVec S16x24564 32) (b : Fin 16) :
    (∑ n : Fin 24564, if cl (ix2 b n) = 0#32 then (0 : EReal) else 1) = ((positives cl b : ℝ) : EReal) := by
  rw [positives, Nat.cast_sum, coe_sum]
  refine Finset.sum_congr rfl fun n _ => ?_
  split <;> simp

theorem last_eq_answer (x0 : Vec Ideal S16x24564 .f32) (x1 x2 : Vec Ideal S16x1x128 .f32)
    (a0 locs : FVec Ideal S16x24564x4 .f32) (r : Fin 16 → Fin 24564 → Fin 81 → ℝ) (cl : IVec S16x24564 32)
    (s : Fin 16 → Fin 24564 → ℝ) (σ : Fin 16 → (Fin 24564 ≃ Fin 24564)) (hs : ∀ b, Antitone (s b)) (hσ : ∀ b i, s b i = negative r cl b (σ b i))
    (h1 : ∀ b, 1 ≤ positives cl b)
    (hw : ∀ b (n : Fin 24564), n.val = taken cl b - 1 → ∃ w : BitVec 32, w.toNat < infWord ∧ Ideal.ofBits .f32 w ≤ (s b n : EReal)
      ∧ ∀ i : Fin 24564, taken cl b ≤ i.val → (s b i : EReal) ≤ Ideal.ofBits .f32 w)
    (e0 : ∀ b n, x0 (ix2 b n) = (negative r cl b n : EReal))
    (e1 : ∀ b, x1 (ix3 b (0 : Fin 1) (0 : Fin 128)) = ((positives cl b : ℝ) : EReal))
    (e2 : ∀ b, x1 (ix3 b (0 : Fin 1) (1 : Fin 128)) = dist a0 locs cl b)
    (e3 : ∀ b, x2 (ix3 b (0 : Fin 1) (0 : Fin 128)) = conf r cl b) :
    out2_3 (F := Ideal) x0 x1 x2 (ix2 (0 : Fin 8) (0 : Fin 128)) = answer a0 locs r s cl := by
  have hK : ∀ b, k2_pay32 (F := Ideal) x0 x1 x2 (ix2 b (0 : Fin 1)) = ((taken cl b : ℝ) : EReal) := by
    intro b
    rw [k_at, e1, three, many, ← EReal.coe_mul, taken, Nat.cast_min]
    rw [← EReal.coe_strictMono.monotone.map_min]
    congr 2
    push_cast
    ring
  have hv : ∀ b n, k2_pay31 (F := Ideal) x0 x1 x2 (ix2 b n) = (negative r cl b n : EReal) := fun b n => by rw [v_at, e0]
  have hfound : ∀ b, ∀ h : taken cl b - 1 < 24564, ∃ t : ℝ, bound (F := Ideal) (found (F := Ideal) (k2_pay31 x0 x1 x2) (k2_pay32 x0 x1 x2)) (ix2 b (0 : Fin 1)) = (t : EReal)
      ∧ t ≤ s b ⟨taken cl b - 1, h⟩ ∧ ∀ i : Fin 24564, taken cl b ≤ i.val → s b i ≤ t := by
    intro b h
    have hb : bound (F := Ideal) (found (F := Ideal) (k2_pay31 x0 x1 x2) (k2_pay32 x0 x1 x2)) (ix2 b (0 : Fin 1))
        = Ideal.ofBits .f32 (found (F := Ideal) (k2_pay31 x0 x1 x2) (k2_pay32 x0 x1 x2) (ix2 b (0 : Fin 1))) := rfl
    have ht : 0 < taken cl b := by have := h1 b; rw [taken]; omega
    obtain ⟨t, e, hle, hmax⟩ := search_top (negative r cl b) (s b) (hs b) (σ b) (hσ b) (taken cl b) ht (min_le_right _ _)
      (by rw [hσ]; exact Stages.negative_nonneg r cl b _) (Keep (k2_pay31 (F := Ideal) x0 x1 x2) (k2_pay32 (F := Ideal) x0 x1 x2) b) (fun c => by
        rw [Keep, hK]
        simp only [hv])
    refine ⟨t, by rw [hb, found_at]; exact e, hle, fun i hi => ?_⟩
    obtain ⟨w, hw1, hw2, hw3⟩ := hw b ⟨taken cl b - 1, h⟩ rfl
    exact EReal.coe_le_coe_iff.1 ((hw3 i hi).trans (hmax w hw1 hw2))
  have hrow : ∀ b, sumAbove (F := Ideal) (k2_pay31 x0 x1 x2) (bound (F := Ideal) (found (F := Ideal) (k2_pay31 x0 x1 x2) (k2_pay32 x0 x1 x2))) (ix1 b)
      + (k2_pay32 (F := Ideal) x0 x1 x2 (ix2 b (0 : Fin 1))
        - countAbove (F := Ideal) (k2_pay31 x0 x1 x2) (bound (F := Ideal) (found (F := Ideal) (k2_pay31 x0 x1 x2) (k2_pay32 x0 x1 x2))) (ix2 b (0 : Fin 1)))
        * bound (F := Ideal) (found (F := Ideal) (k2_pay31 x0 x1 x2) (k2_pay32 x0 x1 x2)) (ix2 b (0 : Fin 1)) = hard s cl b := by
    intro b
    have ht : 0 < taken cl b := by have := h1 b; rw [taken]; omega
    have hle : taken cl b ≤ 24564 := min_le_right _ _
    obtain ⟨t, e, h2, h3⟩ := hfound b (by omega)
    rw [sum_at, count_at, hK, e]
    simp only [hv]
    exact sum_found (negative r cl b) (s b) (hs b) (σ b) (hσ b) (taken cl b) ht hle t h2 h3
  rw [out_eq, View.canon_unit_zero whole_zero, final_at]
  simp only [hrow, positives_at, distance_at, entropy_at, e1, e2, e3]
  rfl

end Cert.KernelIdeal.Red

end
-- ==== Proof.RefSpec.lean ====
/- The reference's classes and offsets are the specification's. -/
module

public import proofs.«01_k».proof.Proof.Reads
public import Idealize.ShloMosaic.Lib.Routing.OpsSet

@[expose] public section

noncomputable section

namespace Cert.Stages

open Idealize.ShloMosaic Cert.Spec
open Cert.Pre_admissible Cert.Pre_admissible.Facts

variable [Cert.Pre_admissible.Facts]

section Folds

/-- Folding "keep the last written" over an increasing list leaves the greatest writer's value. -/
theorem foldl_last {M : ℕ} {α : Type} (hit : Fin M → Prop) [DecidablePred hit] (val : Fin M → α) (k : Fin M) (hk : hit k)
    (hmax : ∀ n, hit n → n ≤ k) (l : List (Fin M)) : l.Pairwise (· < ·) → k ∈ l → ∀ x,
    l.foldl (fun a n => if hit n then val n else a) x = val k := by
  induction l using List.reverseRecOn with
  | nil => intro _ h; cases h
  | append_singleton l m ih =>
    intro hp hm x
    rw [List.foldl_append, List.foldl_cons, List.foldl_nil]
    rw [List.pairwise_append] at hp
    rcases List.mem_append.1 hm with h | h
    · have hlt : k < m := hp.2.2 k h m (List.mem_singleton.2 rfl)
      rw [if_neg fun hh => absurd (hmax m hh) (not_le.2 hlt)]
      exact ih hp.1 h x
    · rw [← List.mem_singleton.1 h, if_pos hk]

end Folds

/-- Where the forced writes go: the image, and the object's best prior. -/
def places (v1 : IVec S16x1 32) (v68 : IVec S16x16 32) : IVec S16x16x2 32 :=
  have c : IVec S_ 32 := constantI S_ 32 0#32
  have v71 : IVec S16x1 32 := broadcastInDim S16x1 ![] bcast_S_S16x1 c
  have v72 : IVec S16x1 1 := cmpi .slt v1 v71
  have c_3 : IVec S_ 32 := constantI S_ 32 16#32
  have v73 : IVec S16x1 32 := broadcastInDim S16x1 ![] bcast_S_S16x1 c_3
  have v74 : IVec S16x1 32 := addi v1 v73
  have v75 : IVec S16x1 32 := select v72 v74 v1
  have c_4 : IVec S_ 32 := constantI S_ 32 0#32
  have v76 : IVec S16x16 32 := broadcastInDim S16x16 ![] bcast_S_S16x16 c_4
  have v77 : IVec S16x16 1 := cmpi .slt v68 v76
  have c_5 : IVec S_ 32 := constantI S_ 32 24564#32
  have v78 : IVec S16x16 32 := broadcastInDim S16x16 ![] bcast_S_S16x16 c_5
  have v79 : IVec S16x16 32 := addi v68 v78
  have v80 : IVec S16x16 32 := select v77 v79 v68
  have v81 : IVec S16x16 32 := broadcastInDim S16x16 ![0, 1] bcast_S16x1_S16x16_0_1 v75
  have v82 : IVec S16x16x1 32 := broadcastInDim S16x16x1 ![0, 1] bcast_S16x16_S16x16x1_0_1 v81
  have v83 : IVec S16x16x1 32 := broadcastInDim S16x16x1 ![0, 1] bcast_S16x16_S16x16x1_0_1 v80
  concatenate S16x16x2 2 [⟨S16x16x1, v82⟩, ⟨S16x16x1, v83⟩] concatenates_S16x16x1_S16x16x1_S16x16x2_d2

/-- What a prior looks up: the image, and its object. -/
def lookups (v1 : IVec S16x1 32) (v86 : IVec S16x24564 32) : IVec S16x24564x2 32 :=
  have c_12 : IVec S_ 32 := constantI S_ 32 0#32
  have v105 : IVec S16x1 32 := broadcastInDim S16x1 ![] bcast_S_S16x1 c_12
  have v106 : IVec S16x1 1 := cmpi .slt v1 v105
  have c_13 : IVec S_ 32 := constantI S_ 32 16#32
  have v107 : IVec S16x1 32 := broadcastInDim S16x1 ![] bcast_S_S16x1 c_13
  have v108 : IVec S16x1 32 := addi v1 v107
  have v109 : IVec S16x1 32 := select v106 v108 v1
  have c_14 : IVec S_ 32 := constantI S_ 32 0#32
  have v110 : IVec S16x24564 32 := broadcastInDim S16x24564 ![] bcast_S_S16x24564 c_14
  have v111 : IVec S16x24564 1 := cmpi .slt v86 v110
  have c_15 : IVec S_ 32 := constantI S_ 32 16#32
  have v112 : IVec S16x24564 32 := broadcastInDim S16x24564 ![] bcast_S_S16x24564 c_15
  have v113 : IVec S16x24564 32 := addi v86 v112
  have v114 : IVec S16x24564 32 := select v111 v113 v86
  have v115 : IVec S16x24564 32 := broadcastInDim S16x24564 ![0, 1] bcast_S16x1_S16x24564_0_1 v109
  have v116 : IVec S16x24564x1 32 := broadcastInDim S16x24564x1 ![0, 1] bcast_S16x24564_S16x24564x1_0_1 v115
  have v117 : IVec S16x24564x1 32 := broadcastInDim S16x24564x1 ![0, 1] bcast_S16x24564_S16x24564x1_0_1 v114
  concatenate S16x24564x2 2 [⟨S16x24564x1, v116⟩, ⟨S16x24564x1, v117⟩] concatenates_S16x24564x1_S16x24564x1_S16x24564x2_d2

theorem images_at (b : Fin 16) : images (ix2 b (0 : Fin 1)) = BitVec.ofNat 32 b.val := by
  pointwise [images]

theorem places_image (v68 : IVec S16x16 32) (b o : Fin 16) : places images v68 (ix3 b o (0 : Fin 2)) = BitVec.ofNat 32 b.val := by
  have h : ∀ v1 : IVec S16x1 32, places v1 v68 (ix3 b o (0 : Fin 2))
      = Scalar.select (IntOp.cmpi .slt (v1 (ix2 b (0 : Fin 1))) 0#32) (IntOp.addi (v1 (ix2 b (0 : Fin 1))) 16#32) (v1 (ix2 b (0 : Fin 1))) := by
    intro v1
    pointwise [places]
    try rfl
  rw [h, images_at]
  refine Routing.wrap_of_lt _ _ ?_
  rw [BitVec.toNat_ofNat]
  omega

theorem places_prior (v1 : IVec S16x1 32) (v68 : IVec S16x16 32) (b o : Fin 16) (n : Fin 24564) (hn : v68 (ix2 b o) = BitVec.ofNat 32 n.val) :
    places v1 v68 (ix3 b o (1 : Fin 2)) = BitVec.ofNat 32 n.val := by
  have h : places v1 v68 (ix3 b o (1 : Fin 2))
      = Scalar.select (IntOp.cmpi .slt (v68 (ix2 b o)) 0#32) (IntOp.addi (v68 (ix2 b o)) 24564#32) (v68 (ix2 b o)) := by
    pointwise [places]
    try rfl
  rw [h, hn]
  refine Routing.wrap_of_lt _ _ ?_
  rw [BitVec.toNat_ofNat]
  omega

theorem lookups_image (v86 : IVec S16x24564 32) (b : Fin 16) (n : Fin 24564) : lookups images v86 (ix3 b n (0 : Fin 2)) = BitVec.ofNat 32 b.val := by
  have h : ∀ v1 : IVec S16x1 32, lookups v1 v86 (ix3 b n (0 : Fin 2))
      = Scalar.select (IntOp.cmpi .slt (v1 (ix2 b (0 : Fin 1))) 0#32) (IntOp.addi (v1 (ix2 b (0 : Fin 1))) 16#32) (v1 (ix2 b (0 : Fin 1))) := by
    intro v1
    pointwise [lookups]
    try rfl
  rw [h, images_at]
  refine Routing.wrap_of_lt _ _ ?_
  rw [BitVec.toNat_ofNat]
  omega

theorem lookups_object (v1 : IVec S16x1 32) (v86 : IVec S16x24564 32) (b : Fin 16) (n : Fin 24564) (o : Fin 16) (ho : v86 (ix2 b n) = BitVec.ofNat 32 o.val) :
    lookups v1 v86 (ix3 b n (1 : Fin 2)) = BitVec.ofNat 32 o.val := by
  have h : lookups v1 v86 (ix3 b n (1 : Fin 2))
      = Scalar.select (IntOp.cmpi .slt (v86 (ix2 b n)) 0#32) (IntOp.addi (v86 (ix2 b n)) 16#32) (v86 (ix2 b n)) := by
    pointwise [lookups]
    try rfl
  rw [h, ho]
  refine Routing.wrap_of_lt _ _ ?_
  rw [BitVec.toNat_ofNat]
  omega

/-- The objects' numbers, one row per image. -/
def numbers : IVec S16x16 32 := broadcastInDim S16x16 ![0, 1] bcast_S1x16_S16x16_0_1 (broadcastInDim S1x16 ![1] bcast_S16_S1x16_1 (iotaInDim S16 32 0))

theorem numbers_at (b o : Fin 16) : numbers (ix2 b o) = BitVec.ofNat 32 o.val := by
  pointwise [numbers]

theorem objects_eq (v1 : IVec S16x1 32) (v67 : IVec S16x24564 32) (v68 : IVec S16x16 32) :
    objects v1 v67 v68 = Host.scatter scatter_S16x24564_S16x16x2_S16x16_n_01_01_2 (fun _ b => b) v67 (places v1 v68) numbers := rfl

theorem overlaps_eq {F : FTy → Type} [FloatOps F] (v1 : IVec S16x1 32) (v66 : FVec F S16x24564 .f32) (v68 : IVec S16x16 32) :
    overlaps v1 v66 v68 = Host.scatter scatter_S16x24564_S16x16x2_S16x16_n_01_01_2 (fun _ b => b) v66 (places v1 v68)
      (broadcastInDim S16x16 ![] bcast_S_S16x16 (constant S_ .f32 0x3F800000#32)) := rfl

theorem classes_eq {F : FTy → Type} [FloatOps F] (v1 : IVec S16x1 32) (a3 : IVec S16x16 32) (v86 : IVec S16x24564 32) (v102 : FVec F S16x24564 .f32) :
    classes v1 a3 v86 v102 = fn_where (F := F) (cmpf .olt v102 (broadcastInDim S16x24564 ![] bcast_S_S16x24564 (constant S_ .f32 0x3F000000#32)))
      (constantI S_ 32 0#32) (Host.gather gather_S16x16_S16x24564x2_S16x24564_n_01_n_n_01_2_11 a3 (lookups v1 v86)) := rfl

theorem chosen_eq {F : FTy → Type} [FloatOps F] (v1 : IVec S16x1 32) (a2 : FVec F S16x16x4 .f32) (v86 : IVec S16x24564 32) :
    chosen v1 a2 v86 = Host.gather gather_S16x16x4_S16x24564x2_S16x24564x4_2_01_n_n_01_2_114 a2 (lookups v1 v86) := rfl

section Objects

variable (a2 : FVec Ideal S16x16x4 .f32) (a4 : FVec Ideal S24564x4 .f32)

/-- Where the forced write of object `o` of image `b` lands. -/
theorem lands (v68 : IVec S16x16 32) (P : Fin 16 → Fin 16 → Fin 24564) (hP : ∀ b o, v68 (ix2 b o) = BitVec.ofNat 32 (P b o).val)
    (b' o b : Fin 16) (n : Fin 24564) :
    scatter_S16x24564_S16x16x2_S16x16_n_01_01_2.resultIdx? (ix2 b' o) (places images v68) = some (ix2 b n) ↔ b' = b ∧ P b' o = n := by
  refine (Routing.scatter_lands2 scatter_S16x24564_S16x16x2_S16x16_n_01_01_2 rfl rfl rfl (places images v68) b' o b n).trans ?_
  have h0 := places_image v68 b' o
  have h1 := places_prior images v68 b' o _ (hP b' o)
  have e0 : (places images v68 (ix3 b' o (0 : Fin 2))).toInt = b'.val := by rw [h0, toInt_small (a := b'.val) (by omega)]
  have e1 : (places images v68 (ix3 b' o (1 : Fin 2))).toInt = (P b' o).val := by rw [h1, toInt_small (a := (P b' o).val) (by omega)]
  refine Iff.trans (and_congr (by rw [← e0]; exact Iff.rfl) (by rw [← e1]; exact Iff.rfl) : _ ↔ ((b'.val : ℤ) = b.val ∧ ((P b' o).val : ℤ) = n.val)) ?_
  rw [Fin.ext_iff, Fin.ext_iff]
  omega

theorem best_prior_at (b o : Fin 16) :
    fn_argmax_0 (F := Ideal) (overlap (F := Ideal) a2 a4) (ix2 b o) = BitVec.ofNat 32 (bestPrior (box a2 b) (prior a4) o).val := by
  rw [argmax_0_at]
  simp only [overlap_at]
  rfl

theorem best_obj_at (b : Fin 16) (n : Fin 24564) :
    fn_argmax (F := Ideal) (overlap (F := Ideal) a2 a4) (ix2 b n) = BitVec.ofNat 32 (bestObj (box a2 b) (prior a4) n).val := by
  rw [argmax_at]
  simp only [overlap_at]
  rfl

theorem best_at (b : Fin 16) (n : Fin 24564) :
    best (F := Ideal) (overlap (F := Ideal) a2 a4) (ix2 b n) = iou (box a2 b) (prior a4) (bestObj (box a2 b) (prior a4) n) n := by
  have h : ∀ v : FVec Ideal S16x16x24564 .f32, best (F := Ideal) v (ix2 b n)
      = Finset.fold max (Ideal.ofBits FTy.f32 4286578688#32) (fun x : Fin 16 => v (ix3 b x n)) Finset.univ := by
    intro v
    pointwise [best]
  rw [h, ofBits_bot, fold_max_eq]
  simp only [overlap_at]
  rfl

theorem objs_at (b : Fin 16) (n : Fin 24564) :
    objs (F := Ideal) a2 a4 (ix2 b n) = BitVec.ofNat 32 (obj (box a2 b) (prior a4) n).val := by
  have e : objs (F := Ideal) a2 a4 = objects images (fn_argmax (F := Ideal) (overlap a2 a4)) (fn_argmax_0 (F := Ideal) (overlap a2 a4)) := rfl
  rw [e, objects_eq]
  have hl := lands (fn_argmax_0 (F := Ideal) (overlap a2 a4)) (fun b o => bestPrior (box a2 b) (prior a4) o) (best_prior_at a2 a4)
  by_cases hh : Hit (box a2 b) (prior a4) n
  · have hlast := obj_last _ _ hh
    generalize obj (box a2 b) (prior a4) n = o at hlast
    rw [Routing.scatter_at]
    have key := foldl_last (M := S16x16.numel)
      (fun m => scatter_S16x24564_S16x16x2_S16x16_n_01_01_2.resultIdx? (S16x16.rowMajor.symm m)
        (places images (fn_argmax_0 (F := Ideal) (overlap a2 a4))) = some (ix2 b n))
      (fun m => numbers (S16x16.rowMajor.symm m)) (S16x16.rowMajor (ix2 b o))
      (by rw [Equiv.symm_apply_apply]; exact (hl b o b n).2 ⟨rfl, hlast.1⟩)
      (fun m hm => by
        obtain ⟨j, rfl⟩ := S16x16.rowMajor.surjective m
        rw [Equiv.symm_apply_apply] at hm
        obtain ⟨b', o', rfl⟩ : ∃ b' o' : Fin 16, j = ix2 b' o' := ⟨j 0, j 1, funext fun a => by match a with | ⟨0, _⟩ => rfl | ⟨1, _⟩ => rfl⟩
        obtain ⟨rfl, h2⟩ := (hl b' o' b n).1 hm
        have := hlast.2 o' h2
        rw [Fin.le_def, Shape.rowMajor_val_two, Shape.rowMajor_val_two]
        show b'.val * 16 + o'.val ≤ b'.val * 16 + o.val
        have := Fin.le_def.1 this
        omega)
      (List.finRange _) (List.pairwise_lt_finRange _) (List.mem_finRange _) (fn_argmax (F := Ideal) (overlap a2 a4) (ix2 b n))
    rw [Equiv.symm_apply_apply, numbers_at] at key
    exact key
  · rw [obj_best _ _ hh, ← best_obj_at]
    refine Routing.scatter_set_miss _ _ _ _ _ fun k hk => hh ?_
    obtain ⟨b', o', rfl⟩ : ∃ b' o' : Fin 16, k = ix2 b' o' := ⟨k 0, k 1, funext fun a => by match a with | ⟨0, _⟩ => rfl | ⟨1, _⟩ => rfl⟩
    obtain ⟨rfl, h2⟩ := (hl b' o' b n).1 hk
    exact ⟨o', h2⟩

theorem cover_at (b : Fin 16) (n : Fin 24564) :
    overlaps (F := Ideal) images (best (overlap a2 a4)) (fn_argmax_0 (F := Ideal) (overlap a2 a4)) (ix2 b n) = cover (box a2 b) (prior a4) n := by
  rw [overlaps_eq, cover]
  have hl := lands (fn_argmax_0 (F := Ideal) (overlap a2 a4)) (fun b o => bestPrior (box a2 b) (prior a4) o) (best_prior_at a2 a4)
  by_cases hh : Hit (box a2 b) (prior a4) n
  · rw [if_pos hh]
    obtain ⟨o, ho⟩ := hh
    exact Routing.scatter_set_hit _ _ _ _ _ 1 (fun k _ => Ideal.ofBits_one_f32) (ix2 b o) ((hl b o b n).2 ⟨rfl, ho⟩)
  · rw [if_neg hh, ← best_at]
    refine Routing.scatter_set_miss _ _ _ _ _ fun k hk => hh ?_
    obtain ⟨b', o', rfl⟩ : ∃ b' o' : Fin 16, k = ix2 b' o' := ⟨k 0, k 1, funext fun a => by match a with | ⟨0, _⟩ => rfl | ⟨1, _⟩ => rfl⟩
    obtain ⟨rfl, h2⟩ := (hl b' o' b n).1 hk
    exact ⟨o', h2⟩

theorem cls_at (a3 : IVec S16x16 32) (b : Fin 16) (n : Fin 24564) :
    cls (F := Ideal) a2 a3 a4 (ix2 b n) = Spec.cls (box a2 b) (fun o => a3 (ix2 b o)) (prior a4) n := by
  have e : cls (F := Ideal) a2 a3 a4 = classes (F := Ideal) images a3 (objs a2 a4)
      (overlaps images (best (overlap a2 a4)) (fn_argmax_0 (F := Ideal) (overlap a2 a4))) := rfl
  have h : ∀ (c : IVec S16x24564 1) (g : IVec S16x24564 32), fn_where (F := Ideal) c (constantI S_ 32 0#32) g (ix2 b n)
      = Scalar.select (c (ix2 b n)) (0#32) (g (ix2 b n)) := fun _ _ => rfl
  rw [e, classes_eq, h, gather_labels _ _ b n b (obj (box a2 b) (prior a4) n) (lookups_image _ b n) (lookups_object _ _ b n _ (objs_at a2 a4 b n))]
  have h2 : ∀ v : FVec Ideal S16x24564 .f32, cmpf .olt v (broadcastInDim S16x24564 ![] bcast_S_S16x24564 (constant S_ .f32 0x3F000000#32)) (ix2 b n)
      = Ideal.cmp .olt (v (ix2 b n)) (Ideal.ofBits .f32 1056964608#32) := fun _ => rfl
  rw [h2, cover_at, Spec.cls]
  by_cases hc : cover (box a2 b) (prior a4) n < Ideal.ofBits FTy.f32 1056964608#32
  · rw [if_pos hc]; simp [Ideal.cmp, hc, Scalar.select]
  · rw [if_neg hc]; simp [Ideal.cmp, hc, Scalar.select]

theorem chosen_at (b : Fin 16) (n : Fin 24564) (k : Fin 4) :
    chosen (F := Ideal) images a2 (objs a2 a4) (ix3 b n k) = box a2 b (obj (box a2 b) (prior a4) n) k := by
  rw [chosen_eq]
  exact gather_boxes _ _ b n k b (obj (box a2 b) (prior a4) n) (lookups_image _ b n) (lookups_object _ _ b n _ (objs_at a2 a4 b n))

theorem offsets_at (b : Fin 16) (n : Fin 24564) (c : Fin 4) :
    offsets (F := Ideal) images a2 a4 (objs a2 a4) (ix3 b n c) = Spec.offset (box a2 b) (prior a4) n c := by
  have h : ∀ (w : FVec Ideal S16x24564x4 .f32) (c : Fin 4), relative (F := Ideal) a4 (centred w) (ix3 b n c) =
      (match c with
      | 0 => Ideal.div (Ideal.div (w (ix3 b n 0) + w (ix3 b n 2)) (Ideal.ofBits FTy.f32 1073741824#32) - a4 (ix2 n 0)) (Ideal.div (a4 (ix2 n 2)) (Ideal.ofBits FTy.f32 1092616192#32))
      | 1 => Ideal.div (Ideal.div (w (ix3 b n 1) + w (ix3 b n 3)) (Ideal.ofBits FTy.f32 1073741824#32) - a4 (ix2 n 1)) (Ideal.div (a4 (ix2 n 3)) (Ideal.ofBits FTy.f32 1092616192#32))
      | 2 => Ideal.log (Ideal.div (w (ix3 b n 2) - w (ix3 b n 0)) (a4 (ix2 n 2))) * (Ideal.ofBits FTy.f32 1084227584#32)
      | 3 => Ideal.log (Ideal.div (w (ix3 b n 3) - w (ix3 b n 1)) (a4 (ix2 n 3))) * (Ideal.ofBits FTy.f32 1084227584#32) : EReal) := by
    intro w c
    match c with
    | 0 => pointwise [relative, centred]
    | 1 => pointwise [relative, centred]
    | 2 => pointwise [relative, centred]
    | 3 => pointwise [relative, centred]
  rw [offsets, h]
  simp only [chosen_at]
  match c with
  | 0 => rfl
  | 1 => rfl
  | 2 => rfl
  | 3 => rfl

end Objects

end Cert.Stages
end
-- ==== Proof.Admit.lean ====
/- What the precondition says: the logits are real numbers, the labels are classes of objects, every image has a
   positive prior, and the number of a float32 word parts the losses taken in each image from the rest. -/
module

public import proofs.«01_k».proof.Proof.RefSum
public import proofs.«01_k».proof.Proof.RefSpec
public import proofs.«01_k».proof.Proof.Select
public import Mathlib.Tactic.FieldSimp
public import Mathlib.Tactic.NormNum

@[expose] public section

noncomputable section

namespace Cert.Stages

open Idealize.ShloMosaic Cert.Spec Cert.Select
open Cert.Pre_admissible Cert.Pre_admissible.Facts

/-- The word with exponent field `e` and no fraction is the number `2 ^ (e - 127)`. -/
theorem ofBits_pow (w : BitVec 32) (e : ℕ) (h0 : e ≠ 0) (h1 : e < 255) (hw : w.toNat = e * 2 ^ 23) :
    Ideal.ofBits .f32 w = (((2 : ℝ) ^ ((e : ℤ) - 127) : ℝ) : EReal) := by
  rw [ofBits_num w (by rw [hw]; show e * 2 ^ 23 < 0x7F800000; omega), hw, num]
  congr 1
  rw [Nat.mul_div_cancel _ (by norm_num), Nat.mul_mod_left, if_neg h0, max_eq_left (by omega)]
  have : ((2 ^ 23 + 0 : ℕ) : ℝ) = (2 : ℝ) ^ (23 : ℤ) := by norm_num
  rw [this, ← zpow_add₀ (by norm_num)]
  congr 1
  ring

/-- `y` and `z` are `x` and `l` scaled by a power of two, up by at most `2 ^ d`. -/
def Scaled (x l : ℝ) (d : ℤ) (y z : EReal) : Prop :=
  ∃ (q p : ℝ) (m : ℤ), y = (q : EReal) ∧ z = (p : EReal) ∧ -d ≤ m ∧ x = q * 2 ^ m ∧ l = p * 2 ^ m

theorem Scaled.mul {x l : ℝ} {d : ℤ} {y z : EReal} (h : Scaled x l d y z) (e d' : ℤ) (he : d + e ≤ d') :
    Scaled x l d' (y * (((2 : ℝ) ^ e : ℝ) : EReal)) (z * (((2 : ℝ) ^ e : ℝ) : EReal)) := by
  obtain ⟨q, p, m, rfl, rfl, hm, hx, hl⟩ := h
  have h2 : ∀ a : ℝ, a * 2 ^ m = a * 2 ^ e * 2 ^ (m - e) := fun a => by
    rw [mul_assoc, ← zpow_add₀ (by norm_num)]
    congr 2
    ring
  exact ⟨q * 2 ^ e, p * 2 ^ e, m - e, (EReal.coe_mul _ _).symm, (EReal.coe_mul _ _).symm, by omega, by rw [hx, h2], by rw [hl, h2]⟩

theorem Scaled.mono {x l : ℝ} {d : ℤ} {y z : EReal} (h : Scaled x l d y z) (d' : ℤ) (hp : d ≤ d') : Scaled x l d' y z := by
  obtain ⟨q, p, m, hy, hz, hm, hx, hl⟩ := h
  exact ⟨q, p, m, hy, hz, by omega, hx, hl⟩

variable [Cert.Pre_admissible.Facts]

theorem down_at (hi lo : BitVec 32) (y v : FVec Ideal S16x24564 .f32) (b : Fin 16) (n : Fin 24564) : Stages.down (F := Ideal) hi lo y v (ix2 b n)
    = if Ideal.ofBits .f32 hi ≤ y (ix2 b n) then v (ix2 b n) * Ideal.ofBits .f32 lo else v (ix2 b n) := by
  pointwise [Stages.down, fn_where_2]

theorem up_at (hi lo : BitVec 32) (y v : FVec Ideal S16x24564 .f32) (b : Fin 16) (n : Fin 24564) : Stages.up (F := Ideal) hi lo y v (ix2 b n)
    = if y (ix2 b n) < Ideal.ofBits .f32 hi then v (ix2 b n) * Ideal.ofBits .f32 lo else v (ix2 b n) := by
  pointwise [Stages.up, fn_where_2]

section Steps

variable {x l : ℝ} {d : ℤ} {b : Fin 16} {n : Fin 24564} {y z : FVec Ideal S16x24564 .f32} {Q : IVec S16x24564 1 → Prop}
  {k : FVec Ideal S16x24564 .f32 → FVec Ideal S16x24564 .f32 → IVec S16x24564 1}

/-- What holds of a test of all pairs so scaled holds of it after a step down. -/
theorem downs_intro (h : Scaled x l d (y (ix2 b n)) (z (ix2 b n)))
    (hi lo : BitVec 32) (e : ℕ) (h0 : e ≠ 0) (h1 : e ≤ 127) (hw : lo.toNat = e * 2 ^ 23)
    (hk : ∀ y z : FVec Ideal S16x24564 .f32, Scaled x l d (y (ix2 b n)) (z (ix2 b n)) → Q (k y z)) : Q (downs (F := Ideal) hi lo k y z) := by
  refine hk _ _ ?_
  rw [down_at, down_at, ofBits_pow lo e h0 (by omega) hw]
  split
  · exact h.mul _ _ (by omega)
  · exact h

/-- What holds of a test of all pairs so scaled holds of it after a step up. -/
theorem ups_intro (h : Scaled x l d (y (ix2 b n)) (z (ix2 b n)))
    (hi lo : BitVec 32) (e : ℕ) (h0 : 127 ≤ e) (h1 : e < 255) (hw : lo.toNat = e * 2 ^ 23) (d' : ℤ) (hd : d' = d + e - 127)
    (hk : ∀ y z : FVec Ideal S16x24564 .f32, Scaled x l d' (y (ix2 b n)) (z (ix2 b n)) → Q (k y z)) : Q (ups (F := Ideal) hi lo k y z) := by
  refine hk _ _ ?_
  rw [up_at, up_at, ofBits_pow lo e (by omega) h1 hw]
  split
  · exact h.mul _ _ (by omega)
  · exact h.mono _ (by omega)

end Steps

theorem scaled_intro {x l : ℝ} {b : Fin 16} {n : Fin 24564} {Q : IVec S16x24564 1 → Prop} {k : FVec Ideal S16x24564 .f32 → FVec Ideal S16x24564 .f32 → IVec S16x24564 1}
    (hk : ∀ y z : FVec Ideal S16x24564 .f32, Scaled x l 149 (y (ix2 b n)) (z (ix2 b n)) → Q (k y z)) :
    ∀ y z : FVec Ideal S16x24564 .f32, Scaled x l 0 (y (ix2 b n)) (z (ix2 b n)) → Q (scaled (F := Ideal) k y z) := by
  unfold scaled
  intro y z h
  refine downs_intro h 0x6B000000#32 0x1F800000#32 63 (by decide) (by decide) rfl fun y z h => ?_
  refine downs_intro h 0x5B000000#32 0x2F800000#32 95 (by decide) (by decide) rfl fun y z h => ?_
  refine downs_intro h 0x53000000#32 0x37800000#32 111 (by decide) (by decide) rfl fun y z h => ?_
  refine downs_intro h 0x4F000000#32 0x3B800000#32 119 (by decide) (by decide) rfl fun y z h => ?_
  refine downs_intro h 0x4D000000#32 0x3D800000#32 123 (by decide) (by decide) rfl fun y z h => ?_
  refine downs_intro h 0x4C000000#32 0x3E800000#32 125 (by decide) (by decide) rfl fun y z h => ?_
  refine downs_intro h 0x4B800000#32 0x3F000000#32 126 (by decide) (by decide) rfl fun y z h => ?_
  refine ups_intro h 0x2B800000#32 0x5F800000#32 191 (by decide) (by decide) rfl 64 (by norm_num) fun y z h => ?_
  refine ups_intro h 0x3B800000#32 0x4F800000#32 159 (by decide) (by decide) rfl 96 (by norm_num) fun y z h => ?_
  refine ups_intro h 0x43800000#32 0x47800000#32 143 (by decide) (by decide) rfl 112 (by norm_num) fun y z h => ?_
  refine ups_intro h 0x43800000#32 0x47800000#32 143 (by decide) (by decide) rfl 128 (by norm_num) fun y z h => ?_
  refine ups_intro h 0x47800000#32 0x43800000#32 135 (by decide) (by decide) rfl 136 (by norm_num) fun y z h => ?_
  refine ups_intro h 0x49800000#32 0x41800000#32 131 (by decide) (by decide) rfl 140 (by norm_num) fun y z h => ?_
  refine ups_intro h 0x49800000#32 0x41800000#32 131 (by decide) (by decide) rfl 144 (by norm_num) fun y z h => ?_
  refine ups_intro h 0x4A800000#32 0x40800000#32 129 (by decide) (by decide) rfl 146 (by norm_num) fun y z h => ?_
  refine ups_intro h 0x4A800000#32 0x40800000#32 129 (by decide) (by decide) rfl 148 (by norm_num) fun y z h => ?_
  refine ups_intro h 0x4B000000#32 0x40000000#32 128 (by decide) (by decide) rfl 149 (by norm_num) fun y z h => ?_
  exact hk y z h

theorem whole_at (y z : FVec Ideal S16x24564 .f32) (b : Fin 16) (n : Fin 24564) : whole (F := Ideal) y z (ix2 b n)
    = IntOp.andi (BitVec.ofBool (decide (z (ix2 b n) ≤ Ideal.liftRound Int.floor (y (ix2 b n))))) (BitVec.ofBool (decide (y (ix2 b n) < Ideal.ofBits .f32 1266679808#32))) := by
  pointwise [whole]

/-- The greatest float32 number. -/
abbrev top : ℝ := num (BitVec.toNat 2139095039#32)

theorem capped_at (v : FVec Ideal S16x24564 .f32) (b : Fin 16) (n : Fin 24564) (x : ℝ) (hx : v (ix2 b n) = (x : EReal)) :
    capped (F := Ideal) v (ix2 b n) = ((min x top : ℝ) : EReal) := by
  have : capped (F := Ideal) v (ix2 b n) = min (v (ix2 b n)) (Ideal.ofBits .f32 2139095039#32) := by pointwise [capped]
  rw [this, hx, ofBits_num 2139095039#32 (by decide), ← EReal.coe_strictMono.monotone.map_min]

theorem following_at (v : FVec Ideal S16x24564 .f32) (b : Fin 16) (n : Fin 24564) :
    following (F := Ideal) v (ix2 b n) = if h : n.val + 1 < 24564 then v (ix2 b ⟨n.val + 1, h⟩) else 0 := by
  pointwise [following]
  by_cases h : n.val + 1 < 24564
  · rw [dif_pos h, dif_pos (by omega)]
    exact congrArg (fun i => v (ix2 b i)) (Fin.ext (Nat.add_comm _ _))
  · rw [dif_neg h, dif_neg (by omega)]

/-- Where a scaled pair passes the test, a word's number lies between the two numbers. -/
theorem word_between (v : FVec Ideal S16x24564 .f32) (b : Fin 16) (n : Fin 24564) (h : parted (F := Ideal) v (ix2 b n) = 1#1)
    (x l : ℝ) (hx : v (ix2 b n) = (x : EReal)) (hl : following (F := Ideal) v (ix2 b n) = (l : EReal)) (h0 : 0 ≤ x) :
    ∃ w : BitVec 32, w.toNat < infWord ∧ Ideal.ofBits .f32 w ≤ (x : EReal) ∧ (l : EReal) ≤ Ideal.ofBits .f32 w := by
  have htop : top < 2 ^ (128 : ℤ) := by
    rw [top, show BitVec.toNat 2139095039#32 = 2139095039 from rfl]
    norm_num [num]
  have hpos : 0 ≤ min x top := le_min h0 (by rw [← num_zero]; exact num_strictMono.monotone (Nat.zero_le _))
  refine scaled_intro (x := min x top) (l := l) (b := b) (n := n) (Q := fun t => t (ix2 b n) = 1#1 → ∃ w : BitVec 32, w.toNat < infWord ∧ Ideal.ofBits .f32 w ≤ (x : EReal) ∧ (l : EReal) ≤ Ideal.ofBits .f32 w)
    (k := whole (F := Ideal)) (fun y z hyz ht => ?_) (capped v) (following v) ⟨min x top, l, 0, capped_at v b n x hx, hl, by omega, by simp, by simp⟩ h
  obtain ⟨q, p, m, hq, hp, hm, hxm, hlm⟩ := hyz
  rw [whole_at] at ht
  have hbits : ∀ p q : Bool, IntOp.andi (BitVec.ofBool p) (BitVec.ofBool q) = 1#1 → p = true ∧ q = true := by decide
  obtain ⟨h1, h2⟩ := hbits _ _ ht
  have h1 := of_decide_eq_true h1
  have h2 := of_decide_eq_true h2
  have e : Ideal.liftRound Int.floor ((q : ℝ) : EReal) = (((⌊q⌋ : ℤ) : ℝ) : EReal) := rfl
  rw [hq, hp, e, EReal.coe_le_coe_iff] at h1
  rw [hq, ofBits_pow 1266679808#32 151 (by decide) (by decide) rfl, EReal.coe_lt_coe_iff] at h2
  have h2m : (0 : ℝ) < 2 ^ m := by positivity
  have hq0 : 0 ≤ q := by
    by_contra hlt
    have := mul_neg_of_neg_of_pos (not_le.1 hlt) h2m
    rw [← hxm] at this
    exact absurd hpos (not_le.2 this)
  obtain ⟨M, hM⟩ : ∃ M : ℕ, (M : ℝ) = ((⌊q⌋ : ℤ) : ℝ) := by
    refine ⟨⌊q⌋.toNat, ?_⟩
    have : ((⌊q⌋.toNat : ℤ) : ℝ) = ((⌊q⌋ : ℤ) : ℝ) := by rw [Int.toNat_of_nonneg (Int.floor_nonneg.2 hq0)]
    exact (Int.cast_natCast _).symm.trans this
  have hMq : (M : ℝ) ≤ q := hM ▸ Int.floor_le q
  have hM24 : M < 2 ^ 24 := by
    have : (M : ℝ) < ((2 ^ 24 : ℕ) : ℝ) := by
      refine lt_of_le_of_lt hMq (lt_of_lt_of_eq h2 ?_)
      norm_num
    exact_mod_cast this
  have hMx : (M : ℝ) * 2 ^ m ≤ min x top := by
    rw [hxm]
    exact mul_le_mul_of_nonneg_right hMq h2m.le
  obtain ⟨n', hn, hnum⟩ := exists_num M m hM24 hm (lt_of_le_of_lt (hMx.trans (min_le_right _ _)) htop)
  have hn' : (BitVec.ofNat 32 n').toNat = n' := by
    rw [BitVec.toNat_ofNat]
    exact Nat.mod_eq_of_lt (hn.trans (by decide))
  refine ⟨BitVec.ofNat 32 n', by rw [hn']; exact hn, ?_, ?_⟩
  · rw [ofBits_num _ (by rw [hn']; exact hn), hn', hnum, EReal.coe_le_coe_iff]
    exact hMx.trans (min_le_left _ _)
  · rw [ofBits_num _ (by rw [hn']; exact hn), hn', hnum, EReal.coe_le_coe_iff, hlm, hM]
    exact mul_le_mul_of_nonneg_right h1 h2m.le

/-- At the place chosen, a word's number parts the loss there and those before it from those after it. -/
theorem word_of (v : FVec Ideal S16x24564 .f32) (c : IVec S16x24564 1) (h : admitted c (parted (F := Ideal) v) ix0 = 1#1)
    (b : Fin 16) (n : Fin 24564) (hc : c (ix2 b n) = 1#1) (s : Fin 24564 → ℝ) (hs : Antitone s) (hv : ∀ i, v (ix2 b i) = (s i : EReal)) (h0 : 0 ≤ s n) :
    ∃ w : BitVec 32, w.toNat < infWord ∧ Ideal.ofBits .f32 w ≤ (s n : EReal) ∧ ∀ i : Fin 24564, n.val < i.val → (s i : EReal) ≤ Ideal.ofBits .f32 w := by
  have hr : admitted c (parted (F := Ideal) v) ix0
      = Finset.univ.fold IntOp.andi 1#1 fun k : Fin 16 × Fin 24564 => IntOp.ori (~~~c (ix2 k.1 k.2)) (parted (F := Ideal) v (ix2 k.1 k.2)) := by
    generalize parted (F := Ideal) v = sc
    pointwise [admitted]
  have hk := fold_andi _ (hr ▸ h) (b, n)
  simp only at hk
  rw [hc] at hk
  have hbits : ∀ p : BitVec 1, IntOp.ori (~~~1#1) p = 1#1 → p = 1#1 := by decide
  have hp := hbits _ hk
  by_cases hn : n.val + 1 < 24564
  · obtain ⟨w, hw1, hw2, hw3⟩ := word_between v b n hp (s n) (s ⟨n.val + 1, hn⟩) (hv n) (by rw [following_at, dif_pos hn, hv]) h0
    exact ⟨w, hw1, hw2, fun i hi => (EReal.coe_le_coe_iff.2 (hs (by show n.val + 1 ≤ i.val; omega))).trans hw3⟩
  · obtain ⟨w, hw1, hw2, hw3⟩ := word_between v b n hp (s n) 0 (hv n) (by rw [following_at, dif_neg hn]; rfl) h0
    exact ⟨w, hw1, hw2, fun i hi => absurd i.isLt (by omega)⟩

/-- Finite logits are real numbers. -/
theorem reals (a1 : FVec Ideal S16x24564x81 .f32) (h : finite (F := Ideal) a1 ix0 = 1#1) :
    ∃ r : Fin 16 → Fin 24564 → Fin 81 → ℝ, ∀ b n k, a1 (ix3 b n k) = (r b n k : EReal) := by
  have hr : finite (F := Ideal) a1 ix0 = Finset.univ.fold IntOp.andi 1#1 fun k : Fin 16 × Fin 24564 × Fin 81 =>
      BitVec.ofBool (decide (FloatOps.absf (a1 (ix3 k.1 k.2.1 k.2.2)) < Ideal.ofBits .f32 2139095040#32)) := by
    pointwise [finite]
  refine ⟨fun b n k => (a1 (ix3 b n k)).toReal, fun b n k => ?_⟩
  have hk := fold_andi _ (hr ▸ h) (b, n, k)
  have hb : ∀ p : Bool, BitVec.ofBool p = 1#1 → p = true := by decide
  have hlt : max (a1 (ix3 b n k)) (-(a1 (ix3 b n k))) < Ideal.ofBits .f32 2139095040#32 := of_decide_eq_true (hb _ hk)
  rw [ofBits_inf _ rfl, max_lt_iff] at hlt
  refine (EReal.coe_toReal (ne_of_lt hlt.1) fun hbot => ?_).symm
  rw [hbot] at hlt
  exact absurd hlt.2 (by simp)

/-- The labels are classes of objects. -/
theorem label_range (a3 : IVec S16x16 32) (h : labelled a3 ix0 = 1#1) (b o : Fin 16) : a3 (ix2 b o) ≠ 0#32 ∧ (a3 (ix2 b o)).toNat < 81 := by
  have hr : labelled a3 ix0 = Finset.univ.fold IntOp.andi 1#1 fun k : Fin 16 × Fin 16 =>
      IntOp.andi (IntOp.cmpi .sge (a3 (ix2 k.1 k.2)) 1#32) (IntOp.cmpi .slt (a3 (ix2 k.1 k.2)) 81#32) := by
    pointwise [labelled]
  have hk := fold_andi _ (hr ▸ h) (b, o)
  simp only at hk
  have hand : ∀ x y : BitVec 1, IntOp.andi x y = 1#1 → x = 1#1 ∧ y = 1#1 := by decide
  have hb : ∀ p : Bool, BitVec.ofBool p = 1#1 → p = true := by decide
  obtain ⟨h1, h2⟩ := hand _ _ hk
  have h1 : (1#32).sle (a3 (ix2 b o)) = true := hb _ h1
  have h2 : (a3 (ix2 b o)).slt 81#32 = true := hb _ h2
  rw [BitVec.sle, decide_eq_true_eq] at h1
  rw [BitVec.slt, decide_eq_true_eq] at h2
  have e1 : (1#32).toInt = 1 := rfl
  have e2 : (81#32).toInt = 81 := rfl
  rw [e1] at h1
  rw [e2] at h2
  have hlt := (a3 (ix2 b o)).isLt
  constructor
  · intro h0
    rw [h0] at h1
    exact absurd h1 (by decide)
  · rw [BitVec.toInt] at h1 h2
    split at h1 <;> omega

section Classes

variable (a2 : FVec Ideal S16x16x4 .f32) (a4 : FVec Ideal S24564x4 .f32) (a3 : IVec S16x16 32) (h : labelled a3 ix0 = 1#1)

include h

theorem cls_range (b : Fin 16) (n : Fin 24564) : (cls (F := Ideal) a2 a3 a4 (ix2 b n)).toNat < 81 := by
  rw [cls_at, Spec.cls]
  split
  · decide
  · exact (label_range a3 h b _).2

/-- The best prior of an object is positive. -/
theorem positives_pos (b : Fin 16) : 1 ≤ positives (cls (F := Ideal) a2 a3 a4) b := by
  have hhalf : ¬ (1 : EReal) < Ideal.ofBits FTy.f32 1056964608#32 := by
    rw [ofBits_pow 1056964608#32 126 (by decide) (by decide) rfl, ← EReal.coe_one, EReal.coe_lt_coe_iff]
    norm_num
  have hhit : Hit (box a2 b) (prior a4) (bestPrior (box a2 b) (prior a4) 0) := ⟨0, rfl⟩
  have hp : cls (F := Ideal) a2 a3 a4 (ix2 b (bestPrior (box a2 b) (prior a4) 0)) ≠ 0#32 := by
    rw [cls_at, Spec.cls, cover, if_pos hhit, if_neg hhalf]
    exact (label_range a3 h b _).1
  rw [positives]
  refine le_trans ?_ (Finset.single_le_sum (f := fun n => if cls (F := Ideal) a2 a3 a4 (ix2 b n) = 0#32 then 0 else 1) (fun _ _ => Nat.zero_le _)
    (Finset.mem_univ (bestPrior (box a2 b) (prior a4) 0)))
  simp only [if_neg hp]
  exact le_rfl

end Classes

/-- The place the precondition reads: the last of the losses taken. -/
theorem last_at (cl : IVec S16x24564 32) (b : Fin 16) (h1 : 1 ≤ positives cl b) (n : Fin 24564) (hn : n.val = min (3 * positives cl b) 24564 - 1) :
    atLast (counts (positive cl)) (ix2 b n) = 1#1 := by
  have hr : atLast (counts (positive cl)) (ix2 b n)
      = IntOp.cmpi .eq (BitVec.ofNat 32 n.val) (IntOp.subi (IntOp.minsi (IntOp.muli 3#32 (counts (positive cl) (ix1 b))) 24564#32) 1#32) := by
    generalize counts (positive cl) = q
    pointwise [atLast]
  have hle := positives_le cl b
  have hm : IntOp.minsi (IntOp.muli 3#32 (counts (positive cl) (ix1 b))) 24564#32 = BitVec.ofNat 32 (min (3 * positives cl b) 24564) := by
    rw [counts_at, show IntOp.muli 3#32 (BitVec.ofNat 32 (positives cl b)) = BitVec.ofNat 32 (3 * positives cl b) from (BitVec.ofNat_mul ..).symm]
    refine BitVec.eq_of_toInt_eq ?_
    rw [toInt_minsi, toInt_small (a := 3 * positives cl b) (by omega), toInt_small (a := min (3 * positives cl b) 24564) (by omega),
      show (24564#32).toInt = 24564 from rfl]
    omega
  have hs : IntOp.subi (BitVec.ofNat 32 (min (3 * positives cl b) 24564)) 1#32 = BitVec.ofNat 32 n.val := by
    refine BitVec.eq_of_toNat_eq ?_
    show (BitVec.ofNat 32 (min (3 * positives cl b) 24564) - 1#32).toNat = _
    rw [BitVec.toNat_sub, BitVec.toNat_ofNat, BitVec.toNat_ofNat, BitVec.toNat_ofNat]
    omega
  rw [hr, hm, hs]
  simp [IntOp.cmpi]

end Cert.Stages

end
-- ==== Proof.KernelRun.lean ====
/- The kernel's run: what it leaves in its result, and that it leaves its arguments. -/
module

public import proofs.«01_k».proof.Proof.Region0
public import proofs.«01_k».proof.Proof.Region1
public import proofs.«01_k».proof.Proof.Region2
public import proofs.«01_k».proof.Proof.Last
public import proofs.«01_k».proof.Proof.Admit
public import Idealize.ShloMosaic.Lib.Claim

@[expose] public section

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Cert.Stages (positives taken negative hard conf dist total answer box prior)

variable (m : (ℓ : Loc nD τ sig) → Buf (Elt Ideal) ℓ) (ρ : Dev nD → PrngReg)

section Contents

variable (c : Dev nD)

abbrev A0 : FVec Ideal S16x24564x4 .f32 := m ((c.tc : Thread nD τ).loc main_arg0)
abbrev A1 : FVec Ideal S16x24564x81 .f32 := m ((c.tc : Thread nD τ).loc main_arg1)
abbrev A2 : FVec Ideal S16x16x4 .f32 := m ((c.tc : Thread nD τ).loc main_arg2)
abbrev A3 : IVec S16x16 32 := m ((c.tc : Thread nD τ).loc main_arg3)
abbrev A4 : FVec Ideal S24564x4 .f32 := m ((c.tc : Thread nD τ).loc main_arg4)

theorem boxes_in (b o : Fin 16) (k : Fin 4) : (V1 m ρ c main_arg2 : Vec Ideal S16x16x4 .f32) (ix3 b o k) = A2 m c (ix3 b o k) :=
  congrFun (W1_args m ρ c main_arg2 (by decide)) _

theorem priors_in (k : Fin 4) (n : Fin 24564) : (V1 m ρ c main_v0 : Vec Ideal S4x24564 .f32) (ix2 k n) = A4 m c (ix2 n k) := by
  have h : (V1 m ρ c main_v0 : Vec Ideal S4x24564 .f32) = transpose S4x24564 [1, 0] (A4 m c) transposes_S24564x4_S4x24564_1_0 := by
    show StableHlo.after hostOps0 (W0 m ρ c) (Proc.devRef .tc main_v0) = _
    after_reads_simp
  rw [h]
  pointwise []

theorem locs_in (b : Fin 16) (k : Fin 4) (n : Fin 24564) : (V1 m ρ c main_v1 : Vec Ideal S16x4x24564 .f32) (ix3 b k n) = A0 m c (ix3 b n k) := by
  have h : (V1 m ρ c main_v1 : Vec Ideal S16x4x24564 .f32) = transpose S16x4x24564 [0, 2, 1] (A0 m c) transposes_S16x24564x4_S16x4x24564_0_2_1 := by
    show StableHlo.after hostOps0 (W0 m ρ c) (Proc.devRef .tc main_v1) = _
    after_reads_simp
  rw [h]
  pointwise []

theorem boxes_t_in (b : Fin 16) (k : Fin 4) (o : Fin 16) : (V1 m ρ c main_v2 : Vec Ideal S16x4x16 .f32) (ix3 b k o) = A2 m c (ix3 b o k) := by
  have h : (V1 m ρ c main_v2 : Vec Ideal S16x4x16 .f32) = transpose S16x4x16 [0, 2, 1] (A2 m c) transposes_S16x16x4_S16x4x16_0_2_1 := by
    show StableHlo.after hostOps0 (W0 m ρ c) (Proc.devRef .tc main_v2) = _
    after_reads_simp
  rw [h]
  pointwise []

theorem labels_in (b o : Fin 16) : (V1 m ρ c main_v4 : Vec Ideal S16x1x16 .f32) (ix3 b (0 : Fin 1) o) = (((A3 m c (ix2 b o)).toInt : ℝ) : EReal) := by
  have h : (V1 m ρ c main_v4 : Vec Ideal S16x1x16 .f32) = (shapeCast S16x1x16 (sitofp .f32 (A3 m c) : FVec Ideal S16x16 .f32) shapeCasts_S16x16_S16x1x16 : FVec Ideal S16x1x16 .f32) := by
    show StableHlo.after hostOps0 (W0 m ρ c) (Proc.devRef .tc main_v4) = _
    after_reads_simp
    rfl
  rw [h]
  pointwise []
  rfl

theorem result_out : W6 m ρ c (Proc.devRef .tc main_v10) = fun _ : S_.Idx => ((dat2 (V4 m ρ) c).arrAt 3 cfg2.N : Vec Ideal S8x128 .f32) (ix2 (0 : Fin 8) (0 : Fin 128)) := by
  have h : W6 m ρ c (Proc.devRef .tc main_v10)
      = (shapeCast S_ (extractStridedSlice S1x1 ![0, 0] (W5 m ρ c (Proc.devRef .tc main_v8) : Vec Ideal S8x128 .f32) slices_S8x128_S1x1_0_0) shapeCasts_S1x1_S_ : Vec Ideal S_ .f32) := by
    show StableHlo.after hostOps3 (W5 m ρ c) (Proc.devRef .tc main_v10) = _
    after_reads_simp
    rfl
  have h8 : (W5 m ρ c (Proc.devRef .tc main_v8) : Vec Ideal S8x128 .f32) = (dat2 (V4 m ρ) c).arrAt 3 cfg2.N := W5_arr m ρ c 3
  rw [h, h8]
  generalize ((dat2 (V4 m ρ) c).arrAt 3 cfg2.N : Vec Ideal S8x128 .f32) = x
  funext i
  rw [ValueIdx.eq_ix0 i]
  pointwise []

theorem losses_in (b : Fin 16) (n : Fin 24564) : (V4 m ρ c main_v7 : Vec Ideal S16x24564 .f32) (ix2 b n)
    = ((dat1 (V2 m ρ) c).arrAt 2 cfg1.N : Vec Ideal S16x1x24564 .f32) (ix3 b (0 : Fin 1) n) := by
  have h : (V4 m ρ c main_v7 : Vec Ideal S16x24564 .f32)
      = (shapeCast S16x24564 (W3 m ρ c (Proc.devRef .tc main_v6_0) : Vec Ideal S16x1x24564 .f32) shapeCasts_S16x1x24564_S16x24564 : Vec Ideal S16x24564 .f32) := by
    show StableHlo.after hostOps2 (W3 m ρ c) (Proc.devRef .tc main_v7) = _
    after_reads_simp
    rfl
  have h6 : (W3 m ρ c (Proc.devRef .tc main_v6_0) : Vec Ideal S16x1x24564 .f32) = (dat1 (V2 m ρ) c).arrAt 2 cfg1.N := W3_arr m ρ c 2
  rw [h, h6]
  generalize ((dat1 (V2 m ρ) c).arrAt 2 cfg1.N : Vec Ideal S16x1x24564 .f32) = x
  pointwise []

theorem sums_in : (V4 m ρ c main_v5_1 : Vec Ideal S16x1x128 .f32) = (dat0 (V1 m ρ) c).arrAt 6 cfg0.N :=
  (W4_of m ρ c main_v5_1 (by decide)).trans ((W3_of m ρ c main_v5_1 (by decide +kernel)).trans (W2_arr m ρ c 6))

theorem totals_in : (V4 m ρ c main_v6_1 : Vec Ideal S16x1x128 .f32) = (dat1 (V2 m ρ) c).arrAt 3 cfg1.N :=
  (W4_of m ρ c main_v6_1 (by decide)).trans (W3_arr m ρ c 3)

theorem classes_in : (V2 m ρ c main_v5_0 : Vec Ideal S16x1x24564 .i32) = (dat0 (V1 m ρ) c).arrAt 5 cfg0.N := W2_arr m ρ c 5

theorem logits_in : (V2 m ρ c main_arg1 : Vec Ideal S16x24564x81 .f32) = A1 m c := W2_args m ρ c main_arg1 (by decide)

section Value

variable [Cert.Pre_admissible.Facts]

/-- The classes of the arguments. -/
abbrev cl : IVec S16x24564 32 := Stages.cls (F := Ideal) (A2 m c) (A3 m c) (A4 m c)

/-- The offsets to be learnt of the arguments. -/
abbrev offs : FVec Ideal S16x24564x4 .f32 := Stages.offsets (F := Ideal) Stages.images (A2 m c) (A4 m c) (Stages.objs (F := Ideal) (A2 m c) (A4 m c))

variable (hfin : Stages.finite (F := Ideal) (A1 m c) ix0 = 1#1) (hlab : Stages.labelled (A3 m c) ix0 = 1#1)
  (hadm : Stages.admitted (Stages.atLast (Stages.counts (Stages.positive (cl m c))))
    (Stages.parted (F := Ideal) (Stages.rank (A1 m c) (cl m c))) ix0 = 1#1)

include hfin hlab hadm

/-- Under the precondition the kernel leaves the reference's result. -/
theorem value : W6 m ρ c (Proc.devRef .tc main_v10) = Cert.ReferenceIdeal.Run.result (F := Ideal) (A0 m c) (A1 m c) (offs m c) (cl m c) := by
  obtain ⟨r, hx⟩ := Stages.reals (A1 m c) hfin
  have hcl : ∀ b n, (cl m c (ix2 b n)).toNat < 81 := Stages.cls_range (A2 m c) (A4 m c) (A3 m c) hlab
  have h1 : ∀ b, 1 ≤ positives (cl m c) b := Stages.positives_pos (A2 m c) (A4 m c) (A3 m c) hlab
  choose s σ hs hσ hrank using Stages.rank_at (A1 m c) r hx (cl m c) hcl
  have hclass : ∀ b n, cl m c (ix2 b n) = Spec.cls (box (A2 m c) b) (fun o => A3 m c (ix2 b o)) (prior (A4 m c)) n :=
    fun b n => Stages.cls_at (A2 m c) (A4 m c) (A3 m c) b n
  have h5 : ∀ b n, (V2 m ρ c main_v5_0 : Vec Ideal S16x1x24564 .i32) (ix3 b (0 : Fin 1) n) = cl m c (ix2 b n) := fun b n => by
    rw [classes_in, hclass]
    exact Region0.classes_at (V1 m ρ) c (A2 m c) (A3 m c) (A4 m c) (boxes_in m ρ c) (priors_in m ρ c) (labels_in m ρ c) b n
  have hl : ∀ b n k, (V2 m ρ c main_arg1 : Vec Ideal S16x24564x81 .f32) (ix3 b n k) = (r b n k : EReal) := fun b n k => by
    rw [logits_in]
    exact hx b n k
  have hw : ∀ b (n : Fin 24564), n.val = taken (cl m c) b - 1 → ∃ w : BitVec 32, w.toNat < Select.infWord ∧ Ideal.ofBits .f32 w ≤ (s b n : EReal)
      ∧ ∀ i : Fin 24564, taken (cl m c) b ≤ i.val → (s b i : EReal) ≤ Ideal.ofBits .f32 w := by
    intro b n hn
    obtain ⟨w, hw1, hw2, hw3⟩ := Stages.word_of _ _ hadm b n (Stages.last_at (cl m c) b (h1 b) n hn) (s b) (hs b) (hrank b) (by
      rw [hσ]
      exact Stages.negative_nonneg r (cl m c) b _)
    have ht : 0 < taken (cl m c) b := by have := h1 b; rw [taken]; omega
    exact ⟨w, hw1, hw2, fun i hi => hw3 i (by omega)⟩
  rw [result_out, Region2.final]
  funext i
  rw [ValueIdx.eq_ix0 i]
  refine Eq.trans ?_ (Stages.result_eq (A1 m c) r hx (cl m c) hcl (A0 m c) (offs m c) s hrank).symm
  refine Red.last_eq_answer (iblk2 (V4 m ρ) c 0 Region2.pt) (iblk2 (V4 m ρ) c 1 Region2.pt) (iblk2 (V4 m ρ) c 2 Region2.pt) (A0 m c) (offs m c) r (cl m c) s σ hs hσ h1 hw
    (fun b n => ?_) (fun b => ?_) (fun b => ?_) (fun b => ?_)
  · refine (Region2.losses_at (V4 m ρ) c Region2.pt b n).trans ?_
    rw [losses_in]
    refine (Region1.negatives_at (V2 m ρ) c r (fun b n => cl m c (ix2 b n)) hl h5 b n).trans ?_
    rw [negative]
    split <;> rfl
  · refine (Region2.sums_at (V4 m ρ) c Region2.pt b 0).trans ?_
    rw [sums_in, ← Red.sum_positives]
    refine (Region0.positives_at (V1 m ρ) c (A2 m c) (A3 m c) (A4 m c) (boxes_in m ρ c) (priors_in m ρ c) (labels_in m ρ c) b).trans ?_
    simp only [hclass]
  · refine (Region2.sums_at (V4 m ρ) c Region2.pt b 1).trans ?_
    rw [sums_in, Stages.dist]
    refine (Region0.distance_at (V1 m ρ) c (A0 m c) (A2 m c) (A3 m c) (A4 m c) (boxes_in m ρ c) (priors_in m ρ c) (locs_in m ρ c) (boxes_t_in m ρ c) (labels_in m ρ c) b).trans ?_
    simp only [hclass, offs, Stages.offsets_at]
  · refine (Region2.totals_at (V4 m ρ) c Region2.pt b 0).trans ?_
    rw [totals_in]
    exact Region1.total_at (V2 m ρ) c r (fun b n => cl m c (ix2 b n)) hl h5 hcl b

end Value

end Contents

set_option backward.isDefEq.respectTransparency.types false in
/-- The run leaves the result read off the last contents, and the arguments as they were. -/
theorem run : θ_run defs (onTc (τ := τ) (main (F := Ideal))) ⟨m, fun _ => 0, ρ⟩ (fun r => ∀ c : Dev nD,
      r.2.mem ((c.tc : Thread nD τ).loc main_v10) = W6 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v10 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_admissible
public import proofs.«01_k».proof.Proof.RefRun
public import proofs.«01_k».proof.Proof.RefValue
public import proofs.«01_k».proof.Proof.KernelRun
public import Idealize.ShloMosaic.Adequacy
public import Idealize.ShloMosaic.Init

@[expose] public section

noncomputable section

namespace Cert.Proof

open Idealize.ShloMosaic Idealize.SL.Sem Cert.Kernel

section

variable [Cert.Pre_admissible.Facts]

/-- The kernel and the reference, of the same admissible arguments, leave the same result. -/
theorem same (m : (ℓ : Loc Cert.KernelIdeal.nD Cert.KernelIdeal.τ Cert.KernelIdeal.sig) → Buf (Elt Ideal) ℓ) (ρ : Dev Cert.KernelIdeal.nD → PrngReg)
    (h : Pre_KernelIdeal_admissible m) (c : Dev Cert.KernelIdeal.nD) :
    Cert.KernelIdeal.Gen.W6 m ρ c (Proc.devRef .tc Cert.KernelIdeal.main_v10)
      = Cert.ReferenceIdeal.Run.result (F := Ideal) (Cert.KernelIdeal.Run.A0 m c) (Cert.KernelIdeal.Run.A1 m c) (Cert.KernelIdeal.Run.offs m c) (Cert.KernelIdeal.Run.cl m c) := by
  have h := h c
  rw [Cert.Stages.fn_eq] at h
  obtain ⟨h1, h2, h3⟩ := h
  dsimp only at h1 h2 h3
  refine Cert.KernelIdeal.Run.value m ρ c ?_ ?_ ?_
  · rw [h1]
  · rw [h2]
  · rw [h3]

/-- The reference's result, of contents that hold given arguments. -/
theorem reference_of (V : (b : DevRef Cert.ReferenceIdeal.τ Cert.ReferenceIdeal.sig) → b.ty.Contents (Elt Ideal)) (a0 : FVec Ideal Cert.ReferenceIdeal.S16x24564x4 .f32) (a1 : FVec Ideal Cert.ReferenceIdeal.S16x24564x81 .f32)
    (a2 : FVec Ideal Cert.ReferenceIdeal.S16x16x4 .f32) (a3 : IVec Cert.ReferenceIdeal.S16x16 32) (a4 : FVec Ideal Cert.ReferenceIdeal.S24564x4 .f32)
    (e0 : V (Proc.devRef .tc Cert.ReferenceIdeal.main_arg0) = a0) (e1 : V (Proc.devRef .tc Cert.ReferenceIdeal.main_arg1) = a1)
    (e2 : V (Proc.devRef .tc Cert.ReferenceIdeal.main_arg2) = a2) (e3 : V (Proc.devRef .tc Cert.ReferenceIdeal.main_arg3) = a3)
    (e4 : V (Proc.devRef .tc Cert.ReferenceIdeal.main_arg4) = a4) :
    StableHlo.after (Cert.ReferenceIdeal.Run.opsAll (F := Ideal)) V (Proc.devRef .tc Cert.ReferenceIdeal.main_v213)
      = Cert.ReferenceIdeal.Run.result (F := Ideal) a0 a1 (Cert.Stages.offsets Cert.Stages.images a2 a4 (Cert.Stages.objs a2 a4)) (Cert.Stages.cls a2 a3 a4) := by
  rw [Cert.ReferenceIdeal.Run.all_reads (F := Ideal) V, e0, e1, e2, e3, e4]

/-- The value claim. -/
theorem equal : algebraic_KernelIdeal_ReferenceIdeal_pre_admissible (hKernelIdeal := Cert.KernelIdeal.Gen.facts) (hReferenceIdeal := Cert.ReferenceIdeal.Gen.facts) := by
  intro m g m' g' hpre hagree
  refine ⟨fun c => Cert.ReferenceIdeal.Run.result (F := Ideal) (Cert.KernelIdeal.Run.A0 m c) (Cert.KernelIdeal.Run.A1 m c) (Cert.KernelIdeal.Run.offs m c) (Cert.KernelIdeal.Run.cl m c), ?_, ?_⟩
  · refine θ_run_mono (Cert.KernelIdeal.Run.run m g) fun r h c => ⟨(h c).1.trans (same m g hpre c), (h c).2⟩
  · refine θ_run_mono (Cert.ReferenceIdeal.Run.run m' g') fun r h c => ⟨?_, by
      simp only [h.1]
      exact Cert.ReferenceIdeal.Run.args_reads m' c⟩
    obtain ⟨e0, e1, e2, e3, e4⟩ := hagree c
    exact (h.1 c Cert.ReferenceIdeal.main_v213).trans (reference_of (StableHlo.launchContents m' c) _ _ _ _ _ e0 e1 e2 e3 e4)

end

/-- Every claim of the certificate. -/
theorem claim : Cert.Claim := ⟨Cert.Kernel.Gen.facts, Cert.KernelIdeal.Gen.facts, Cert.ReferenceIdeal.Gen.facts, Cert.Pre_admissible.Gen.facts,
  fun m g _ => Cert.Kernel.Gen.frame m g, fun m g _ => Cert.KernelIdeal.Gen.frame m g, fun m g _ => Cert.KernelIdeal.Gen.frame m g,
  Cert.ReferenceIdeal.Run.frame, fun m g _ => Cert.ReferenceIdeal.Run.frame m g True.intro, trivial,
  @equal Cert.Pre_admissible.Gen.facts⟩

end Cert.Proof

end
